-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_far [hPre_finite_and_far : Cert.Pre_finite_and_far.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_far.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_far [hPre_finite_and_far : Cert.Pre_finite_and_far.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_far.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_WindowedIdeal (m : (ℓ : Loc Cert.WindowedIdeal.nD Cert.WindowedIdeal.τ Cert.WindowedIdeal.sig) → Buf (Elt Ideal) ℓ) : Prop :=
  True

def Pre_WindowedIdeal_finite [hPre_finite : Cert.Pre_finite.Facts] (m : (ℓ : Loc Cert.WindowedIdeal.nD Cert.WindowedIdeal.τ Cert.WindowedIdeal.sig) → Buf (Elt Ideal) ℓ) : Prop :=
  ∀ c : Dev Cert.WindowedIdeal.nD,
    (Cert.Pre_finite.fn (F := Ideal) (m ((c.tc : Thread Cert.WindowedIdeal.nD Cert.WindowedIdeal.τ).loc Cert.WindowedIdeal.main_arg0)) (m ((c.tc : Thread Cert.WindowedIdeal.nD Cert.WindowedIdeal.τ).loc Cert.WindowedIdeal.main_arg1)) (m ((c.tc : Thread Cert.WindowedIdeal.nD Cert.WindowedIdeal.τ).loc Cert.WindowedIdeal.main_arg2))) = (fun _ => 1#1)

def Pre_FoxProj (m : (ℓ : Loc Cert.FoxProj.nD Cert.FoxProj.τ Cert.FoxProj.sig) → Buf (Elt Bits) ℓ) : Prop :=
  True

def Pre_FoxProjIdeal (m : (ℓ : Loc Cert.FoxProjIdeal.nD Cert.FoxProjIdeal.τ Cert.FoxProjIdeal.sig) → Buf (Elt Ideal) ℓ) : Prop :=
  True

def Pre_FoxProjectedIdeal (m : (ℓ : Loc Cert.FoxProjectedIdeal.nD Cert.FoxProjectedIdeal.τ Cert.FoxProjectedIdeal.sig) → Buf (Elt Ideal) ℓ) : Prop :=
  True

def Pre_SbProj (m : (ℓ : Loc Cert.SbProj.nD Cert.SbProj.τ Cert.SbProj.sig) → Buf (Elt Bits) ℓ) : Prop :=
  True

def Pre_SbProjIdeal (m : (ℓ : Loc Cert.SbProjIdeal.nD Cert.SbProjIdeal.τ Cert.SbProjIdeal.sig) → Buf (Elt Ideal) ℓ) : Prop :=
  True

def Pre_SbProjectedIdeal (m : (ℓ : Loc Cert.SbProjectedIdeal.nD Cert.SbProjectedIdeal.τ Cert.SbProjectedIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_NormedIdeal (m : (ℓ : Loc Cert.NormedIdeal.nD Cert.NormedIdeal.τ Cert.NormedIdeal.sig) → Buf (Elt Ideal) ℓ) : Prop :=
  True

def Pre_SbMix (m : (ℓ : Loc Cert.SbMix.nD Cert.SbMix.τ Cert.SbMix.sig) → Buf (Elt Bits) ℓ) : Prop :=
  True

def Pre_SbMixIdeal (m : (ℓ : Loc Cert.SbMixIdeal.nD Cert.SbMixIdeal.τ Cert.SbMixIdeal.sig) → Buf (Elt Ideal) ℓ) : Prop :=
  True

def Pre_SbMixedIdeal (m : (ℓ : Loc Cert.SbMixedIdeal.nD Cert.SbMixedIdeal.τ Cert.SbMixedIdeal.sig) → Buf (Elt Ideal) ℓ) : Prop :=
  True

def Pre_FoxOutNorm (m : (ℓ : Loc Cert.FoxOutNorm.nD Cert.FoxOutNorm.τ Cert.FoxOutNorm.sig) → Buf (Elt Bits) ℓ) : Prop :=
  True

def Pre_FoxOutNormIdeal (m : (ℓ : Loc Cert.FoxOutNormIdeal.nD Cert.FoxOutNormIdeal.τ Cert.FoxOutNormIdeal.sig) → Buf (Elt Ideal) ℓ) : Prop :=
  True

def Pre_FoxNormedIdeal (m : (ℓ : Loc Cert.FoxNormedIdeal.nD Cert.FoxNormedIdeal.τ Cert.FoxNormedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_far [hKernelIdeal : Cert.KernelIdeal.Facts] [hPre_finite_and_far : Cert.Pre_finite_and_far.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_far m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_far [hReferenceIdeal : Cert.ReferenceIdeal.Facts] [hPre_finite_and_far : Cert.Pre_finite_and_far.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_far m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_WindowedIdeal [hWindowedIdeal : Cert.WindowedIdeal.Facts] : Prop :=
  ∀ (m : (ℓ : Loc Cert.WindowedIdeal.nD Cert.WindowedIdeal.τ Cert.WindowedIdeal.sig) → Buf (Elt Ideal) ℓ) (g : Dev Cert.WindowedIdeal.nD → PrngReg), Pre_WindowedIdeal m →
    θ_run (Cert.WindowedIdeal.defs (F := Ideal)) (onTc (τ := Cert.WindowedIdeal.τ) (Cert.WindowedIdeal.main (F := Ideal))) ⟨m, fun _ => 0, g⟩ (fun r => (∀ c : Dev Cert.WindowedIdeal.nD,
      r.2.mem ((c.tc : Thread Cert.WindowedIdeal.nD Cert.WindowedIdeal.τ).loc Cert.WindowedIdeal.main_arg0) = m ((c.tc : Thread Cert.WindowedIdeal.nD Cert.WindowedIdeal.τ).loc Cert.WindowedIdeal.main_arg0)
      ∧ r.2.mem ((c.tc : Thread Cert.WindowedIdeal.nD Cert.WindowedIdeal.τ).loc Cert.WindowedIdeal.main_arg1) = m ((c.tc : Thread Cert.WindowedIdeal.nD Cert.WindowedIdeal.τ).loc Cert.WindowedIdeal.main_arg1)
      ∧ r.2.mem ((c.tc : Thread Cert.WindowedIdeal.nD Cert.WindowedIdeal.τ).loc Cert.WindowedIdeal.main_arg2) = m ((c.tc : Thread Cert.WindowedIdeal.nD Cert.WindowedIdeal.τ).loc Cert.WindowedIdeal.main_arg2))
      ∧ r.2.sem = fun _ => 0)

def quiescent_WindowedIdeal_pre_finite [hWindowedIdeal : Cert.WindowedIdeal.Facts] [hPre_finite : Cert.Pre_finite.Facts] : Prop :=
  ∀ (m : (ℓ : Loc Cert.WindowedIdeal.nD Cert.WindowedIdeal.τ Cert.WindowedIdeal.sig) → Buf (Elt Ideal) ℓ) (g : Dev Cert.WindowedIdeal.nD → PrngReg), Pre_WindowedIdeal_finite m →
    θ_run (Cert.WindowedIdeal.defs (F := Ideal)) (onTc (τ := Cert.WindowedIdeal.τ) (Cert.WindowedIdeal.main (F := Ideal))) ⟨m, fun _ => 0, g⟩ (fun r => (∀ c : Dev Cert.WindowedIdeal.nD,
      r.2.mem ((c.tc : Thread Cert.WindowedIdeal.nD Cert.WindowedIdeal.τ).loc Cert.WindowedIdeal.main_arg0) = m ((c.tc : Thread Cert.WindowedIdeal.nD Cert.WindowedIdeal.τ).loc Cert.WindowedIdeal.main_arg0)
      ∧ r.2.mem ((c.tc : Thread Cert.WindowedIdeal.nD Cert.WindowedIdeal.τ).loc Cert.WindowedIdeal.main_arg1) = m ((c.tc : Thread Cert.WindowedIdeal.nD Cert.WindowedIdeal.τ).loc Cert.WindowedIdeal.main_arg1)
      ∧ r.2.mem ((c.tc : Thread Cert.WindowedIdeal.nD Cert.WindowedIdeal.τ).loc Cert.WindowedIdeal.main_arg2) = m ((c.tc : Thread Cert.WindowedIdeal.nD Cert.WindowedIdeal.τ).loc Cert.WindowedIdeal.main_arg2))
      ∧ r.2.sem = fun _ => 0)

def quiescent_FoxProj [hFoxProj : Cert.FoxProj.Facts] : Prop :=
  ∀ (m : (ℓ : Loc Cert.FoxProj.nD Cert.FoxProj.τ Cert.FoxProj.sig) → Buf (Elt Bits) ℓ) (g : Dev Cert.FoxProj.nD → PrngReg), Pre_FoxProj m →
    θ_run (Cert.FoxProj.defs (F := Bits)) (onTc (τ := Cert.FoxProj.τ) (Cert.FoxProj.main (F := Bits))) ⟨m, fun _ => 0, g⟩ (fun r => (∀ c : Dev Cert.FoxProj.nD,
      r.2.mem ((c.tc : Thread Cert.FoxProj.nD Cert.FoxProj.τ).loc Cert.FoxProj.main_arg0) = m ((c.tc : Thread Cert.FoxProj.nD Cert.FoxProj.τ).loc Cert.FoxProj.main_arg0)
      ∧ r.2.mem ((c.tc : Thread Cert.FoxProj.nD Cert.FoxProj.τ).loc Cert.FoxProj.main_arg1) = m ((c.tc : Thread Cert.FoxProj.nD Cert.FoxProj.τ).loc Cert.FoxProj.main_arg1))
      ∧ r.2.sem = fun _ => 0)

def quiescent_FoxProjIdeal [hFoxProjIdeal : Cert.FoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg), Pre_FoxProjIdeal m →
    θ_run (Cert.FoxProjIdeal.defs (F := Ideal)) (onTc (τ := Cert.FoxProjIdeal.τ) (Cert.FoxProjIdeal.main (F := Ideal))) ⟨m, fun _ => 0, g⟩ (fun r => (∀ c : Dev Cert.FoxProjIdeal.nD,
      r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
      ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1))
      ∧ r.2.sem = fun _ => 0)

def quiescent_FoxProjectedIdeal [hFoxProjectedIdeal : Cert.FoxProjectedIdeal.Facts] : Prop :=
  ∀ (m : (ℓ : Loc Cert.FoxProjectedIdeal.nD Cert.FoxProjectedIdeal.τ Cert.FoxProjectedIdeal.sig) → Buf (Elt Ideal) ℓ) (g : Dev Cert.FoxProjectedIdeal.nD → PrngReg), Pre_FoxProjectedIdeal m →
    θ_run (Cert.FoxProjectedIdeal.defs (F := Ideal)) (onTc (τ := Cert.FoxProjectedIdeal.τ) (Cert.FoxProjectedIdeal.main (F := Ideal))) ⟨m, fun _ => 0, g⟩ (fun r => (∀ c : Dev Cert.FoxProjectedIdeal.nD,
      r.2.mem ((c.tc : Thread Cert.FoxProjectedIdeal.nD Cert.FoxProjectedIdeal.τ).loc Cert.FoxProjectedIdeal.main_arg0) = m ((c.tc : Thread Cert.FoxProjectedIdeal.nD Cert.FoxProjectedIdeal.τ).loc Cert.FoxProjectedIdeal.main_arg0)
      ∧ r.2.mem ((c.tc : Thread Cert.FoxProjectedIdeal.nD Cert.FoxProjectedIdeal.τ).loc Cert.FoxProjectedIdeal.main_arg1) = m ((c.tc : Thread Cert.FoxProjectedIdeal.nD Cert.FoxProjectedIdeal.τ).loc Cert.FoxProjectedIdeal.main_arg1))
      ∧ r.2.sem = fun _ => 0)

def quiescent_SbProj [hSbProj : Cert.SbProj.Facts] : Prop :=
  ∀ (m : (ℓ : Loc Cert.SbProj.nD Cert.SbProj.τ Cert.SbProj.sig) → Buf (Elt Bits) ℓ) (g : Dev Cert.SbProj.nD → PrngReg), Pre_SbProj m →
    θ_run (Cert.SbProj.defs (F := Bits)) (onTc (τ := Cert.SbProj.τ) (Cert.SbProj.main (F := Bits))) ⟨m, fun _ => 0, g⟩ (fun r => (∀ c : Dev Cert.SbProj.nD,
      r.2.mem ((c.tc : Thread Cert.SbProj.nD Cert.SbProj.τ).loc Cert.SbProj.main_arg0) = m ((c.tc : Thread Cert.SbProj.nD Cert.SbProj.τ).loc Cert.SbProj.main_arg0)
      ∧ r.2.mem ((c.tc : Thread Cert.SbProj.nD Cert.SbProj.τ).loc Cert.SbProj.main_arg1) = m ((c.tc : Thread Cert.SbProj.nD Cert.SbProj.τ).loc Cert.SbProj.main_arg1))
      ∧ r.2.sem = fun _ => 0)

def quiescent_SbProjIdeal [hSbProjIdeal : Cert.SbProjIdeal.Facts] : Prop :=
  ∀ (m : (ℓ : Loc Cert.SbProjIdeal.nD Cert.SbProjIdeal.τ Cert.SbProjIdeal.sig) → Buf (Elt Ideal) ℓ) (g : Dev Cert.SbProjIdeal.nD → PrngReg), Pre_SbProjIdeal m →
    θ_run (Cert.SbProjIdeal.defs (F := Ideal)) (onTc (τ := Cert.SbProjIdeal.τ) (Cert.SbProjIdeal.main (F := Ideal))) ⟨m, fun _ => 0, g⟩ (fun r => (∀ c : Dev Cert.SbProjIdeal.nD,
      r.2.mem ((c.tc : Thread Cert.SbProjIdeal.nD Cert.SbProjIdeal.τ).loc Cert.SbProjIdeal.main_arg0) = m ((c.tc : Thread Cert.SbProjIdeal.nD Cert.SbProjIdeal.τ).loc Cert.SbProjIdeal.main_arg0)
      ∧ r.2.mem ((c.tc : Thread Cert.SbProjIdeal.nD Cert.SbProjIdeal.τ).loc Cert.SbProjIdeal.main_arg1) = m ((c.tc : Thread Cert.SbProjIdeal.nD Cert.SbProjIdeal.τ).loc Cert.SbProjIdeal.main_arg1))
      ∧ r.2.sem = fun _ => 0)

def quiescent_SbProjectedIdeal [hSbProjectedIdeal : Cert.SbProjectedIdeal.Facts] : Prop :=
  ∀ (m : (ℓ : Loc Cert.SbProjectedIdeal.nD Cert.SbProjectedIdeal.τ Cert.SbProjectedIdeal.sig) → Buf (Elt Ideal) ℓ) (g : Dev Cert.SbProjectedIdeal.nD → PrngReg), Pre_SbProjectedIdeal m →
    θ_run (Cert.SbProjectedIdeal.defs (F := Ideal)) (onTc (τ := Cert.SbProjectedIdeal.τ) (Cert.SbProjectedIdeal.main (F := Ideal))) ⟨m, fun _ => 0, g⟩ (fun r => (∀ c : Dev Cert.SbProjectedIdeal.nD,
      r.2.mem ((c.tc : Thread Cert.SbProjectedIdeal.nD Cert.SbProjectedIdeal.τ).loc Cert.SbProjectedIdeal.main_arg0) = m ((c.tc : Thread Cert.SbProjectedIdeal.nD Cert.SbProjectedIdeal.τ).loc Cert.SbProjectedIdeal.main_arg0)
      ∧ r.2.mem ((c.tc : Thread Cert.SbProjectedIdeal.nD Cert.SbProjectedIdeal.τ).loc Cert.SbProjectedIdeal.main_arg1) = m ((c.tc : Thread Cert.SbProjectedIdeal.nD Cert.SbProjectedIdeal.τ).loc Cert.SbProjectedIdeal.main_arg1))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3)
      ∧ r.2.mem ((c.tc : Thread Cert.OutNorm.nD Cert.OutNorm.τ).loc Cert.OutNorm.main_arg4) = m ((c.tc : Thread Cert.OutNorm.nD Cert.OutNorm.τ).loc Cert.OutNorm.main_arg4))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
      ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4))
      ∧ r.2.sem = fun _ => 0)

def quiescent_NormedIdeal [hNormedIdeal : Cert.NormedIdeal.Facts] : Prop :=
  ∀ (m : (ℓ : Loc Cert.NormedIdeal.nD Cert.NormedIdeal.τ Cert.NormedIdeal.sig) → Buf (Elt Ideal) ℓ) (g : Dev Cert.NormedIdeal.nD → PrngReg), Pre_NormedIdeal m →
    θ_run (Cert.NormedIdeal.defs (F := Ideal)) (onTc (τ := Cert.NormedIdeal.τ) (Cert.NormedIdeal.main (F := Ideal))) ⟨m, fun _ => 0, g⟩ (fun r => (∀ c : Dev Cert.NormedIdeal.nD,
      r.2.mem ((c.tc : Thread Cert.NormedIdeal.nD Cert.NormedIdeal.τ).loc Cert.NormedIdeal.main_arg0) = m ((c.tc : Thread Cert.NormedIdeal.nD Cert.NormedIdeal.τ).loc Cert.NormedIdeal.main_arg0)
      ∧ r.2.mem ((c.tc : Thread Cert.NormedIdeal.nD Cert.NormedIdeal.τ).loc Cert.NormedIdeal.main_arg1) = m ((c.tc : Thread Cert.NormedIdeal.nD Cert.NormedIdeal.τ).loc Cert.NormedIdeal.main_arg1)
      ∧ r.2.mem ((c.tc : Thread Cert.NormedIdeal.nD Cert.NormedIdeal.τ).loc Cert.NormedIdeal.main_arg2) = m ((c.tc : Thread Cert.NormedIdeal.nD Cert.NormedIdeal.τ).loc Cert.NormedIdeal.main_arg2)
      ∧ r.2.mem ((c.tc : Thread Cert.NormedIdeal.nD Cert.NormedIdeal.τ).loc Cert.NormedIdeal.main_arg3) = m ((c.tc : Thread Cert.NormedIdeal.nD Cert.NormedIdeal.τ).loc Cert.NormedIdeal.main_arg3)
      ∧ r.2.mem ((c.tc : Thread Cert.NormedIdeal.nD Cert.NormedIdeal.τ).loc Cert.NormedIdeal.main_arg4) = m ((c.tc : Thread Cert.NormedIdeal.nD Cert.NormedIdeal.τ).loc Cert.NormedIdeal.main_arg4))
      ∧ r.2.sem = fun _ => 0)

def quiescent_SbMix [hSbMix : Cert.SbMix.Facts] : Prop :=
  ∀ (m : (ℓ : Loc Cert.SbMix.nD Cert.SbMix.τ Cert.SbMix.sig) → Buf (Elt Bits) ℓ) (g : Dev Cert.SbMix.nD → PrngReg), Pre_SbMix m →
    θ_run (Cert.SbMix.defs (F := Bits)) (onTc (τ := Cert.SbMix.τ) (Cert.SbMix.main (F := Bits))) ⟨m, fun _ => 0, g⟩ (fun r => (∀ c : Dev Cert.SbMix.nD,
      r.2.mem ((c.tc : Thread Cert.SbMix.nD Cert.SbMix.τ).loc Cert.SbMix.main_arg0) = m ((c.tc : Thread Cert.SbMix.nD Cert.SbMix.τ).loc Cert.SbMix.main_arg0))
      ∧ r.2.sem = fun _ => 0)

def quiescent_SbMixIdeal [hSbMixIdeal : Cert.SbMixIdeal.Facts] : Prop :=
  ∀ (m : (ℓ : Loc Cert.SbMixIdeal.nD Cert.SbMixIdeal.τ Cert.SbMixIdeal.sig) → Buf (Elt Ideal) ℓ) (g : Dev Cert.SbMixIdeal.nD → PrngReg), Pre_SbMixIdeal m →
    θ_run (Cert.SbMixIdeal.defs (F := Ideal)) (onTc (τ := Cert.SbMixIdeal.τ) (Cert.SbMixIdeal.main (F := Ideal))) ⟨m, fun _ => 0, g⟩ (fun r => (∀ c : Dev Cert.SbMixIdeal.nD,
      r.2.mem ((c.tc : Thread Cert.SbMixIdeal.nD Cert.SbMixIdeal.τ).loc Cert.SbMixIdeal.main_arg0) = m ((c.tc : Thread Cert.SbMixIdeal.nD Cert.SbMixIdeal.τ).loc Cert.SbMixIdeal.main_arg0))
      ∧ r.2.sem = fun _ => 0)

def quiescent_SbMixedIdeal [hSbMixedIdeal : Cert.SbMixedIdeal.Facts] : Prop :=
  ∀ (m : (ℓ : Loc Cert.SbMixedIdeal.nD Cert.SbMixedIdeal.τ Cert.SbMixedIdeal.sig) → Buf (Elt Ideal) ℓ) (g : Dev Cert.SbMixedIdeal.nD → PrngReg), Pre_SbMixedIdeal m →
    θ_run (Cert.SbMixedIdeal.defs (F := Ideal)) (onTc (τ := Cert.SbMixedIdeal.τ) (Cert.SbMixedIdeal.main (F := Ideal))) ⟨m, fun _ => 0, g⟩ (fun r => (∀ c : Dev Cert.SbMixedIdeal.nD,
      r.2.mem ((c.tc : Thread Cert.SbMixedIdeal.nD Cert.SbMixedIdeal.τ).loc Cert.SbMixedIdeal.main_arg0) = m ((c.tc : Thread Cert.SbMixedIdeal.nD Cert.SbMixedIdeal.τ).loc Cert.SbMixedIdeal.main_arg0))
      ∧ r.2.sem = fun _ => 0)

def quiescent_FoxOutNorm [hFoxOutNorm : Cert.FoxOutNorm.Facts] : Prop :=
  ∀ (m : (ℓ : Loc Cert.FoxOutNorm.nD Cert.FoxOutNorm.τ Cert.FoxOutNorm.sig) → Buf (Elt Bits) ℓ) (g : Dev Cert.FoxOutNorm.nD → PrngReg), Pre_FoxOutNorm m →
    θ_run (Cert.FoxOutNorm.defs (F := Bits)) (onTc (τ := Cert.FoxOutNorm.τ) (Cert.FoxOutNorm.main (F := Bits))) ⟨m, fun _ => 0, g⟩ (fun r => (∀ c : Dev Cert.FoxOutNorm.nD,
      r.2.mem ((c.tc : Thread Cert.FoxOutNorm.nD Cert.FoxOutNorm.τ).loc Cert.FoxOutNorm.main_arg0) = m ((c.tc : Thread Cert.FoxOutNorm.nD Cert.FoxOutNorm.τ).loc Cert.FoxOutNorm.main_arg0)
      ∧ r.2.mem ((c.tc : Thread Cert.FoxOutNorm.nD Cert.FoxOutNorm.τ).loc Cert.FoxOutNorm.main_arg1) = m ((c.tc : Thread Cert.FoxOutNorm.nD Cert.FoxOutNorm.τ).loc Cert.FoxOutNorm.main_arg1)
      ∧ r.2.mem ((c.tc : Thread Cert.FoxOutNorm.nD Cert.FoxOutNorm.τ).loc Cert.FoxOutNorm.main_arg2) = m ((c.tc : Thread Cert.FoxOutNorm.nD Cert.FoxOutNorm.τ).loc Cert.FoxOutNorm.main_arg2)
      ∧ r.2.mem ((c.tc : Thread Cert.FoxOutNorm.nD Cert.FoxOutNorm.τ).loc Cert.FoxOutNorm.main_arg3) = m ((c.tc : Thread Cert.FoxOutNorm.nD Cert.FoxOutNorm.τ).loc Cert.FoxOutNorm.main_arg3)
      ∧ r.2.mem ((c.tc : Thread Cert.FoxOutNorm.nD Cert.FoxOutNorm.τ).loc Cert.FoxOutNorm.main_arg4) = m ((c.tc : Thread Cert.FoxOutNorm.nD Cert.FoxOutNorm.τ).loc Cert.FoxOutNorm.main_arg4))
      ∧ r.2.sem = fun _ => 0)

def quiescent_FoxOutNormIdeal [hFoxOutNormIdeal : Cert.FoxOutNormIdeal.Facts] : Prop :=
  ∀ (m : (ℓ : Loc Cert.FoxOutNormIdeal.nD Cert.FoxOutNormIdeal.τ Cert.FoxOutNormIdeal.sig) → Buf (Elt Ideal) ℓ) (g : Dev Cert.FoxOutNormIdeal.nD → PrngReg), Pre_FoxOutNormIdeal m →
    θ_run (Cert.FoxOutNormIdeal.defs (F := Ideal)) (onTc (τ := Cert.FoxOutNormIdeal.τ) (Cert.FoxOutNormIdeal.main (F := Ideal))) ⟨m, fun _ => 0, g⟩ (fun r => (∀ c : Dev Cert.FoxOutNormIdeal.nD,
      r.2.mem ((c.tc : Thread Cert.FoxOutNormIdeal.nD Cert.FoxOutNormIdeal.τ).loc Cert.FoxOutNormIdeal.main_arg0) = m ((c.tc : Thread Cert.FoxOutNormIdeal.nD Cert.FoxOutNormIdeal.τ).loc Cert.FoxOutNormIdeal.main_arg0)
      ∧ r.2.mem ((c.tc : Thread Cert.FoxOutNormIdeal.nD Cert.FoxOutNormIdeal.τ).loc Cert.FoxOutNormIdeal.main_arg1) = m ((c.tc : Thread Cert.FoxOutNormIdeal.nD Cert.FoxOutNormIdeal.τ).loc Cert.FoxOutNormIdeal.main_arg1)
      ∧ r.2.mem ((c.tc : Thread Cert.FoxOutNormIdeal.nD Cert.FoxOutNormIdeal.τ).loc Cert.FoxOutNormIdeal.main_arg2) = m ((c.tc : Thread Cert.FoxOutNormIdeal.nD Cert.FoxOutNormIdeal.τ).loc Cert.FoxOutNormIdeal.main_arg2)
      ∧ r.2.mem ((c.tc : Thread Cert.FoxOutNormIdeal.nD Cert.FoxOutNormIdeal.τ).loc Cert.FoxOutNormIdeal.main_arg3) = m ((c.tc : Thread Cert.FoxOutNormIdeal.nD Cert.FoxOutNormIdeal.τ).loc Cert.FoxOutNormIdeal.main_arg3)
      ∧ r.2.mem ((c.tc : Thread Cert.FoxOutNormIdeal.nD Cert.FoxOutNormIdeal.τ).loc Cert.FoxOutNormIdeal.main_arg4) = m ((c.tc : Thread Cert.FoxOutNormIdeal.nD Cert.FoxOutNormIdeal.τ).loc Cert.FoxOutNormIdeal.main_arg4))
      ∧ r.2.sem = fun _ => 0)

def quiescent_FoxNormedIdeal [hFoxNormedIdeal : Cert.FoxNormedIdeal.Facts] : Prop :=
  ∀ (m : (ℓ : Loc Cert.FoxNormedIdeal.nD Cert.FoxNormedIdeal.τ Cert.FoxNormedIdeal.sig) → Buf (Elt Ideal) ℓ) (g : Dev Cert.FoxNormedIdeal.nD → PrngReg), Pre_FoxNormedIdeal m →
    θ_run (Cert.FoxNormedIdeal.defs (F := Ideal)) (onTc (τ := Cert.FoxNormedIdeal.τ) (Cert.FoxNormedIdeal.main (F := Ideal))) ⟨m, fun _ => 0, g⟩ (fun r => (∀ c : Dev Cert.FoxNormedIdeal.nD,
      r.2.mem ((c.tc : Thread Cert.FoxNormedIdeal.nD Cert.FoxNormedIdeal.τ).loc Cert.FoxNormedIdeal.main_arg0) = m ((c.tc : Thread Cert.FoxNormedIdeal.nD Cert.FoxNormedIdeal.τ).loc Cert.FoxNormedIdeal.main_arg0)
      ∧ r.2.mem ((c.tc : Thread Cert.FoxNormedIdeal.nD Cert.FoxNormedIdeal.τ).loc Cert.FoxNormedIdeal.main_arg1) = m ((c.tc : Thread Cert.FoxNormedIdeal.nD Cert.FoxNormedIdeal.τ).loc Cert.FoxNormedIdeal.main_arg1)
      ∧ r.2.mem ((c.tc : Thread Cert.FoxNormedIdeal.nD Cert.FoxNormedIdeal.τ).loc Cert.FoxNormedIdeal.main_arg2) = m ((c.tc : Thread Cert.FoxNormedIdeal.nD Cert.FoxNormedIdeal.τ).loc Cert.FoxNormedIdeal.main_arg2)
      ∧ r.2.mem ((c.tc : Thread Cert.FoxNormedIdeal.nD Cert.FoxNormedIdeal.τ).loc Cert.FoxNormedIdeal.main_arg3) = m ((c.tc : Thread Cert.FoxNormedIdeal.nD Cert.FoxNormedIdeal.τ).loc Cert.FoxNormedIdeal.main_arg3)
      ∧ r.2.mem ((c.tc : Thread Cert.FoxNormedIdeal.nD Cert.FoxNormedIdeal.τ).loc Cert.FoxNormedIdeal.main_arg4) = m ((c.tc : Thread Cert.FoxNormedIdeal.nD Cert.FoxNormedIdeal.τ).loc Cert.FoxNormedIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_and_far [hKernelIdeal : Cert.KernelIdeal.Facts] [hReferenceIdeal : Cert.ReferenceIdeal.Facts] [hPre_finite_and_far : Cert.Pre_finite_and_far.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_far m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_WindowedIdeal_pre_finite [hKernelIdeal : Cert.KernelIdeal.Facts] [hWindowedIdeal : Cert.WindowedIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.WindowedIdeal.nD Cert.WindowedIdeal.τ Cert.WindowedIdeal.sig) → Buf (Elt Ideal) ℓ) (g' : Dev Cert.WindowedIdeal.nD → PrngReg), Pre_KernelIdeal_finite m →
    (∀ c : Dev Cert.KernelIdeal.nD,
      m' ((c.tc : Thread Cert.WindowedIdeal.nD Cert.WindowedIdeal.τ).loc Cert.WindowedIdeal.main_arg0) = m ((c.tc : Thread Cert.KernelIdeal.nD Cert.KernelIdeal.τ).loc Cert.KernelIdeal.main_arg0)
      ∧ m' ((c.tc : Thread Cert.WindowedIdeal.nD Cert.WindowedIdeal.τ).loc Cert.WindowedIdeal.main_arg1) = m ((c.tc : Thread Cert.KernelIdeal.nD Cert.KernelIdeal.τ).loc Cert.KernelIdeal.main_arg1)
      ∧ m' ((c.tc : Thread Cert.WindowedIdeal.nD Cert.WindowedIdeal.τ).loc Cert.WindowedIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.WindowedIdeal.defs (F := Ideal)) (onTc (τ := Cert.WindowedIdeal.τ) (Cert.WindowedIdeal.main (F := Ideal))) ⟨m', fun _ => 0, g'⟩ (fun r => ∀ c : Dev Cert.WindowedIdeal.nD,
          r.2.mem ((c.tc : Thread Cert.WindowedIdeal.nD Cert.WindowedIdeal.τ).loc Cert.WindowedIdeal.main_v63) = v0 c
          ∧ r.2.mem ((c.tc : Thread Cert.WindowedIdeal.nD Cert.WindowedIdeal.τ).loc Cert.WindowedIdeal.main_arg0) = m' ((c.tc : Thread Cert.WindowedIdeal.nD Cert.WindowedIdeal.τ).loc Cert.WindowedIdeal.main_arg0)
          ∧ r.2.mem ((c.tc : Thread Cert.WindowedIdeal.nD Cert.WindowedIdeal.τ).loc Cert.WindowedIdeal.main_arg1) = m' ((c.tc : Thread Cert.WindowedIdeal.nD Cert.WindowedIdeal.τ).loc Cert.WindowedIdeal.main_arg1)
          ∧ r.2.mem ((c.tc : Thread Cert.WindowedIdeal.nD Cert.WindowedIdeal.τ).loc Cert.WindowedIdeal.main_arg2) = m' ((c.tc : Thread Cert.WindowedIdeal.nD Cert.WindowedIdeal.τ).loc Cert.WindowedIdeal.main_arg2))

def preserves_FoxProj_FoxProjIdeal : Prop :=
  IdealRules.named_const.Statement Cert.FoxProjIdeal.κ "qscale" .f32 0x3E0293EE#32 (((Real.sqrt 128)⁻¹ * (Real.log 2)⁻¹ : ℝ) : EReal)

def algebraic_FoxProjIdeal_FoxProjectedIdeal [hFoxProjIdeal : Cert.FoxProjIdeal.Facts] [hFoxProjectedIdeal : Cert.FoxProjectedIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg)
    (m' : (ℓ : Loc Cert.FoxProjectedIdeal.nD Cert.FoxProjectedIdeal.τ Cert.FoxProjectedIdeal.sig) → Buf (Elt Ideal) ℓ) (g' : Dev Cert.FoxProjectedIdeal.nD → PrngReg), Pre_FoxProjIdeal m →
    (∀ c : Dev Cert.FoxProjIdeal.nD,
      m' ((c.tc : Thread Cert.FoxProjectedIdeal.nD Cert.FoxProjectedIdeal.τ).loc Cert.FoxProjectedIdeal.main_arg0) = m ((c.tc : Thread Cert.FoxProjIdeal.nD Cert.FoxProjIdeal.τ).loc Cert.FoxProjIdeal.main_arg0)
      ∧ m' ((c.tc : Thread Cert.FoxProjectedIdeal.nD Cert.FoxProjectedIdeal.τ).loc Cert.FoxProjectedIdeal.main_arg1) = m ((c.tc : Thread Cert.FoxProjIdeal.nD Cert.FoxProjIdeal.τ).loc Cert.FoxProjIdeal.main_arg1)) →
    ∃ (v0 : (c : Dev Cert.FoxProjIdeal.nD) → Buf (Elt Ideal) ((c.tc : Thread Cert.FoxProjIdeal.nD Cert.FoxProjIdeal.τ).loc Cert.FoxProjIdeal.main_v1_0)),
      θ_run (Cert.FoxProjIdeal.defs (F := Ideal)) (onTc (τ := Cert.FoxProjIdeal.τ) (Cert.FoxProjIdeal.main (F := Ideal))) ⟨m, fun _ => 0, g⟩ (fun r => ∀ c : Dev Cert.FoxProjIdeal.nD,
          r.2.mem ((c.tc : Thread Cert.FoxProjIdeal.nD Cert.FoxProjIdeal.τ).loc Cert.FoxProjIdeal.main_v1_0) = v0 c
          ∧ r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
          ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1))
      ∧ θ_run (Cert.FoxProjectedIdeal.defs (F := Ideal)) (onTc (τ := Cert.FoxProjectedIdeal.τ) (Cert.FoxProjectedIdeal.main (F := Ideal))) ⟨m', fun _ => 0, g'⟩ (fun r => ∀ c : Dev Cert.FoxProjectedIdeal.nD,
          r.2.mem ((c.tc : Thread Cert.FoxProjectedIdeal.nD Cert.FoxProjectedIdeal.τ).loc Cert.FoxProjectedIdeal.main_v26) = v0 c
          ∧ r.2.mem ((c.tc : Thread Cert.FoxProjectedIdeal.nD Cert.FoxProjectedIdeal.τ).loc Cert.FoxProjectedIdeal.main_arg0) = m' ((c.tc : Thread Cert.FoxProjectedIdeal.nD Cert.FoxProjectedIdeal.τ).loc Cert.FoxProjectedIdeal.main_arg0)
          ∧ r.2.mem ((c.tc : Thread Cert.FoxProjectedIdeal.nD Cert.FoxProjectedIdeal.τ).loc Cert.FoxProjectedIdeal.main_arg1) = m' ((c.tc : Thread Cert.FoxProjectedIdeal.nD Cert.FoxProjectedIdeal.τ).loc Cert.FoxProjectedIdeal.main_arg1))

def preserves_SbProj_SbProjIdeal : Prop :=
  IdealRules.named_const.Statement Cert.SbProjIdeal.κ "qscale" .f32 0x3E0293EE#32 (((Real.sqrt 128)⁻¹ * (Real.log 2)⁻¹ : ℝ) : EReal)

def algebraic_SbProjIdeal_SbProjectedIdeal [hSbProjIdeal : Cert.SbProjIdeal.Facts] [hSbProjectedIdeal : Cert.SbProjectedIdeal.Facts] : Prop :=
  ∀ (m : (ℓ : Loc Cert.SbProjIdeal.nD Cert.SbProjIdeal.τ Cert.SbProjIdeal.sig) → Buf (Elt Ideal) ℓ) (g : Dev Cert.SbProjIdeal.nD → PrngReg)
    (m' : (ℓ : Loc Cert.SbProjectedIdeal.nD Cert.SbProjectedIdeal.τ Cert.SbProjectedIdeal.sig) → Buf (Elt Ideal) ℓ) (g' : Dev Cert.SbProjectedIdeal.nD → PrngReg), Pre_SbProjIdeal m →
    (∀ c : Dev Cert.SbProjIdeal.nD,
      m' ((c.tc : Thread Cert.SbProjectedIdeal.nD Cert.SbProjectedIdeal.τ).loc Cert.SbProjectedIdeal.main_arg0) = m ((c.tc : Thread Cert.SbProjIdeal.nD Cert.SbProjIdeal.τ).loc Cert.SbProjIdeal.main_arg0)
      ∧ m' ((c.tc : Thread Cert.SbProjectedIdeal.nD Cert.SbProjectedIdeal.τ).loc Cert.SbProjectedIdeal.main_arg1) = m ((c.tc : Thread Cert.SbProjIdeal.nD Cert.SbProjIdeal.τ).loc Cert.SbProjIdeal.main_arg1)) →
    ∃ (v0 : (c : Dev Cert.SbProjIdeal.nD) → Buf (Elt Ideal) ((c.tc : Thread Cert.SbProjIdeal.nD Cert.SbProjIdeal.τ).loc Cert.SbProjIdeal.main_v0)),
      θ_run (Cert.SbProjIdeal.defs (F := Ideal)) (onTc (τ := Cert.SbProjIdeal.τ) (Cert.SbProjIdeal.main (F := Ideal))) ⟨m, fun _ => 0, g⟩ (fun r => ∀ c : Dev Cert.SbProjIdeal.nD,
          r.2.mem ((c.tc : Thread Cert.SbProjIdeal.nD Cert.SbProjIdeal.τ).loc Cert.SbProjIdeal.main_v0) = v0 c
          ∧ r.2.mem ((c.tc : Thread Cert.SbProjIdeal.nD Cert.SbProjIdeal.τ).loc Cert.SbProjIdeal.main_arg0) = m ((c.tc : Thread Cert.SbProjIdeal.nD Cert.SbProjIdeal.τ).loc Cert.SbProjIdeal.main_arg0)
          ∧ r.2.mem ((c.tc : Thread Cert.SbProjIdeal.nD Cert.SbProjIdeal.τ).loc Cert.SbProjIdeal.main_arg1) = m ((c.tc : Thread Cert.SbProjIdeal.nD Cert.SbProjIdeal.τ).loc Cert.SbProjIdeal.main_arg1))
      ∧ θ_run (Cert.SbProjectedIdeal.defs (F := Ideal)) (onTc (τ := Cert.SbProjectedIdeal.τ) (Cert.SbProjectedIdeal.main (F := Ideal))) ⟨m', fun _ => 0, g'⟩ (fun r => ∀ c : Dev Cert.SbProjectedIdeal.nD,
          r.2.mem ((c.tc : Thread Cert.SbProjectedIdeal.nD Cert.SbProjectedIdeal.τ).loc Cert.SbProjectedIdeal.main_v26) = v0 c
          ∧ r.2.mem ((c.tc : Thread Cert.SbProjectedIdeal.nD Cert.SbProjectedIdeal.τ).loc Cert.SbProjectedIdeal.main_arg0) = m' ((c.tc : Thread Cert.SbProjectedIdeal.nD Cert.SbProjectedIdeal.τ).loc Cert.SbProjectedIdeal.main_arg0)
          ∧ r.2.mem ((c.tc : Thread Cert.SbProjectedIdeal.nD Cert.SbProjectedIdeal.τ).loc Cert.SbProjectedIdeal.main_arg1) = m' ((c.tc : Thread Cert.SbProjectedIdeal.nD Cert.SbProjectedIdeal.τ).loc Cert.SbProjectedIdeal.main_arg1))

def preserves_OutNorm_OutNormIdeal : Prop :=
  True

def algebraic_OutNormIdeal_NormedIdeal [hOutNormIdeal : Cert.OutNormIdeal.Facts] [hNormedIdeal : Cert.NormedIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.NormedIdeal.nD Cert.NormedIdeal.τ Cert.NormedIdeal.sig) → Buf (Elt Ideal) ℓ) (g' : Dev Cert.NormedIdeal.nD → PrngReg), Pre_OutNormIdeal m →
    (∀ c : Dev Cert.OutNormIdeal.nD,
      m' ((c.tc : Thread Cert.NormedIdeal.nD Cert.NormedIdeal.τ).loc Cert.NormedIdeal.main_arg0) = m ((c.tc : Thread Cert.OutNormIdeal.nD Cert.OutNormIdeal.τ).loc Cert.OutNormIdeal.main_arg0)
      ∧ m' ((c.tc : Thread Cert.NormedIdeal.nD Cert.NormedIdeal.τ).loc Cert.NormedIdeal.main_arg1) = m ((c.tc : Thread Cert.OutNormIdeal.nD Cert.OutNormIdeal.τ).loc Cert.OutNormIdeal.main_arg1)
      ∧ m' ((c.tc : Thread Cert.NormedIdeal.nD Cert.NormedIdeal.τ).loc Cert.NormedIdeal.main_arg2) = m ((c.tc : Thread Cert.OutNormIdeal.nD Cert.OutNormIdeal.τ).loc Cert.OutNormIdeal.main_arg2)
      ∧ m' ((c.tc : Thread Cert.NormedIdeal.nD Cert.NormedIdeal.τ).loc Cert.NormedIdeal.main_arg3) = m ((c.tc : Thread Cert.OutNormIdeal.nD Cert.OutNormIdeal.τ).loc Cert.OutNormIdeal.main_arg3)
      ∧ m' ((c.tc : Thread Cert.NormedIdeal.nD Cert.NormedIdeal.τ).loc Cert.NormedIdeal.main_arg4) = m ((c.tc : Thread Cert.OutNormIdeal.nD Cert.OutNormIdeal.τ).loc Cert.OutNormIdeal.main_arg4)) →
    ∃ (v0 : (c : Dev Cert.OutNormIdeal.nD) → Buf (Elt Ideal) ((c.tc : Thread Cert.OutNormIdeal.nD Cert.OutNormIdeal.τ).loc Cert.OutNormIdeal.main_v7)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v7) = v0 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
          ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4))
      ∧ θ_run (Cert.NormedIdeal.defs (F := Ideal)) (onTc (τ := Cert.NormedIdeal.τ) (Cert.NormedIdeal.main (F := Ideal))) ⟨m', fun _ => 0, g'⟩ (fun r => ∀ c : Dev Cert.NormedIdeal.nD,
          r.2.mem ((c.tc : Thread Cert.NormedIdeal.nD Cert.NormedIdeal.τ).loc Cert.NormedIdeal.main_v34) = v0 c
          ∧ r.2.mem ((c.tc : Thread Cert.NormedIdeal.nD Cert.NormedIdeal.τ).loc Cert.NormedIdeal.main_arg0) = m' ((c.tc : Thread Cert.NormedIdeal.nD Cert.NormedIdeal.τ).loc Cert.NormedIdeal.main_arg0)
          ∧ r.2.mem ((c.tc : Thread Cert.NormedIdeal.nD Cert.NormedIdeal.τ).loc Cert.NormedIdeal.main_arg1) = m' ((c.tc : Thread Cert.NormedIdeal.nD Cert.NormedIdeal.τ).loc Cert.NormedIdeal.main_arg1)
          ∧ r.2.mem ((c.tc : Thread Cert.NormedIdeal.nD Cert.NormedIdeal.τ).loc Cert.NormedIdeal.main_arg2) = m' ((c.tc : Thread Cert.NormedIdeal.nD Cert.NormedIdeal.τ).loc Cert.NormedIdeal.main_arg2)
          ∧ r.2.mem ((c.tc : Thread Cert.NormedIdeal.nD Cert.NormedIdeal.τ).loc Cert.NormedIdeal.main_arg3) = m' ((c.tc : Thread Cert.NormedIdeal.nD Cert.NormedIdeal.τ).loc Cert.NormedIdeal.main_arg3)
          ∧ r.2.mem ((c.tc : Thread Cert.NormedIdeal.nD Cert.NormedIdeal.τ).loc Cert.NormedIdeal.main_arg4) = m' ((c.tc : Thread Cert.NormedIdeal.nD Cert.NormedIdeal.τ).loc Cert.NormedIdeal.main_arg4))

def preserves_SbMix_SbMixIdeal : Prop :=
  IdealRules.named_const.Statement Cert.SbMixIdeal.κ "perln2" .f32 0x3FB8AA3B#32 (((Real.log 2)⁻¹ : ℝ) : EReal)

def algebraic_SbMixIdeal_SbMixedIdeal [hSbMixIdeal : Cert.SbMixIdeal.Facts] [hSbMixedIdeal : Cert.SbMixedIdeal.Facts] : Prop :=
  ∀ (m : (ℓ : Loc Cert.SbMixIdeal.nD Cert.SbMixIdeal.τ Cert.SbMixIdeal.sig) → Buf (Elt Ideal) ℓ) (g : Dev Cert.SbMixIdeal.nD → PrngReg)
    (m' : (ℓ : Loc Cert.SbMixedIdeal.nD Cert.SbMixedIdeal.τ Cert.SbMixedIdeal.sig) → Buf (Elt Ideal) ℓ) (g' : Dev Cert.SbMixedIdeal.nD → PrngReg), Pre_SbMixIdeal m →
    (∀ c : Dev Cert.SbMixIdeal.nD,
      m' ((c.tc : Thread Cert.SbMixedIdeal.nD Cert.SbMixedIdeal.τ).loc Cert.SbMixedIdeal.main_arg0) = m ((c.tc : Thread Cert.SbMixIdeal.nD Cert.SbMixIdeal.τ).loc Cert.SbMixIdeal.main_arg0)) →
    ∃ (v0 : (c : Dev Cert.SbMixIdeal.nD) → Buf (Elt Ideal) ((c.tc : Thread Cert.SbMixIdeal.nD Cert.SbMixIdeal.τ).loc Cert.SbMixIdeal.main_v8)),
      θ_run (Cert.SbMixIdeal.defs (F := Ideal)) (onTc (τ := Cert.SbMixIdeal.τ) (Cert.SbMixIdeal.main (F := Ideal))) ⟨m, fun _ => 0, g⟩ (fun r => ∀ c : Dev Cert.SbMixIdeal.nD,
          r.2.mem ((c.tc : Thread Cert.SbMixIdeal.nD Cert.SbMixIdeal.τ).loc Cert.SbMixIdeal.main_v8) = v0 c
          ∧ r.2.mem ((c.tc : Thread Cert.SbMixIdeal.nD Cert.SbMixIdeal.τ).loc Cert.SbMixIdeal.main_arg0) = m ((c.tc : Thread Cert.SbMixIdeal.nD Cert.SbMixIdeal.τ).loc Cert.SbMixIdeal.main_arg0))
      ∧ θ_run (Cert.SbMixedIdeal.defs (F := Ideal)) (onTc (τ := Cert.SbMixedIdeal.τ) (Cert.SbMixedIdeal.main (F := Ideal))) ⟨m', fun _ => 0, g'⟩ (fun r => ∀ c : Dev Cert.SbMixedIdeal.nD,
          r.2.mem ((c.tc : Thread Cert.SbMixedIdeal.nD Cert.SbMixedIdeal.τ).loc Cert.SbMixedIdeal.main_v73) = v0 c
          ∧ r.2.mem ((c.tc : Thread Cert.SbMixedIdeal.nD Cert.SbMixedIdeal.τ).loc Cert.SbMixedIdeal.main_arg0) = m' ((c.tc : Thread Cert.SbMixedIdeal.nD Cert.SbMixedIdeal.τ).loc Cert.SbMixedIdeal.main_arg0))

def preserves_FoxOutNorm_FoxOutNormIdeal : Prop :=
  True

def algebraic_FoxOutNormIdeal_FoxNormedIdeal [hFoxOutNormIdeal : Cert.FoxOutNormIdeal.Facts] [hFoxNormedIdeal : Cert.FoxNormedIdeal.Facts] : Prop :=
  ∀ (m : (ℓ : Loc Cert.FoxOutNormIdeal.nD Cert.FoxOutNormIdeal.τ Cert.FoxOutNormIdeal.sig) → Buf (Elt Ideal) ℓ) (g : Dev Cert.FoxOutNormIdeal.nD → PrngReg)
    (m' : (ℓ : Loc Cert.FoxNormedIdeal.nD Cert.FoxNormedIdeal.τ Cert.FoxNormedIdeal.sig) → Buf (Elt Ideal) ℓ) (g' : Dev Cert.FoxNormedIdeal.nD → PrngReg), Pre_FoxOutNormIdeal m →
    (∀ c : Dev Cert.FoxOutNormIdeal.nD,
      m' ((c.tc : Thread Cert.FoxNormedIdeal.nD Cert.FoxNormedIdeal.τ).loc Cert.FoxNormedIdeal.main_arg0) = m ((c.tc : Thread Cert.FoxOutNormIdeal.nD Cert.FoxOutNormIdeal.τ).loc Cert.FoxOutNormIdeal.main_arg0)
      ∧ m' ((c.tc : Thread Cert.FoxNormedIdeal.nD Cert.FoxNormedIdeal.τ).loc Cert.FoxNormedIdeal.main_arg1) = m ((c.tc : Thread Cert.FoxOutNormIdeal.nD Cert.FoxOutNormIdeal.τ).loc Cert.FoxOutNormIdeal.main_arg1)
      ∧ m' ((c.tc : Thread Cert.FoxNormedIdeal.nD Cert.FoxNormedIdeal.τ).loc Cert.FoxNormedIdeal.main_arg2) = m ((c.tc : Thread Cert.FoxOutNormIdeal.nD Cert.FoxOutNormIdeal.τ).loc Cert.FoxOutNormIdeal.main_arg2)
      ∧ m' ((c.tc : Thread Cert.FoxNormedIdeal.nD Cert.FoxNormedIdeal.τ).loc Cert.FoxNormedIdeal.main_arg3) = m ((c.tc : Thread Cert.FoxOutNormIdeal.nD Cert.FoxOutNormIdeal.τ).loc Cert.FoxOutNormIdeal.main_arg3)
      ∧ m' ((c.tc : Thread Cert.FoxNormedIdeal.nD Cert.FoxNormedIdeal.τ).loc Cert.FoxNormedIdeal.main_arg4) = m ((c.tc : Thread Cert.FoxOutNormIdeal.nD Cert.FoxOutNormIdeal.τ).loc Cert.FoxOutNormIdeal.main_arg4)) →
    ∃ (v0 : (c : Dev Cert.FoxOutNormIdeal.nD) → Buf (Elt Ideal) ((c.tc : Thread Cert.FoxOutNormIdeal.nD Cert.FoxOutNormIdeal.τ).loc Cert.FoxOutNormIdeal.main_v7)),
      θ_run (Cert.FoxOutNormIdeal.defs (F := Ideal)) (onTc (τ := Cert.FoxOutNormIdeal.τ) (Cert.FoxOutNormIdeal.main (F := Ideal))) ⟨m, fun _ => 0, g⟩ (fun r => ∀ c : Dev Cert.FoxOutNormIdeal.nD,
          r.2.mem ((c.tc : Thread Cert.FoxOutNormIdeal.nD Cert.FoxOutNormIdeal.τ).loc Cert.FoxOutNormIdeal.main_v7) = v0 c
          ∧ r.2.mem ((c.tc : Thread Cert.FoxOutNormIdeal.nD Cert.FoxOutNormIdeal.τ).loc Cert.FoxOutNormIdeal.main_arg0) = m ((c.tc : Thread Cert.FoxOutNormIdeal.nD Cert.FoxOutNormIdeal.τ).loc Cert.FoxOutNormIdeal.main_arg0)
          ∧ r.2.mem ((c.tc : Thread Cert.FoxOutNormIdeal.nD Cert.FoxOutNormIdeal.τ).loc Cert.FoxOutNormIdeal.main_arg1) = m ((c.tc : Thread Cert.FoxOutNormIdeal.nD Cert.FoxOutNormIdeal.τ).loc Cert.FoxOutNormIdeal.main_arg1)
          ∧ r.2.mem ((c.tc : Thread Cert.FoxOutNormIdeal.nD Cert.FoxOutNormIdeal.τ).loc Cert.FoxOutNormIdeal.main_arg2) = m ((c.tc : Thread Cert.FoxOutNormIdeal.nD Cert.FoxOutNormIdeal.τ).loc Cert.FoxOutNormIdeal.main_arg2)
          ∧ r.2.mem ((c.tc : Thread Cert.FoxOutNormIdeal.nD Cert.FoxOutNormIdeal.τ).loc Cert.FoxOutNormIdeal.main_arg3) = m ((c.tc : Thread Cert.FoxOutNormIdeal.nD Cert.FoxOutNormIdeal.τ).loc Cert.FoxOutNormIdeal.main_arg3)
          ∧ r.2.mem ((c.tc : Thread Cert.FoxOutNormIdeal.nD Cert.FoxOutNormIdeal.τ).loc Cert.FoxOutNormIdeal.main_arg4) = m ((c.tc : Thread Cert.FoxOutNormIdeal.nD Cert.FoxOutNormIdeal.τ).loc Cert.FoxOutNormIdeal.main_arg4))
      ∧ θ_run (Cert.FoxNormedIdeal.defs (F := Ideal)) (onTc (τ := Cert.FoxNormedIdeal.τ) (Cert.FoxNormedIdeal.main (F := Ideal))) ⟨m', fun _ => 0, g'⟩ (fun r => ∀ c : Dev Cert.FoxNormedIdeal.nD,
          r.2.mem ((c.tc : Thread Cert.FoxNormedIdeal.nD Cert.FoxNormedIdeal.τ).loc Cert.FoxNormedIdeal.main_v34) = v0 c
          ∧ r.2.mem ((c.tc : Thread Cert.FoxNormedIdeal.nD Cert.FoxNormedIdeal.τ).loc Cert.FoxNormedIdeal.main_arg0) = m' ((c.tc : Thread Cert.FoxNormedIdeal.nD Cert.FoxNormedIdeal.τ).loc Cert.FoxNormedIdeal.main_arg0)
          ∧ r.2.mem ((c.tc : Thread Cert.FoxNormedIdeal.nD Cert.FoxNormedIdeal.τ).loc Cert.FoxNormedIdeal.main_arg1) = m' ((c.tc : Thread Cert.FoxNormedIdeal.nD Cert.FoxNormedIdeal.τ).loc Cert.FoxNormedIdeal.main_arg1)
          ∧ r.2.mem ((c.tc : Thread Cert.FoxNormedIdeal.nD Cert.FoxNormedIdeal.τ).loc Cert.FoxNormedIdeal.main_arg2) = m' ((c.tc : Thread Cert.FoxNormedIdeal.nD Cert.FoxNormedIdeal.τ).loc Cert.FoxNormedIdeal.main_arg2)
          ∧ r.2.mem ((c.tc : Thread Cert.FoxNormedIdeal.nD Cert.FoxNormedIdeal.τ).loc Cert.FoxNormedIdeal.main_arg3) = m' ((c.tc : Thread Cert.FoxNormedIdeal.nD Cert.FoxNormedIdeal.τ).loc Cert.FoxNormedIdeal.main_arg3)
          ∧ r.2.mem ((c.tc : Thread Cert.FoxNormedIdeal.nD Cert.FoxNormedIdeal.τ).loc Cert.FoxNormedIdeal.main_arg4) = m' ((c.tc : Thread Cert.FoxNormedIdeal.nD Cert.FoxNormedIdeal.τ).loc Cert.FoxNormedIdeal.main_arg4))

def Claim : Prop :=
  ∃ (hKernel : Cert.Kernel.Facts) (hKernelIdeal : Cert.KernelIdeal.Facts) (hReferenceIdeal : Cert.ReferenceIdeal.Facts) (hWindowedIdeal : Cert.WindowedIdeal.Facts) (hFoxProj : Cert.FoxProj.Facts) (hFoxProjIdeal : Cert.FoxProjIdeal.Facts) (hFoxProjectedIdeal : Cert.FoxProjectedIdeal.Facts) (hSbProj : Cert.SbProj.Facts) (hSbProjIdeal : Cert.SbProjIdeal.Facts) (hSbProjectedIdeal : Cert.SbProjectedIdeal.Facts) (hOutNorm : Cert.OutNorm.Facts) (hOutNormIdeal : Cert.OutNormIdeal.Facts) (hNormedIdeal : Cert.NormedIdeal.Facts) (hSbMix : Cert.SbMix.Facts) (hSbMixIdeal : Cert.SbMixIdeal.Facts) (hSbMixedIdeal : Cert.SbMixedIdeal.Facts) (hFoxOutNorm : Cert.FoxOutNorm.Facts) (hFoxOutNormIdeal : Cert.FoxOutNormIdeal.Facts) (hFoxNormedIdeal : Cert.FoxNormedIdeal.Facts) (hPre_finite_and_far : Cert.Pre_finite_and_far.Facts) (hPre_finite : Cert.Pre_finite.Facts),
    quiescent_Kernel (hKernel := hKernel)
    ∧ quiescent_KernelIdeal (hKernelIdeal := hKernelIdeal)
    ∧ quiescent_KernelIdeal_pre_finite_and_far (hKernelIdeal := hKernelIdeal) (hPre_finite_and_far := hPre_finite_and_far)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite_and_far (hReferenceIdeal := hReferenceIdeal) (hPre_finite_and_far := hPre_finite_and_far)
    ∧ quiescent_WindowedIdeal (hWindowedIdeal := hWindowedIdeal)
    ∧ quiescent_WindowedIdeal_pre_finite (hWindowedIdeal := hWindowedIdeal) (hPre_finite := hPre_finite)
    ∧ quiescent_FoxProj (hFoxProj := hFoxProj)
    ∧ quiescent_FoxProjIdeal (hFoxProjIdeal := hFoxProjIdeal)
    ∧ quiescent_FoxProjectedIdeal (hFoxProjectedIdeal := hFoxProjectedIdeal)
    ∧ quiescent_SbProj (hSbProj := hSbProj)
    ∧ quiescent_SbProjIdeal (hSbProjIdeal := hSbProjIdeal)
    ∧ quiescent_SbProjectedIdeal (hSbProjectedIdeal := hSbProjectedIdeal)
    ∧ quiescent_OutNorm (hOutNorm := hOutNorm)
    ∧ quiescent_OutNormIdeal (hOutNormIdeal := hOutNormIdeal)
    ∧ quiescent_NormedIdeal (hNormedIdeal := hNormedIdeal)
    ∧ quiescent_SbMix (hSbMix := hSbMix)
    ∧ quiescent_SbMixIdeal (hSbMixIdeal := hSbMixIdeal)
    ∧ quiescent_SbMixedIdeal (hSbMixedIdeal := hSbMixedIdeal)
    ∧ quiescent_FoxOutNorm (hFoxOutNorm := hFoxOutNorm)
    ∧ quiescent_FoxOutNormIdeal (hFoxOutNormIdeal := hFoxOutNormIdeal)
    ∧ quiescent_FoxNormedIdeal (hFoxNormedIdeal := hFoxNormedIdeal)
    ∧ preserves_Kernel_KernelIdeal
    ∧ algebraic_KernelIdeal_ReferenceIdeal_pre_finite_and_far (hKernelIdeal := hKernelIdeal) (hReferenceIdeal := hReferenceIdeal) (hPre_finite_and_far := hPre_finite_and_far)
    ∧ algebraic_KernelIdeal_WindowedIdeal_pre_finite (hKernelIdeal := hKernelIdeal) (hWindowedIdeal := hWindowedIdeal) (hPre_finite := hPre_finite)
    ∧ preserves_FoxProj_FoxProjIdeal
    ∧ algebraic_FoxProjIdeal_FoxProjectedIdeal (hFoxProjIdeal := hFoxProjIdeal) (hFoxProjectedIdeal := hFoxProjectedIdeal)
    ∧ preserves_SbProj_SbProjIdeal
    ∧ algebraic_SbProjIdeal_SbProjectedIdeal (hSbProjIdeal := hSbProjIdeal) (hSbProjectedIdeal := hSbProjectedIdeal)
    ∧ preserves_OutNorm_OutNormIdeal
    ∧ algebraic_OutNormIdeal_NormedIdeal (hOutNormIdeal := hOutNormIdeal) (hNormedIdeal := hNormedIdeal)
    ∧ preserves_SbMix_SbMixIdeal
    ∧ algebraic_SbMixIdeal_SbMixedIdeal (hSbMixIdeal := hSbMixIdeal) (hSbMixedIdeal := hSbMixedIdeal)
    ∧ preserves_FoxOutNorm_FoxOutNormIdeal
    ∧ algebraic_FoxOutNormIdeal_FoxNormedIdeal (hFoxOutNormIdeal := hFoxOutNormIdeal) (hFoxNormedIdeal := hFoxNormedIdeal)
-- ==== Pre_finite.lean ====
abbrev S8x16 : Shape := ⟨2, ![8, 16]⟩
abbrev S4x8x16x4096x128 : Shape := ⟨5, ![4, 8, 16, 4096, 128]⟩
abbrev S8x16x1x4096 : Shape := ⟨4, ![8, 16, 1, 4096]⟩
abbrev S1x8x16x4096x128 : Shape := ⟨5, ![1, 8, 16, 4096, 128]⟩
abbrev S8x16x4096x128 : Shape := ⟨4, ![8, 16, 4096, 128]⟩
abbrev S_ : Shape := ⟨0, ![]⟩

class Facts : Prop where
  slices_S4x8x16x4096x128_S1x8x16x4096x128_0_0_0_0_0 : S4x8x16x4096x128.Slices ![0, 0, 0, 0, 0] S1x8x16x4096x128
  shapeCasts_S1x8x16x4096x128_S8x16x4096x128 : S1x8x16x4096x128.ShapeCasts S8x16x4096x128
  bitsLt_bf16_f32 : FTy.bits .bf16 < FTy.bits .f32
  slices_S4x8x16x4096x128_S1x8x16x4096x128_1_0_0_0_0 : S4x8x16x4096x128.Slices ![1, 0, 0, 0, 0] S1x8x16x4096x128
  bcast_S_S8x16x4096x128 : S_.BroadcastsInDim S8x16x4096x128 (![] : Fin 0 → Fin S8x16x4096x128.rank)
  reducesTo_S8x16x4096x128_S_d0_1_2_3 : S8x16x4096x128.ReducesTo [0, 1, 2, 3] S_
  h_S_ : 0 < S_.numel
  bcast_S_S8x16x1x4096 : S_.BroadcastsInDim S8x16x1x4096 (![] : Fin 0 → Fin S8x16x1x4096.rank)
  reducesTo_S8x16x1x4096_S_d0_1_2_3 : S8x16x1x4096.ReducesTo [0, 1, 2, 3] S_

variable [Facts]

def fn_part1 {F : FTy → Type} [FloatOps F] (main_v14 : IVec S_ 1) (main_v17 : IVec S8x16x1x4096 1) (main_c_3 : IVec S_ 1) : IVec S_ 1 :=
  let main_v18 : IVec S_ 1 := (fun x v => Host.reduce IntOp.andi x v reducesTo_S8x16x1x4096_S_d0_1_2_3 h_S_) main_v17 main_c_3
  let main_v19 : IVec S_ 1 := andi main_v14 main_v18
  main_v19

def fn {F : FTy → Type} [FloatOps F] (main_arg0 : IVec S8x16 32) (main_arg1 : FVec F S4x8x16x4096x128 .bf16) (main_arg2 : FVec F S8x16x1x4096 .f32) : IVec S_ 1 :=
  let main_v0 : FVec F S1x8x16x4096x128 .bf16 := (extractStridedSlice S1x8x16x4096x128 ![0, 0, 0, 0, 0] · slices_S4x8x16x4096x128_S1x8x16x4096x128_0_0_0_0_0) main_arg1
  let main_v1 : FVec F S8x16x4096x128 .bf16 := shapeCast S8x16x4096x128 main_v0 shapeCasts_S1x8x16x4096x128_S8x16x4096x128
  let main_v2 : FVec F S8x16x4096x128 .f32 := (extf .f32 · bitsLt_bf16_f32) main_v1
  let main_v3 : FVec F S1x8x16x4096x128 .bf16 := (extractStridedSlice S1x8x16x4096x128 ![1, 0, 0, 0, 0] · slices_S4x8x16x4096x128_S1x8x16x4096x128_1_0_0_0_0) main_arg1
  let main_v4 : FVec F S8x16x4096x128 .bf16 := shapeCast S8x16x4096x128 main_v3 shapeCasts_S1x8x16x4096x128_S8x16x4096x128
  let main_v5 : FVec F S8x16x4096x128 .f32 := (extf .f32 · bitsLt_bf16_f32) main_v4
  let main_v6 : FVec F S8x16x4096x128 .f32 := Host.absf main_v2
  let main_cst : FVec F S_ .f32 := constant S_ .f32 0x7F800000#32
  let main_v7 : FVec F S8x16x4096x128 .f32 := broadcastInDim S8x16x4096x128 ![] bcast_S_S8x16x4096x128 main_cst
  let main_v8 : IVec S8x16x4096x128 1 := cmpf .olt main_v6 main_v7
  let main_c : IVec S_ 1 := constantI S_ 1 1#1
  let main_v9 : IVec S_ 1 := (fun x v => Host.reduce IntOp.andi x v reducesTo_S8x16x4096x128_S_d0_1_2_3 h_S_) main_v8 main_c
  let main_v10 : FVec F S8x16x4096x128 .f32 := Host.absf main_v5
  let main_cst_0 : FVec F S_ .f32 := constant S_ .f32 0x7F800000#32
  let main_v11 : FVec F S8x16x4096x128 .f32 := broadcastInDim S8x16x4096x128 ![] bcast_S_S8x16x4096x128 main_cst_0
  let main_v12 : IVec S8x16x4096x128 1 := cmpf .olt main_v10 main_v11
  let main_c_1 : IVec S_ 1 := constantI S_ 1 1#1
  let main_v13 : IVec S_ 1 := (fun x v => Host.reduce IntOp.andi x v reducesTo_S8x16x4096x128_S_d0_1_2_3 h_S_) main_v12 main_c_1
  let main_v14 : IVec S_ 1 := andi main_v9 main_v13
  let main_v15 : FVec F S8x16x1x4096 .f32 := Host.absf main_arg2
  let main_cst_2 : FVec F S_ .f32 := constant S_ .f32 0x7F800000#32
  let main_v16 : FVec F S8x16x1x4096 .f32 := broadcastInDim S8x16x1x4096 ![] bcast_S_S8x16x1x4096 main_cst_2
  let main_v17 : IVec S8x16x1x4096 1 := cmpf .olt main_v15 main_v16
  let main_c_3 : IVec S_ 1 := constantI S_ 1 1#1
  fn_part1 (F := F) main_v14 main_v17 main_c_3
-- ==== Pre_finite_and_far.lean ====
abbrev S8x16 : Shape := ⟨2, ![8, 16]⟩
abbrev S4x8x16x4096x128 : Shape := ⟨5, ![4, 8, 16, 4096, 128]⟩
abbrev S8x16x1x4096 : Shape := ⟨4, ![8, 16, 1, 4096]⟩
abbrev S1x8x16x4096x128 : Shape := ⟨5, ![1, 8, 16, 4096, 128]⟩
abbrev S8x16x4096x128 : Shape := ⟨4, ![8, 16, 4096, 128]⟩
abbrev S_ : Shape := ⟨0, ![]⟩

class Facts : Prop where
  slices_S4x8x16x4096x128_S1x8x16x4096x128_0_0_0_0_0 : S4x8x16x4096x128.Slices ![0, 0, 0, 0, 0] S1x8x16x4096x128
  shapeCasts_S1x8x16x4096x128_S8x16x4096x128 : S1x8x16x4096x128.ShapeCasts S8x16x4096x128
  bitsLt_bf16_f32 : FTy.bits .bf16 < FTy.bits .f32
  slices_S4x8x16x4096x128_S1x8x16x4096x128_1_0_0_0_0 : S4x8x16x4096x128.Slices ![1, 0, 0, 0, 0] S1x8x16x4096x128
  bcast_S_S8x16x4096x128 : S_.BroadcastsInDim S8x16x4096x128 (![] : Fin 0 → Fin S8x16x4096x128.rank)
  reducesTo_S8x16x4096x128_S_d0_1_2_3 : S8x16x4096x128.ReducesTo [0, 1, 2, 3] S_
  h_S_ : 0 < S_.numel
  bcast_S_S8x16x1x4096 : S_.BroadcastsInDim S8x16x1x4096 (![] : Fin 0 → Fin S8x16x1x4096.rank)
  reducesTo_S8x16x1x4096_S_d0_1_2_3 : S8x16x1x4096.ReducesTo [0, 1, 2, 3] S_
  bcast_S_S8x16 : S_.BroadcastsInDim S8x16 (![] : Fin 0 → Fin S8x16.rank)
  reducesTo_S8x16_S_d0_1 : S8x16.ReducesTo [0, 1] S_

variable [Facts]

def fn_part1 {F : FTy → Type} [FloatOps F] (main_arg0 : IVec S8x16 32) (main_v14 : IVec S_ 1) (main_v17 : IVec S8x16x1x4096 1) (main_c_3 : IVec S_ 1) : IVec S_ 1 :=
  let main_v18 : IVec S_ 1 := (fun x v => Host.reduce IntOp.andi x v reducesTo_S8x16x1x4096_S_d0_1_2_3 h_S_) main_v17 main_c_3
  let main_v19 : IVec S_ 1 := andi main_v14 main_v18
  let main_c_4 : IVec S_ 32 := constantI S_ 32 0#32
  let main_v20 : IVec S8x16 32 := broadcastInDim S8x16 ![] bcast_S_S8x16 main_c_4
  let main_v21 : IVec S8x16 1 := cmpi .ne main_arg0 main_v20
  let main_c_5 : IVec S_ 1 := constantI S_ 1 1#1
  let main_v22 : IVec S_ 1 := (fun x v => Host.reduce IntOp.andi x v reducesTo_S8x16_S_d0_1 h_S_) main_v21 main_c_5
  let main_v23 : IVec S_ 1 := andi main_v19 main_v22
  main_v23

def fn {F : FTy → Type} [FloatOps F] (main_arg0 : IVec S8x16 32) (main_arg1 : FVec F S4x8x16x4096x128 .bf16) (main_arg2 : FVec F S8x16x1x4096 .f32) : IVec S_ 1 :=
  let main_v0 : FVec F S1x8x16x4096x128 .bf16 := (extractStridedSlice S1x8x16x4096x128 ![0, 0, 0, 0, 0] · slices_S4x8x16x4096x128_S1x8x16x4096x128_0_0_0_0_0) main_arg1
  let main_v1 : FVec F S8x16x4096x128 .bf16 := shapeCast S8x16x4096x128 main_v0 shapeCasts_S1x8x16x4096x128_S8x16x4096x128
  let main_v2 : FVec F S8x16x4096x128 .f32 := (extf .f32 · bitsLt_bf16_f32) main_v1
  let main_v3 : FVec F S1x8x16x4096x128 .bf16 := (extractStridedSlice S1x8x16x4096x128 ![1, 0, 0, 0, 0] · slices_S4x8x16x4096x128_S1x8x16x4096x128_1_0_0_0_0) main_arg1
  let main_v4 : FVec F S8x16x4096x128 .bf16 := shapeCast S8x16x4096x128 main_v3 shapeCasts_S1x8x16x4096x128_S8x16x4096x128
  let main_v5 : FVec F S8x16x4096x128 .f32 := (extf .f32 · bitsLt_bf16_f32) main_v4
  let main_v6 : FVec F S8x16x4096x128 .f32 := Host.absf main_v2
  let main_cst : FVec F S_ .f32 := constant S_ .f32 0x7F800000#32
  let main_v7 : FVec F S8x16x4096x128 .f32 := broadcastInDim S8x16x4096x128 ![] bcast_S_S8x16x4096x128 main_cst
  let main_v8 : IVec S8x16x4096x128 1 := cmpf .olt main_v6 main_v7
  let main_c : IVec S_ 1 := constantI S_ 1 1#1
  let main_v9 : IVec S_ 1 := (fun x v => Host.reduce IntOp.andi x v reducesTo_S8x16x4096x128_S_d0_1_2_3 h_S_) main_v8 main_c
  let main_v10 : FVec F S8x16x4096x128 .f32 := Host.absf main_v5
  let main_cst_0 : FVec F S_ .f32 := constant S_ .f32 0x7F800000#32
  let main_v11 : FVec F S8x16x4096x128 .f32 := broadcastInDim S8x16x4096x128 ![] bcast_S_S8x16x4096x128 main_cst_0
  let main_v12 : IVec S8x16x4096x128 1 := cmpf .olt main_v10 main_v11
  let main_c_1 : IVec S_ 1 := constantI S_ 1 1#1
  let main_v13 : IVec S_ 1 := (fun x v => Host.reduce IntOp.andi x v reducesTo_S8x16x4096x128_S_d0_1_2_3 h_S_) main_v12 main_c_1
  let main_v14 : IVec S_ 1 := andi main_v9 main_v13
  let main_v15 : FVec F S8x16x1x4096 .f32 := Host.absf main_arg2
  let main_cst_2 : FVec F S_ .f32 := constant S_ .f32 0x7F800000#32
  let main_v16 : FVec F S8x16x1x4096 .f32 := broadcastInDim S8x16x1x4096 ![] bcast_S_S8x16x1x4096 main_cst_2
  let main_v17 : IVec S8x16x1x4096 1 := cmpf .olt main_v15 main_v16
  let main_c_3 : IVec S_ 1 := constantI S_ 1 1#1
  fn_part1 (F := F) main_arg0 main_v14 main_v17 main_c_3
-- ==== Kernel.lean ====
abbrev S8x16 : Shape := ⟨2, ![8, 16]⟩
abbrev S4x8x16x4096x128 : Shape := ⟨5, ![4, 8, 16, 4096, 128]⟩
abbrev S8x16x1x4096 : Shape := ⟨4, ![8, 16, 1, 4096]⟩
abbrev S8x4096x2048 : Shape := ⟨3, ![8, 4096, 2048]⟩
abbrev S1x1x1x4096x128 : Shape := ⟨5, ![1, 1, 1, 4096, 128]⟩
abbrev S1x1x1x4096 : Shape := ⟨4, ![1, 1, 1, 4096]⟩
abbrev S1x4096x128 : Shape := ⟨3, ![1, 4096, 128]⟩
abbrev S4096x256 : Shape := ⟨2, ![4096, 256]⟩
abbrev S4096x128 : Shape := ⟨2, ![4096, 128]⟩
abbrev S1x1 : Shape := ⟨2, ![1, 1]⟩
abbrev S1x1x1x512x128 : Shape := ⟨5, ![1, 1, 1, 512, 128]⟩
abbrev S512x128 : Shape := ⟨2, ![512, 128]⟩
abbrev S1x1x1x1 : Shape := ⟨4, ![1, 1, 1, 1]⟩
abbrev S512x512 : Shape := ⟨2, ![512, 512]⟩
abbrev S1x1x1x512 : Shape := ⟨4, ![1, 1, 1, 512]⟩
abbrev S1x512 : Shape := ⟨2, ![1, 512]⟩
abbrev S512 : Shape := ⟨1, ![512]⟩
abbrev S512x1 : Shape := ⟨2, ![512, 1]⟩
abbrev S512x256 : Shape := ⟨2, ![512, 256]⟩
abbrev S1x512x128 : Shape := ⟨3, ![1, 512, 128]⟩

abbrev nBuf : Space → Nat
  | .hbm => 4
  | .vmem => 13
  | .smem => 1
  | _ => 0

abbrev bufTy : (tb : Table) → Fin (tcTables nBuf tb) → BufTy
  | .hbm, ⟨0, _⟩ => ⟨S8x16, .i32⟩
  | .hbm, ⟨1, _⟩ => ⟨S4x8x16x4096x128, .bf16⟩
  | .hbm, ⟨2, _⟩ => ⟨S8x16x1x4096, .f32⟩
  | .hbm, ⟨3, _⟩ => ⟨S8x4096x2048, .bf16⟩
  | .local _ .vmem, ⟨0, _⟩ => ⟨S1x1x1x4096x128, .bf16⟩
  | .local _ .vmem, ⟨1, _⟩ => ⟨S1x1x1x4096x128, .bf16⟩
  | .local _ .vmem, ⟨2, _⟩ => ⟨S1x1x1x4096x128, .bf16⟩
  | .local _ .vmem, ⟨3, _⟩ => ⟨S1x1x1x4096x128, .bf16⟩
  | .local _ .vmem, ⟨4, _⟩ => ⟨S1x1x1x4096x128, .bf16⟩
  | .local _ .vmem, ⟨5, _⟩ => ⟨S1x1x1x4096x128, .bf16⟩
  | .local _ .vmem, ⟨6, _⟩ => ⟨S1x1x1x4096x128, .bf16⟩
  | .local _ .vmem, ⟨7, _⟩ => ⟨S1x1x1x4096x128, .bf16⟩
  | .local _ .vmem, ⟨8, _⟩ => ⟨S1x1x1x4096, .f32⟩
  | .local _ .vmem, ⟨9, _⟩ => ⟨S1x1x1x4096, .f32⟩
  | .local _ .vmem, ⟨10, _⟩ => ⟨S1x4096x128, .bf16⟩
  | .local _ .vmem, ⟨11, _⟩ => ⟨S1x4096x128, .bf16⟩
  | .local _ .vmem, ⟨12, _⟩ => ⟨S4096x256, .bf16⟩
  | .local _ .smem, ⟨0, _⟩ => ⟨S8x16, .i32⟩
  | _, _ => ⟨S8x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def k0_off1 (i : grid0.Coords) : Fin 2 → Nat :=
  let arg0 : BitVec 32 := BitVec.ofNat 32 (i 0).val
  let v15 : Index := Scalar.indexCast arg0
  let arg1 : BitVec 32 := BitVec.ofNat 32 (i 1).val
  let v16 : Index := Scalar.indexCast arg1
  ![v15.toNat, v16.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x16 : Shape := ⟨2, ![8, 16]⟩
abbrev S4x8x16x4096x128 : Shape := ⟨5, ![4, 8, 16, 4096, 128]⟩
abbrev S8x16x1x4096 : Shape := ⟨4, ![8, 16, 1, 4096]⟩
abbrev S_ : Shape := ⟨0, ![]⟩
abbrev S4096x4096 : Shape := ⟨2, ![4096, 4096]⟩
abbrev S1x8x16x4096x128 : Shape := ⟨5, ![1, 8, 16, 4096, 128]⟩
abbrev S8x16x4096x128 : Shape := ⟨4, ![8, 16, 4096, 128]⟩
abbrev S8x16x4096 : Shape := ⟨3, ![8, 16, 4096]⟩
abbrev S8x16x4096x4096 : Shape := ⟨4, ![8, 16, 4096, 4096]⟩
abbrev S8x16x4096x1 : Shape := ⟨4, ![8, 16, 4096, 1]⟩
abbrev S8x4096x16x128 : Shape := ⟨4, ![8, 4096, 16, 128]⟩
abbrev S8x4096x2048 : Shape := ⟨3, ![8, 4096, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8x16, .i32⟩
  | .hbm, ⟨1, _⟩ => ⟨S4x8x16x4096x128, .bf16⟩
  | .hbm, ⟨2, _⟩ => ⟨S8x16x1x4096, .f32⟩
  | .hbm, ⟨3, _⟩ => ⟨S_, .i1⟩
  | .hbm, ⟨4, _⟩ => ⟨S4096x4096, .i1⟩
  | .hbm, ⟨5, _⟩ => ⟨S4096x4096, .i32⟩
  | .hbm, ⟨6, _⟩ => ⟨S_, .i32⟩
  | .hbm, ⟨7, _⟩ => ⟨S4096x4096, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S_, .i1⟩
  | .hbm, ⟨12, _⟩ => ⟨S4096x4096, .i1⟩
  | .hbm, ⟨13, _⟩ => ⟨S4096x4096, .i1⟩
  | .hbm, ⟨14, _⟩ => ⟨S1x8x16x4096x128, .bf16⟩
  | .hbm, ⟨15, _⟩ => ⟨S8x16x4096x128, .bf16⟩
  | .hbm, ⟨16, _⟩ => ⟨S8x16x4096x128, .f32⟩
  | .hbm, ⟨17, _⟩ => ⟨S1x8x16x4096x128, .bf16⟩
  | .hbm, ⟨18, _⟩ => ⟨S8x16x4096x128, .bf16⟩
  | .hbm, ⟨19, _⟩ => ⟨S8x16x4096x128, .f32⟩
  | .hbm, ⟨20, _⟩ => ⟨S1x8x16x4096x128, .bf16⟩
  | .hbm, ⟨21, _⟩ => ⟨S8x16x4096x128, .bf16⟩
  | .hbm, ⟨22, _⟩ => ⟨S8x16x4096x128, .f32⟩
  | .hbm, ⟨23, _⟩ => ⟨S1x8x16x4096x128, .bf16⟩
  | .hbm, ⟨24, _⟩ => ⟨S8x16x4096x128, .bf16⟩
  | .hbm, ⟨25, _⟩ => ⟨S8x16x4096x128, .f32⟩
  | .hbm, ⟨26, _⟩ => ⟨S8x16x4096, .f32⟩
  | .hbm, ⟨27, _⟩ => ⟨S8x16x4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x16x4096x4096, .f32⟩
  | .hbm, ⟨32, _⟩ => ⟨S8x16x4096x4096, .f32⟩
  | .hbm, ⟨33, _⟩ => ⟨S8x16x4096x1, .f32⟩
  | .hbm, ⟨34, _⟩ => ⟨S8x16x4096x4096, .f32⟩
  | .hbm, ⟨35, _⟩ => ⟨S8x16x4096x4096, .f32⟩
  | .hbm, ⟨36, _⟩ => ⟨S8x16x1x4096, .f32⟩
  | .hbm, ⟨37, _⟩ => ⟨S8x16x4096x4096, .f32⟩
  | .hbm, ⟨38, _⟩ => ⟨S8x16x4096x4096, .f32⟩
  | .hbm, ⟨39, _⟩ => ⟨S_, .f32⟩
  | .hbm, ⟨40, _⟩ => ⟨S_, .f32⟩
  | .hbm, ⟨41, _⟩ => ⟨S8x16x4096x4096, .i1⟩
  | .hbm, ⟨42, _⟩ => ⟨S8x16x4096x4096, .f32⟩
  | .hbm, ⟨43, _⟩ => ⟨S8x16x4096x4096, .f32⟩
  | .hbm, ⟨44, _⟩ => ⟨S_, .f32⟩
  | .hbm, ⟨45, _⟩ => ⟨S8x16x4096, .f32⟩
  | .hbm, ⟨46, _⟩ => ⟨S_, .f32⟩
  | .hbm, ⟨47, _⟩ => ⟨S8x16x4096, .f32⟩
  | .hbm, ⟨48, _⟩ => ⟨S8x16x4096, .f32⟩
  | .hbm, ⟨49, _⟩ => ⟨S8x16x4096x1, .f32⟩
  | .hbm, ⟨50, _⟩ => ⟨S8x16x4096x4096, .f32⟩
  | .hbm, ⟨51, _⟩ => ⟨S8x16x4096x4096, .f32⟩
  | .hbm, ⟨52, _⟩ => ⟨S8x16x4096x4096, .f32⟩
  | .hbm, ⟨53, _⟩ => ⟨S_, .f32⟩
  | .hbm, ⟨54, _⟩ => ⟨S8x16x4096, .f32⟩
  | .hbm, ⟨55, _⟩ => ⟨S8x16x4096x1, .f32⟩
  | .hbm, ⟨56, _⟩ => ⟨S8x16x4096x4096, .f32⟩
  | .hbm, ⟨57, _⟩ => ⟨S8x16x4096x4096, .f32⟩
  | .hbm, ⟨58, _⟩ => ⟨S8x16x4096x128, .f32⟩
  | .hbm, ⟨59, _⟩ => ⟨S8x16x4096x128, .f32⟩
  | .hbm, ⟨60, _⟩ => ⟨S8x16x4096x128, .f32⟩
  | .hbm, ⟨61, _⟩ => ⟨S_, .f32⟩
  | .hbm, ⟨62, _⟩ => ⟨S8x16x4096x128, .f32⟩
  | .hbm, ⟨63, _⟩ => ⟨S8x16x4096x128, .f32⟩
  | .hbm, ⟨64, _⟩ => ⟨S_, .f32⟩
  | .hbm, ⟨65, _⟩ => ⟨S8x16x4096x128, .f32⟩
  | .hbm, ⟨66, _⟩ => ⟨S8x16x4096x128, .f32⟩
  | .hbm, ⟨67, _⟩ => ⟨S8x16x4096x128, .f32⟩
  | .hbm, ⟨68, _⟩ => ⟨S8x16x4096x128, .f32⟩
  | .hbm, ⟨69, _⟩ => ⟨S8x4096x16x128, .f32⟩
  | .hbm, ⟨70, _⟩ => ⟨S8x4096x2048, .f32⟩
  | .hbm, ⟨71, _⟩ => ⟨S8x4096x2048, .bf16⟩
  | _, _ => ⟨S8x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_0 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩

abbrev nD : Nat := 1
abbrev τ : Topo := Topo.v7x

variable {F : FTy → Type} [FloatOps F]
-- ==== WindowedIdeal.lean ====
abbrev S8x16 : Shape := ⟨2, ![8, 16]⟩
abbrev S4x8x16x4096x128 : Shape := ⟨5, ![4, 8, 16, 4096, 128]⟩
abbrev S8x16x1x4096 : Shape := ⟨4, ![8, 16, 1, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x16x1x1 : Shape := ⟨4, ![8, 16, 1, 1]⟩
abbrev S1x1x4096x4096 : Shape := ⟨4, ![1, 1, 4096, 4096]⟩
abbrev S8x16x4096x4096 : Shape := ⟨4, ![8, 16, 4096, 4096]⟩
abbrev S1x8x16x4096x128 : Shape := ⟨5, ![1, 8, 16, 4096, 128]⟩
abbrev S8x16x4096x128 : Shape := ⟨4, ![8, 16, 4096, 128]⟩
abbrev S8x16x4096 : Shape := ⟨3, ![8, 16, 4096]⟩
abbrev S8x16x4096x1 : Shape := ⟨4, ![8, 16, 4096, 1]⟩
abbrev S8x4096x16x128 : Shape := ⟨4, ![8, 4096, 16, 128]⟩
abbrev S8x4096x2048 : Shape := ⟨3, ![8, 4096, 2048]⟩

abbrev nBuf : Space → Nat
  | .hbm => 94
  | .vmem => 0
  | .smem => 0
  | _ => 0

abbrev bufTy : (tb : Table) → Fin (tcTables nBuf tb) → BufTy
  | .hbm, ⟨0, _⟩ => ⟨S8x16, .i32⟩
  | .hbm, ⟨1, _⟩ => ⟨S4x8x16x4096x128, .bf16⟩
  | .hbm, ⟨2, _⟩ => ⟨S8x16x1x4096, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S1x4096, .i32⟩
  | .hbm, ⟨8, _⟩ => ⟨S4096x1, .i32⟩
  | .hbm, ⟨9, _⟩ => ⟨S_, .i32⟩
  | .hbm, ⟨10, _⟩ => ⟨S4096x1, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .i1⟩
  | .hbm, ⟨16, _⟩ => ⟨S4096x4096, .i1⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .i1⟩
  | .hbm, ⟨24, _⟩ => ⟨S4096x4096, .i1⟩
  | .hbm, ⟨25, _⟩ => ⟨S4096x4096, .i1⟩
  | .hbm, ⟨26, _⟩ => ⟨S_, .i32⟩
  | .hbm, ⟨27, _⟩ => ⟨S8x16, .i32⟩
  | .hbm, ⟨28, _⟩ => ⟨S8x16, .i1⟩
  | .hbm, ⟨29, _⟩ => ⟨S8x16x1x1, .i1⟩
  | .hbm, ⟨30, _⟩ => ⟨S1x1x4096x4096, .i1⟩
  | .hbm, ⟨31, _⟩ => ⟨S8x16x4096x4096, .i1⟩
  | .hbm, ⟨32, _⟩ => ⟨S8x16x4096x4096, .i1⟩
  | .hbm, ⟨33, _⟩ => ⟨S8x16x4096x4096, .i1⟩
  | .hbm, ⟨34, _⟩ => ⟨S1x1x4096x4096, .i1⟩
  | .hbm, ⟨35, _⟩ => ⟨S8x16x4096x4096, .i1⟩
  | .hbm, ⟨36, _⟩ => ⟨S8x16x4096x4096, .i1⟩
  | .hbm, ⟨37, _⟩ => ⟨S1x8x16x4096x128, .bf16⟩
  | .hbm, ⟨38, _⟩ => ⟨S8x16x4096x128, .bf16⟩
  | .hbm, ⟨39, _⟩ => ⟨S8x16x4096x128, .f32⟩
  | .hbm, ⟨40, _⟩ => ⟨S1x8x16x4096x128, .bf16⟩
  | .hbm, ⟨41, _⟩ => ⟨S8x16x4096x128, .bf16⟩
  | .hbm, ⟨42, _⟩ => ⟨S8x16x4096x128, .f32⟩
  | .hbm, ⟨43, _⟩ => ⟨S1x8x16x4096x128, .bf16⟩
  | .hbm, ⟨44, _⟩ => ⟨S8x16x4096x128, .bf16⟩
  | .hbm, ⟨45, _⟩ => ⟨S8x16x4096x128, .f32⟩
  | .hbm, ⟨46, _⟩ => ⟨S1x8x16x4096x128, .bf16⟩
  | .hbm, ⟨47, _⟩ => ⟨S8x16x4096x128, .bf16⟩
  | .hbm, ⟨48, _⟩ => ⟨S8x16x4096x128, .f32⟩
  | .hbm, ⟨49, _⟩ => ⟨S8x16x4096, .f32⟩
  | .hbm, ⟨50, _⟩ => ⟨S8x16x4096x4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8x16x4096x4096, .f32⟩
  | .hbm, ⟨55, _⟩ => ⟨S8x16x4096x4096, .f32⟩
  | .hbm, ⟨56, _⟩ => ⟨S8x16x4096x1, .f32⟩
  | .hbm, ⟨57, _⟩ => ⟨S8x16x4096x4096, .f32⟩
  | .hbm, ⟨58, _⟩ => ⟨S8x16x4096x4096, .f32⟩
  | .hbm, ⟨59, _⟩ => ⟨S8x16x1x4096, .f32⟩
  | .hbm, ⟨60, _⟩ => ⟨S8x16x4096x4096, .f32⟩
  | .hbm, ⟨61, _⟩ => ⟨S8x16x4096x4096, .f32⟩
  | .hbm, ⟨62, _⟩ => ⟨S_, .f32⟩
  | .hbm, ⟨63, _⟩ => ⟨S_, .f32⟩
  | .hbm, ⟨64, _⟩ => ⟨S8x16x4096x4096, .f32⟩
  | .hbm, ⟨65, _⟩ => ⟨S8x16x4096x4096, .f32⟩
  | .hbm, ⟨66, _⟩ => ⟨S_, .f32⟩
  | .hbm, ⟨67, _⟩ => ⟨S8x16x4096, .f32⟩
  | .hbm, ⟨68, _⟩ => ⟨S_, .f32⟩
  | .hbm, ⟨69, _⟩ => ⟨S8x16x4096, .f32⟩
  | .hbm, ⟨70, _⟩ => ⟨S8x16x4096, .f32⟩
  | .hbm, ⟨71, _⟩ => ⟨S8x16x4096x1, .f32⟩
  | .hbm, ⟨72, _⟩ => ⟨S8x16x4096x4096, .f32⟩
  | .hbm, ⟨73, _⟩ => ⟨S8x16x4096x4096, .f32⟩
  | .hbm, ⟨74, _⟩ => ⟨S8x16x4096x4096, .f32⟩
  | .hbm, ⟨75, _⟩ => ⟨S_, .f32⟩
  | .hbm, ⟨76, _⟩ => ⟨S8x16x4096, .f32⟩
  | .hbm, ⟨77, _⟩ => ⟨S8x16x4096x1, .f32⟩
  | .hbm, ⟨78, _⟩ => ⟨S8x16x4096x4096, .f32⟩
  | .hbm, ⟨79, _⟩ => ⟨S8x16x4096x4096, .f32⟩
  | .hbm, ⟨80, _⟩ => ⟨S8x16x4096x128, .f32⟩
  | .hbm, ⟨81, _⟩ => ⟨S8x16x4096x128, .f32⟩
  | .hbm, ⟨82, _⟩ => ⟨S8x16x4096x128, .f32⟩
  | .hbm, ⟨83, _⟩ => ⟨S_, .f32⟩
  | .hbm, ⟨84, _⟩ => ⟨S8x16x4096x128, .f32⟩
  | .hbm, ⟨85, _⟩ => ⟨S8x16x4096x128, .f32⟩
  | .hbm, ⟨86, _⟩ => ⟨S_, .f32⟩
  | .hbm, ⟨87, _⟩ => ⟨S8x16x4096x128, .f32⟩
  | .hbm, ⟨88, _⟩ => ⟨S8x16x4096x128, .f32⟩
  | .hbm, ⟨89, _⟩ => ⟨S8x16x4096x128, .f32⟩
  | .hbm, ⟨90, _⟩ => ⟨S8x16x4096x128, .f32⟩
  | .hbm, ⟨91, _⟩ => ⟨S8x4096x16x128, .f32⟩
  | .hbm, ⟨92, _⟩ => ⟨S8x4096x2048, .f32⟩
  | .hbm, ⟨93, _⟩ => ⟨S8x4096x2048, .bf16⟩
  | _, _ => ⟨S8x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_call1_v0 : Ref sig .tc := ⟨.hbm, 63, rfl⟩
abbrev main_call1_v1 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩

abbrev nD : Nat := 1
abbrev τ : Topo := Topo.v7x

variable {F : FTy → Type} [FloatOps F]
-- ==== FoxProj.lean ====
abbrev S8x4096x1024 : Shape := ⟨3, ![8, 4096, 1024]⟩
abbrev S2x1024x8208 : Shape := ⟨3, ![2, 1024, 8208]⟩
abbrev S2x8208x1024 : Shape := ⟨3, ![2, 8208, 1024]⟩
abbrev S4x8x16x4096x128 : Shape := ⟨5, ![4, 8, 16, 4096, 128]⟩
abbrev S4x8x2x16x128 : Shape := ⟨5, ![4, 8, 2, 16, 128]⟩
abbrev S1x2048x1024 : Shape := ⟨3, ![1, 2048, 1024]⟩
abbrev S1x1024x1024 : Shape := ⟨3, ![1, 1024, 1024]⟩
abbrev S1x1x8x2048x128 : Shape := ⟨5, ![1, 1, 8, 2048, 128]⟩
abbrev S1x1x1x8x128 : Shape := ⟨5, ![1, 1, 1, 8, 128]⟩
abbrev S2048x1024 : Shape := ⟨2, ![2048, 1024]⟩
abbrev S1024x1024 : Shape := ⟨2, ![1024, 1024]⟩
abbrev S2048x128 : Shape := ⟨2, ![2048, 128]⟩
abbrev S1x1x1x2048x128 : Shape := ⟨5, ![1, 1, 1, 2048, 128]⟩
abbrev S1024x128 : Shape := ⟨2, ![1024, 128]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x128 : Shape := ⟨2, ![1, 128]⟩
abbrev S1x1x1x1x128 : Shape := ⟨5, ![1, 1, 1, 1, 128]⟩

abbrev nBuf : Space → Nat
  | .hbm => 5
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S2x1024x8208, .f32⟩
  | .hbm, ⟨2, _⟩ => ⟨S2x8208x1024, .f32⟩
  | .hbm, ⟨3, _⟩ => ⟨S4x8x16x4096x128, .bf16⟩
  | .hbm, ⟨4, _⟩ => ⟨S4x8x2x16x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x8x2048x128, .bf16⟩
  | .local _ .vmem, ⟨5, _⟩ => ⟨S1x1x8x2048x128, .bf16⟩
  | .local _ .vmem, ⟨6, _⟩ => ⟨S1x1x1x8x128, .f32⟩
  | .local _ .vmem, ⟨7, _⟩ => ⟨S1x1x1x8x128, .f32⟩
  | .local _ .vmem, ⟨8, _⟩ => ⟨S2048x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, arg1.toNat, c0_i32_10.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, arg1.toNat, v26.toNat, c0_i32_10.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x8x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FoxProjIdeal.lean ====
variable {F : FTy → Type} [FloatOps F] [Named F]
def κ : String → Option EReal := fun
  | "qscale" => some (((Real.sqrt 128)⁻¹ * (Real.log 2)⁻¹ : ℝ) : EReal)
  | _ => none
-- ==== FoxProjectedIdeal.lean ====
abbrev S8x4096x1024 : Shape := ⟨3, ![8, 4096, 1024]⟩
abbrev S2x1024x8208 : Shape := ⟨3, ![2, 1024, 8208]⟩
abbrev S1x1024x8208 : Shape := ⟨3, ![1, 1024, 8208]⟩
abbrev S1024x8208 : Shape := ⟨2, ![1024, 8208]⟩
abbrev S8x4096x8208 : Shape := ⟨3, ![8, 4096, 8208]⟩
abbrev S8x4096x2048 : Shape := ⟨3, ![8, 4096, 2048]⟩
abbrev S8x4096x16x128 : Shape := ⟨4, ![8, 4096, 16, 128]⟩
abbrev S8x16x4096x128 : Shape := ⟨4, ![8, 16, 4096, 128]⟩
abbrev S_ : Shape := ⟨0, ![]⟩
abbrev S1x8x16x4096x128 : Shape := ⟨5, ![1, 8, 16, 4096, 128]⟩
abbrev S4x8x16x4096x128 : Shape := ⟨5, ![4, 8, 16, 4096, 128]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024x8208, .f32⟩
  | .hbm, ⟨2, _⟩ => ⟨S1x1024x8208, .f32⟩
  | .hbm, ⟨3, _⟩ => ⟨S1024x8208, .f32⟩
  | .hbm, ⟨4, _⟩ => ⟨S8x4096x8208, .f32⟩
  | .hbm, ⟨5, _⟩ => ⟨S8x4096x2048, .f32⟩
  | .hbm, ⟨6, _⟩ => ⟨S8x4096x16x128, .f32⟩
  | .hbm, ⟨7, _⟩ => ⟨S8x16x4096x128, .f32⟩
  | .hbm, ⟨8, _⟩ => ⟨S8x4096x2048, .f32⟩
  | .hbm, ⟨9, _⟩ => ⟨S8x4096x16x128, .f32⟩
  | .hbm, ⟨10, _⟩ => ⟨S8x16x4096x128, .f32⟩
  | .hbm, ⟨11, _⟩ => ⟨S8x4096x2048, .f32⟩
  | .hbm, ⟨12, _⟩ => ⟨S8x4096x16x128, .f32⟩
  | .hbm, ⟨13, _⟩ => ⟨S8x16x4096x128, .f32⟩
  | .hbm, ⟨14, _⟩ => ⟨S8x4096x2048, .f32⟩
  | .hbm, ⟨15, _⟩ => ⟨S8x4096x16x128, .f32⟩
  | .hbm, ⟨16, _⟩ => ⟨S8x16x4096x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x16x4096x128, .f32⟩
  | .hbm, ⟨24, _⟩ => ⟨S8x16x4096x128, .f32⟩
  | .hbm, ⟨25, _⟩ => ⟨S1x8x16x4096x128, .f32⟩
  | .hbm, ⟨26, _⟩ => ⟨S1x8x16x4096x128, .f32⟩
  | .hbm, ⟨27, _⟩ => ⟨S1x8x16x4096x128, .f32⟩
  | .hbm, ⟨28, _⟩ => ⟨S1x8x16x4096x128, .f32⟩
  | .hbm, ⟨29, _⟩ => ⟨S4x8x16x4096x128, .f32⟩
  | .hbm, ⟨30, _⟩ => ⟨S4x8x16x4096x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== SbProj.lean ====
abbrev S8x4096x1024 : Shape := ⟨3, ![8, 4096, 1024]⟩
abbrev S2x1024x8192 : Shape := ⟨3, ![2, 1024, 8192]⟩
abbrev S4x8x16x4096x128 : Shape := ⟨5, ![4, 8, 16, 4096, 128]⟩
abbrev S1x2048x1024 : Shape := ⟨3, ![1, 2048, 1024]⟩
abbrev S1x1024x1024 : Shape := ⟨3, ![1, 1024, 1024]⟩
abbrev S1x1x8x2048x128 : Shape := ⟨5, ![1, 1, 8, 2048, 128]⟩
abbrev S2048x1024 : Shape := ⟨2, ![2048, 1024]⟩
abbrev S1024x1024 : Shape := ⟨2, ![1024, 1024]⟩
abbrev S2048x128 : Shape := ⟨2, ![2048, 128]⟩
abbrev S1x1x1x2048x128 : Shape := ⟨5, ![1, 1, 1, 2048, 128]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S2x1024x8192, .f32⟩
  | .hbm, ⟨2, _⟩ => ⟨S4x8x16x4096x128, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x8x2048x128, .bf16⟩
  | .local _ .vmem, ⟨5, _⟩ => ⟨S1x1x8x2048x128, .bf16⟩
  | .local _ .vmem, ⟨6, _⟩ => ⟨S2048x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, arg1.toNat, c0_i32_10.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x8x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== SbProjIdeal.lean ====
variable {F : FTy → Type} [FloatOps F] [Named F]
def κ : String → Option EReal := fun
  | "qscale" => some (((Real.sqrt 128)⁻¹ * (Real.log 2)⁻¹ : ℝ) : EReal)
  | _ => none
-- ==== SbProjectedIdeal.lean ====
abbrev S8x4096x1024 : Shape := ⟨3, ![8, 4096, 1024]⟩
abbrev S2x1024x8192 : Shape := ⟨3, ![2, 1024, 8192]⟩
abbrev S1x1024x8192 : Shape := ⟨3, ![1, 1024, 8192]⟩
abbrev S1024x8192 : Shape := ⟨2, ![1024, 8192]⟩
abbrev S8x4096x8192 : Shape := ⟨3, ![8, 4096, 8192]⟩
abbrev S8x4096x2048 : Shape := ⟨3, ![8, 4096, 2048]⟩
abbrev S8x4096x16x128 : Shape := ⟨4, ![8, 4096, 16, 128]⟩
abbrev S8x16x4096x128 : Shape := ⟨4, ![8, 16, 4096, 128]⟩
abbrev S_ : Shape := ⟨0, ![]⟩
abbrev S1x8x16x4096x128 : Shape := ⟨5, ![1, 8, 16, 4096, 128]⟩
abbrev S4x8x16x4096x128 : Shape := ⟨5, ![4, 8, 16, 4096, 128]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024x8192, .f32⟩
  | .hbm, ⟨2, _⟩ => ⟨S1x1024x8192, .f32⟩
  | .hbm, ⟨3, _⟩ => ⟨S1024x8192, .f32⟩
  | .hbm, ⟨4, _⟩ => ⟨S8x4096x8192, .f32⟩
  | .hbm, ⟨5, _⟩ => ⟨S8x4096x2048, .f32⟩
  | .hbm, ⟨6, _⟩ => ⟨S8x4096x16x128, .f32⟩
  | .hbm, ⟨7, _⟩ => ⟨S8x16x4096x128, .f32⟩
  | .hbm, ⟨8, _⟩ => ⟨S8x4096x2048, .f32⟩
  | .hbm, ⟨9, _⟩ => ⟨S8x4096x16x128, .f32⟩
  | .hbm, ⟨10, _⟩ => ⟨S8x16x4096x128, .f32⟩
  | .hbm, ⟨11, _⟩ => ⟨S8x4096x2048, .f32⟩
  | .hbm, ⟨12, _⟩ => ⟨S8x4096x16x128, .f32⟩
  | .hbm, ⟨13, _⟩ => ⟨S8x16x4096x128, .f32⟩
  | .hbm, ⟨14, _⟩ => ⟨S8x4096x2048, .f32⟩
  | .hbm, ⟨15, _⟩ => ⟨S8x4096x16x128, .f32⟩
  | .hbm, ⟨16, _⟩ => ⟨S8x16x4096x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x16x4096x128, .f32⟩
  | .hbm, ⟨24, _⟩ => ⟨S8x16x4096x128, .f32⟩
  | .hbm, ⟨25, _⟩ => ⟨S1x8x16x4096x128, .f32⟩
  | .hbm, ⟨26, _⟩ => ⟨S1x8x16x4096x128, .f32⟩
  | .hbm, ⟨27, _⟩ => ⟨S1x8x16x4096x128, .f32⟩
  | .hbm, ⟨28, _⟩ => ⟨S1x8x16x4096x128, .f32⟩
  | .hbm, ⟨29, _⟩ => ⟨S4x8x16x4096x128, .f32⟩
  | .hbm, ⟨30, _⟩ => ⟨S4x8x16x4096x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== OutNorm.lean ====
abbrev S8x4096x2048 : Shape := ⟨3, ![8, 4096, 2048]⟩
abbrev S2x2048x1024 : Shape := ⟨3, ![2, 2048, 1024]⟩
abbrev S8x4096x1024 : Shape := ⟨3, ![8, 4096, 1024]⟩
abbrev S4x1024 : Shape := ⟨2, ![4, 1024]⟩
abbrev S1x1024 : Shape := ⟨2, ![1, 1024]⟩
abbrev S1024 : Shape := ⟨1, ![1024]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1x256x2048 : Shape := ⟨3, ![1, 256, 2048]⟩
abbrev S256x2048 : Shape := ⟨2, ![256, 2048]⟩
abbrev S2048x1024 : Shape := ⟨2, ![2048, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 13
  | .vmem => 9
  | .smem => 0
  | _ => 0

abbrev bufTy : (tb : Table) → Fin (tcTables nBuf tb) → BufTy
  | .hbm, ⟨0, _⟩ => ⟨S8x4096x2048, .bf16⟩
  | .hbm, ⟨1, _⟩ => ⟨S2x2048x1024, .f32⟩
  | .hbm, ⟨2, _⟩ => ⟨S8x4096x1024, .f32⟩
  | .hbm, ⟨3, _⟩ => ⟨S4x1024, .f32⟩
  | .hbm, ⟨4, _⟩ => ⟨S4x1024, .f32⟩
  | .hbm, ⟨5, _⟩ => ⟨S2x2048x1024, .bf16⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S8x4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NormedIdeal.lean ====
abbrev S8x4096x2048 : Shape := ⟨3, ![8, 4096, 2048]⟩
abbrev S2x2048x1024 : Shape := ⟨3, ![2, 2048, 1024]⟩
abbrev S8x4096x1024 : Shape := ⟨3, ![8, 4096, 1024]⟩
abbrev S4x1024 : Shape := ⟨2, ![4, 1024]⟩
abbrev S1x2048x1024 : Shape := ⟨3, ![1, 2048, 1024]⟩
abbrev S2048x1024 : Shape := ⟨2, ![2048, 1024]⟩
abbrev S_ : Shape := ⟨0, ![]⟩
abbrev S8x4096 : Shape := ⟨2, ![8, 4096]⟩
abbrev S8x4096x1 : Shape := ⟨3, ![8, 4096, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2x2048x1024, .f32⟩
  | .hbm, ⟨2, _⟩ => ⟨S8x4096x1024, .f32⟩
  | .hbm, ⟨3, _⟩ => ⟨S4x1024, .f32⟩
  | .hbm, ⟨4, _⟩ => ⟨S4x1024, .f32⟩
  | .hbm, ⟨5, _⟩ => ⟨S8x4096x2048, .f32⟩
  | .hbm, ⟨6, _⟩ => ⟨S1x2048x1024, .f32⟩
  | .hbm, ⟨7, _⟩ => ⟨S2048x1024, .f32⟩
  | .hbm, ⟨8, _⟩ => ⟨S8x4096x1024, .f32⟩
  | .hbm, ⟨9, _⟩ => ⟨S_, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S1x1024, .f32⟩
  | .hbm, ⟨42, _⟩ => ⟨S1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== SbMix.lean ====
abbrev S4x8x16x4096x128 : Shape := ⟨5, ![4, 8, 16, 4096, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x4096x2048 : Shape := ⟨3, ![8, 4096, 2048]⟩
abbrev S1x1x1x4096x128 : Shape := ⟨5, ![1, 1, 1, 4096, 128]⟩
abbrev S1x4096x128 : Shape := ⟨3, ![1, 4096, 128]⟩
abbrev S4096x128 : Shape := ⟨2, ![4096, 128]⟩
abbrev S4096x1 : Shape := ⟨2, ![4096, 1]⟩
abbrev S1x1x1x256x128 : Shape := ⟨5, ![1, 1, 1, 256, 128]⟩
abbrev S256x128 : Shape := ⟨2, ![256, 128]⟩
abbrev S1x256x128 : Shape := ⟨3, ![1, 256, 128]⟩
abbrev S1x1x1x512x128 : Shape := ⟨5, ![1, 1, 1, 512, 128]⟩
abbrev S512x128 : Shape := ⟨2, ![512, 128]⟩
abbrev S256x512 : Shape := ⟨2, ![256, 512]⟩
abbrev S1x256x1 : Shape := ⟨3, ![1, 256, 1]⟩
abbrev S1 : Shape := ⟨1, ![1]⟩
abbrev S1x1x1 : Shape := ⟨3, ![1, 1, 1]⟩
abbrev S1x1x1x768x128 : Shape := ⟨5, ![1, 1, 1, 768, 128]⟩
abbrev S768x128 : Shape := ⟨2, ![768, 128]⟩
abbrev S256x768 : Shape := ⟨2, ![256, 768]⟩
abbrev S1x1x1x1024x128 : Shape := ⟨5, ![1, 1, 1, 1024, 128]⟩
abbrev S1024x128 : Shape := ⟨2, ![1024, 128]⟩
abbrev S256x1024 : Shape := ⟨2, ![256, 1024]⟩
abbrev S1x1x1x1280x128 : Shape := ⟨5, ![1, 1, 1, 1280, 128]⟩
abbrev S1280x128 : Shape := ⟨2, ![1280, 128]⟩
abbrev S256x1280 : Shape := ⟨2, ![256, 1280]⟩
abbrev S1x1x1x1536x128 : Shape := ⟨5, ![1, 1, 1, 1536, 128]⟩
abbrev S1536x128 : Shape := ⟨2, ![1536, 128]⟩
abbrev S256x1536 : Shape := ⟨2, ![256, 1536]⟩
abbrev S1x1x1x1792x128 : Shape := ⟨5, ![1, 1, 1, 1792, 128]⟩
abbrev S1792x128 : Shape := ⟨2, ![1792, 128]⟩
abbrev S256x1792 : Shape := ⟨2, ![256, 1792]⟩
abbrev S1x1x1x2048x128 : Shape := ⟨5, ![1, 1, 1, 2048, 128]⟩
abbrev S2048x128 : Shape := ⟨2, ![2048, 128]⟩
abbrev S256x2048 : Shape := ⟨2, ![256, 2048]⟩
abbrev S1x1x1x2304x128 : Shape := ⟨5, ![1, 1, 1, 2304, 128]⟩
abbrev S2304x128 : Shape := ⟨2, ![2304, 128]⟩
abbrev S256x2304 : Shape := ⟨2, ![256, 2304]⟩
abbrev S1x1x1x2560x128 : Shape := ⟨5, ![1, 1, 1, 2560, 128]⟩
abbrev S2560x128 : Shape := ⟨2, ![2560, 128]⟩
abbrev S256x2560 : Shape := ⟨2, ![256, 2560]⟩
abbrev S1x1x1x2816x128 : Shape := ⟨5, ![1, 1, 1, 2816, 128]⟩
abbrev S2816x128 : Shape := ⟨2, ![2816, 128]⟩
abbrev S256x2816 : Shape := ⟨2, ![256, 2816]⟩
abbrev S1x1x1x3072x128 : Shape := ⟨5, ![1, 1, 1, 3072, 128]⟩
abbrev S3072x128 : Shape := ⟨2, ![3072, 128]⟩
abbrev S256x3072 : Shape := ⟨2, ![256, 3072]⟩
abbrev S1x1x1x3328x128 : Shape := ⟨5, ![1, 1, 1, 3328, 128]⟩
abbrev S3328x128 : Shape := ⟨2, ![3328, 128]⟩
abbrev S256x3328 : Shape := ⟨2, ![256, 3328]⟩
abbrev S1x1x1x3584x128 : Shape := ⟨5, ![1, 1, 1, 3584, 128]⟩
abbrev S3584x128 : Shape := ⟨2, ![3584, 128]⟩
abbrev S256x3584 : Shape := ⟨2, ![256, 3584]⟩

abbrev nBuf : Space → Nat
  | .hbm => 10
  | .vmem => 13
  | .smem => 0
  | _ => 0

abbrev bufTy : (tb : Table) → Fin (tcTables nBuf tb) → BufTy
  | .hbm, ⟨0, _⟩ => ⟨S4x8x16x4096x128, .bf16⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .bf16⟩
  | .hbm, ⟨9, _⟩ => ⟨S8x4096x2048, .bf16⟩
  | .local _ .vmem, ⟨0, _⟩ => ⟨S1x1x1x4096x128, .bf16⟩
  | .local _ .vmem, ⟨1, _⟩ => ⟨S1x1x1x4096x128, .bf16⟩
  | .local _ .vmem, ⟨2, _⟩ => ⟨S1x1x1x4096x128, .bf16⟩
  | .local _ .vmem, ⟨3, _⟩ => ⟨S1x1x1x4096x128, .bf16⟩
  | .local _ .vmem, ⟨4, _⟩ => ⟨S1x1x1x4096x128, .bf16⟩
  | .local _ .vmem, ⟨5, _⟩ => ⟨S1x1x1x4096x128, .bf16⟩
  | .local _ .vmem, ⟨6, _⟩ => ⟨S1x1x1x4096x128, .bf16⟩
  | .local _ .vmem, ⟨7, _⟩ => ⟨S1x1x1x4096x128, .bf16⟩
  | .local _ .vmem, ⟨8, _⟩ => ⟨S256x256, .bf16⟩
  | .local _ .vmem, ⟨9, _⟩ => ⟨S1x4096x128, .bf16⟩
  | .local _ .vmem, ⟨10, _⟩ => ⟨S1x4096x128, .bf16⟩
  | .local _ .vmem, ⟨11, _⟩ => ⟨S4096x128, .f32⟩
  | .local _ .vmem, ⟨12, _⟩ => ⟨S4096x1, .f32⟩
  | _, _ => ⟨S4x8x16x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbMixIdeal.lean ====
variable {F : FTy → Type} [FloatOps F] [Named F]
def κ : String → Option EReal := fun
  | "perln2" => some (((Real.log 2)⁻¹ : ℝ) : EReal)
  | _ => none
-- ==== SbMixedIdeal.lean ====
abbrev S4x8x16x4096x128 : Shape := ⟨5, ![4, 8, 16, 4096, 128]⟩
abbrev S1x8x16x4096x128 : Shape := ⟨5, ![1, 8, 16, 4096, 128]⟩
abbrev S8x16x4096x128 : Shape := ⟨4, ![8, 16, 4096, 128]⟩
abbrev S4096 : Shape := ⟨1, ![4096]⟩
abbrev S8x16x4096x4096 : Shape := ⟨4, ![8, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x16x4096 : Shape := ⟨3, ![8, 16, 4096]⟩
abbrev S8x16x16x256 : Shape := ⟨4, ![8, 16, 16, 256]⟩
abbrev S8x16x16 : Shape := ⟨3, ![8, 16, 16]⟩
abbrev S8x16x16x1 : Shape := ⟨4, ![8, 16, 16, 1]⟩
abbrev S8x16x4096x1 : Shape := ⟨4, ![8, 16, 4096, 1]⟩
abbrev S1x1x4096x4096 : Shape := ⟨4, ![1, 1, 4096, 4096]⟩
abbrev S8x4096x16x128 : Shape := ⟨4, ![8, 4096, 16, 128]⟩
abbrev S8x4096x2048 : Shape := ⟨3, ![8, 4096, 2048]⟩

abbrev nBuf : Space → Nat
  | .hbm => 103
  | .vmem => 0
  | .smem => 0
  | _ => 0

abbrev bufTy : (tb : Table) → Fin (tcTables nBuf tb) → BufTy
  | .hbm, ⟨0, _⟩ => ⟨S4x8x16x4096x128, .bf16⟩
  | .hbm, ⟨1, _⟩ => ⟨S1x8x16x4096x128, .bf16⟩
  | .hbm, ⟨2, _⟩ => ⟨S8x16x4096x128, .bf16⟩
  | .hbm, ⟨3, _⟩ => ⟨S8x16x4096x128, .f32⟩
  | .hbm, ⟨4, _⟩ => ⟨S1x8x16x4096x128, .bf16⟩
  | .hbm, ⟨5, _⟩ => ⟨S8x16x4096x128, .bf16⟩
  | .hbm, ⟨6, _⟩ => ⟨S8x16x4096x128, .f32⟩
  | .hbm, ⟨7, _⟩ => ⟨S1x8x16x4096x128, .bf16⟩
  | .hbm, ⟨8, _⟩ => ⟨S8x16x4096x128, .bf16⟩
  | .hbm, ⟨9, _⟩ => ⟨S8x16x4096x128, .f32⟩
  | .hbm, ⟨10, _⟩ => ⟨S1x8x16x4096x128, .bf16⟩
  | .hbm, ⟨11, _⟩ => ⟨S8x16x4096x128, .bf16⟩
  | .hbm, ⟨12, _⟩ => ⟨S8x16x4096x128, .f32⟩
  | .hbm, ⟨13, _⟩ => ⟨S4096, .i32⟩
  | .hbm, ⟨14, _⟩ => ⟨S8x16x4096x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8x16x4096x4096, .f32⟩
  | .hbm, ⟨19, _⟩ => ⟨S8x16x4096x4096, .f32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S8x16x4096x4096, .f32⟩
  | .hbm, ⟨26, _⟩ => ⟨S_, .f32⟩
  | .hbm, ⟨27, _⟩ => ⟨S8x16x4096x4096, .f32⟩
  | .hbm, ⟨28, _⟩ => ⟨S8x16x4096x4096, .f32⟩
  | .hbm, ⟨29, _⟩ => ⟨S8x16x4096x4096, .f32⟩
  | .hbm, ⟨30, _⟩ => ⟨S8x16x4096x4096, .f32⟩
  | .hbm, ⟨31, _⟩ => ⟨S_, .f32⟩
  | .hbm, ⟨32, _⟩ => ⟨S_, .f32⟩
  | .hbm, ⟨33, _⟩ => ⟨S8x16x4096x4096, .i1⟩
  | .hbm, ⟨34, _⟩ => ⟨S8x16x4096x4096, .f32⟩
  | .hbm, ⟨35, _⟩ => ⟨S8x16x4096x4096, .f32⟩
  | .hbm, ⟨36, _⟩ => ⟨S4096x4096, .f32⟩
  | .hbm, ⟨37, _⟩ => ⟨S8x16x4096x4096, .f32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S1x4096, .i32⟩
  | .hbm, ⟨42, _⟩ => ⟨S4096x1, .i32⟩
  | .hbm, ⟨43, _⟩ => ⟨S_, .i32⟩
  | .hbm, ⟨44, _⟩ => ⟨S4096x1, .i32⟩
  | .hbm, ⟨45, _⟩ => ⟨S4096x1, .i32⟩
  | .hbm, ⟨46, _⟩ => ⟨S4096x4096, .i32⟩
  | .hbm, ⟨47, _⟩ => ⟨S4096x4096, .i32⟩
  | .hbm, ⟨48, _⟩ => ⟨S4096x4096, .i1⟩
  | .hbm, ⟨49, _⟩ => ⟨S_, .f32⟩
  | .hbm, ⟨50, _⟩ => ⟨S_, .f32⟩
  | .hbm, ⟨51, _⟩ => ⟨S8x16x4096x4096, .i1⟩
  | .hbm, ⟨52, _⟩ => ⟨S8x16x4096x4096, .f32⟩
  | .hbm, ⟨53, _⟩ => ⟨S8x16x4096x4096, .f32⟩
  | .hbm, ⟨54, _⟩ => ⟨S_, .f32⟩
  | .hbm, ⟨55, _⟩ => ⟨S8x16x4096, .f32⟩
  | .hbm, ⟨56, _⟩ => ⟨S8x16x16x256, .f32⟩
  | .hbm, ⟨57, _⟩ => ⟨S_, .f32⟩
  | .hbm, ⟨58, _⟩ => ⟨S8x16x16, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8x16x16, .f32⟩
  | .hbm, ⟨65, _⟩ => ⟨S8x16x16, .i1⟩
  | .hbm, ⟨66, _⟩ => ⟨S8x16x16x1, .i1⟩
  | .hbm, ⟨67, _⟩ => ⟨S8x16x16x256, .i1⟩
  | .hbm, ⟨68, _⟩ => ⟨S8x16x4096, .i1⟩
  | .hbm, ⟨69, _⟩ => ⟨S8x16x4096x1, .i1⟩
  | .hbm, ⟨70, _⟩ => ⟨S1x1x4096x4096, .i1⟩
  | .hbm, ⟨71, _⟩ => ⟨S8x16x4096x4096, .i1⟩
  | .hbm, ⟨72, _⟩ => ⟨S8x16x4096x4096, .i1⟩
  | .hbm, ⟨73, _⟩ => ⟨S8x16x4096x4096, .i1⟩
  | .hbm, ⟨74, _⟩ => ⟨S1x1x4096x4096, .i1⟩
  | .hbm, ⟨75, _⟩ => ⟨S8x16x4096x4096, .i1⟩
  | .hbm, ⟨76, _⟩ => ⟨S8x16x4096x4096, .i1⟩
  | .hbm, ⟨77, _⟩ => ⟨S8x16x4096x4096, .f32⟩
  | .hbm, ⟨78, _⟩ => ⟨S_, .f32⟩
  | .hbm, ⟨79, _⟩ => ⟨S8x16x4096x4096, .f32⟩
  | .hbm, ⟨80, _⟩ => ⟨S8x16x4096x4096, .f32⟩
  | .hbm, ⟨81, _⟩ => ⟨S8x16x4096x4096, .f32⟩
  | .hbm, ⟨82, _⟩ => ⟨S8x16x4096x4096, .f32⟩
  | .hbm, ⟨83, _⟩ => ⟨S8x16x4096x4096, .f32⟩
  | .hbm, ⟨84, _⟩ => ⟨S8x16x4096x4096, .f32⟩
  | .hbm, ⟨85, _⟩ => ⟨S_, .f32⟩
  | .hbm, ⟨86, _⟩ => ⟨S_, .f32⟩
  | .hbm, ⟨87, _⟩ => ⟨S8x16x4096x4096, .f32⟩
  | .hbm, ⟨88, _⟩ => ⟨S8x16x4096x4096, .f32⟩
  | .hbm, ⟨89, _⟩ => ⟨S8x16x4096x128, .f32⟩
  | .hbm, ⟨90, _⟩ => ⟨S8x16x4096x128, .f32⟩
  | .hbm, ⟨91, _⟩ => ⟨S8x16x4096x128, .f32⟩
  | .hbm, ⟨92, _⟩ => ⟨S_, .f32⟩
  | .hbm, ⟨93, _⟩ => ⟨S8x16x4096x128, .f32⟩
  | .hbm, ⟨94, _⟩ => ⟨S8x16x4096x128, .f32⟩
  | .hbm, ⟨95, _⟩ => ⟨S_, .f32⟩
  | .hbm, ⟨96, _⟩ => ⟨S8x16x4096x128, .f32⟩
  | .hbm, ⟨97, _⟩ => ⟨S8x16x4096x128, .f32⟩
  | .hbm, ⟨98, _⟩ => ⟨S8x16x4096x128, .f32⟩
  | .hbm, ⟨99, _⟩ => ⟨S8x16x4096x128, .f32⟩
  | .hbm, ⟨100, _⟩ => ⟨S8x4096x16x128, .f32⟩
  | .hbm, ⟨101, _⟩ => ⟨S8x4096x2048, .f32⟩
  | .hbm, ⟨102, _⟩ => ⟨S8x4096x2048, .bf16⟩
  | _, _ => ⟨S4x8x16x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_cst_0 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_call2_v0 : Ref sig .tc := ⟨.hbm, 86, rfl⟩
abbrev main_call2_v1 : Ref sig .tc := ⟨.hbm, 87, rfl⟩
abbrev main_v67 : Ref sig .tc := ⟨.hbm, 88, rfl⟩
abbrev main_v68 : Ref sig .tc := ⟨.hbm, 89, rfl⟩
abbrev main_call3_v0 : Ref sig .tc := ⟨.hbm, 90, rfl⟩
abbrev main_call3_v1 : Ref sig .tc := ⟨.hbm, 91, rfl⟩
abbrev main_call3_cst : Ref sig .tc := ⟨.hbm, 92, rfl⟩
abbrev main_call3_v2 : Ref sig .tc := ⟨.hbm, 93, rfl⟩
abbrev main_call3_v3 : Ref sig .tc := ⟨.hbm, 94, rfl⟩
abbrev main_call3_cst_0 : Ref sig .tc := ⟨.hbm, 95, rfl⟩
abbrev main_call3_v4 : Ref sig .tc := ⟨.hbm, 96, rfl⟩
abbrev main_call3_v5 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== FoxOutNorm.lean ====
abbrev S8x4096x2048 : Shape := ⟨3, ![8, 4096, 2048]⟩
abbrev S2x2048x1024 : Shape := ⟨3, ![2, 2048, 1024]⟩
abbrev S8x4096x1024 : Shape := ⟨3, ![8, 4096, 1024]⟩
abbrev S4x1024 : Shape := ⟨2, ![4, 1024]⟩
abbrev S1x1024 : Shape := ⟨2, ![1, 1024]⟩
abbrev S1024 : Shape := ⟨1, ![1024]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1x256x2048 : Shape := ⟨3, ![1, 256, 2048]⟩
abbrev S256x2048 : Shape := ⟨2, ![256, 2048]⟩
abbrev S2048x1024 : Shape := ⟨2, ![2048, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 13
  | .vmem => 9
  | .smem => 0
  | _ => 0

abbrev bufTy : (tb : Table) → Fin (tcTables nBuf tb) → BufTy
  | .hbm, ⟨0, _⟩ => ⟨S8x4096x2048, .bf16⟩
  | .hbm, ⟨1, _⟩ => ⟨S2x2048x1024, .f32⟩
  | .hbm, ⟨2, _⟩ => ⟨S8x4096x1024, .f32⟩
  | .hbm, ⟨3, _⟩ => ⟨S4x1024, .f32⟩
  | .hbm, ⟨4, _⟩ => ⟨S4x1024, .f32⟩
  | .hbm, ⟨5, _⟩ => ⟨S2x2048x1024, .bf16⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S8x4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxNormedIdeal.lean ====
abbrev S8x4096x2048 : Shape := ⟨3, ![8, 4096, 2048]⟩
abbrev S2x2048x1024 : Shape := ⟨3, ![2, 2048, 1024]⟩
abbrev S8x4096x1024 : Shape := ⟨3, ![8, 4096, 1024]⟩
abbrev S4x1024 : Shape := ⟨2, ![4, 1024]⟩
abbrev S1x2048x1024 : Shape := ⟨3, ![1, 2048, 1024]⟩
abbrev S2048x1024 : Shape := ⟨2, ![2048, 1024]⟩
abbrev S_ : Shape := ⟨0, ![]⟩
abbrev S8x4096 : Shape := ⟨2, ![8, 4096]⟩
abbrev S8x4096x1 : Shape := ⟨3, ![8, 4096, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2x2048x1024, .f32⟩
  | .hbm, ⟨2, _⟩ => ⟨S8x4096x1024, .f32⟩
  | .hbm, ⟨3, _⟩ => ⟨S4x1024, .f32⟩
  | .hbm, ⟨4, _⟩ => ⟨S4x1024, .f32⟩
  | .hbm, ⟨5, _⟩ => ⟨S8x4096x2048, .f32⟩
  | .hbm, ⟨6, _⟩ => ⟨S1x2048x1024, .f32⟩
  | .hbm, ⟨7, _⟩ => ⟨S2048x1024, .f32⟩
  | .hbm, ⟨8, _⟩ => ⟨S8x4096x1024, .f32⟩
  | .hbm, ⟨9, _⟩ => ⟨S_, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S1x1024, .f32⟩
  | .hbm, ⟨42, _⟩ => ⟨S1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.KernelIdealRun.lean ====
/-
  What one grid point of the attention kernel leaves, and the frame of the whole call, for the program `KernelIdeal`.

  The kernel's body is run once for each answer of its one question, "is this (batch, head)'s flag word zero?". Each run
  yields the list of the eight 512-row pieces it stores into the result's staging buffer (`runNear`, `runFull`). The
  pieces tile the buffer, so they determine what it holds (`outAt`). The proof data `dats` hand that to the pipeline
  library, which gives the run of the whole call (`run_main`) and its frame.
-/
module

public import proofs.«01_k».proof.Proof.Gen.KernelIdeal.Frame
public import Idealize.ShloMosaic.Lib.Tactic

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Memref `M`'s buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The flag word of grid point `i`, read from the whole array of flags `x2`. -/
def flagWord (i : grid0.Coords) (x2 : Vec F S8x16 .i32) : BitVec 32 :=
  View.ld x2 (Rect.unit (s := S8x16) (k0_off1 i) S1x1.size (k0_off1_inb i)) (Shape.Idx.first (numel1_S1x1.symm ▸ Nat.one_pos))

/-- A word is zero exactly when the printed test of it succeeds. -/
theorem eq_test (w : BitVec 32) : Scalar.cmpi .ne (Scalar.extui (Scalar.cmpi .eq w 0#32) : BitVec 32) 0#32 = 1#1 ↔ w = 0#32 := by
  by_cases h : w = 0#32
  · subst h; exact ⟨fun _ => rfl, fun _ => by decide⟩
  · have : Scalar.cmpi .eq w 0#32 = 0#1 := by
      unfold Scalar.cmpi IntOp.cmpi; show BitVec.ofBool (w == 0#32) = 0#1; rw [beq_eq_false_iff_ne.mpr h]; rfl
    rw [this]; exact ⟨fun h' => absurd h' (by decide), fun h' => absurd h' h⟩

/-- A word is not zero exactly when the printed test of that succeeds. -/
theorem ne_test (w : BitVec 32) : Scalar.cmpi .ne (Scalar.extui (Scalar.cmpi .ne w 0#32) : BitVec 32) 0#32 = 1#1 ↔ w ≠ 0#32 := by
  by_cases h : w = 0#32
  · subst h; exact ⟨fun h' => absurd h' (by decide), fun h' => absurd rfl h'⟩
  · have : Scalar.cmpi .ne w 0#32 = 1#1 := by
      unfold Scalar.cmpi IntOp.cmpi; show BitVec.ofBool (w != 0#32) = 1#1; rw [bne_iff_ne.mpr h]; rfl
    rw [this]; exact ⟨fun _ => h, fun _ => by decide⟩

section Body

variable (c : Dev nD) (i : grid0.Coords)
  (a2 : Memref sig .tc .smem S8x16 .i32) (h2 : a2.IsWhole)
  (a3 : Memref sig .tc .vmem S1x1x1x4096x128 .bf16) (h3 : a3.IsWhole)
  (a4 : Memref sig .tc .vmem S1x1x1x4096x128 .bf16) (h4 : a4.IsWhole)
  (a5 : Memref sig .tc .vmem S1x1x1x4096x128 .bf16) (h5 : a5.IsWhole)
  (a6 : Memref sig .tc .vmem S1x1x1x4096x128 .bf16) (h6 : a6.IsWhole)
  (a7 : Memref sig .tc .vmem S1x1x1x4096 .f32) (h7 : a7.IsWhole)
  (a8 : Memref sig .tc .vmem S1x4096x128 .bf16) (h8 : a8.IsWhole)
  (a9 : Memref sig .tc .vmem S4096x256 .bf16) (h9 : a9.IsWhole)
  (x2 : Vec F S8x16 .i32) (x3 x4 x5 x6 : Vec F S1x1x1x4096x128 .bf16) (x7 : Vec F S1x1x1x4096 .f32)

/-- From the buffers of one grid point — flags, queries, keys, values, gates and forget sums at `x2 … x7`, result and
    scratch at anything — the body runs to its end, leaves the inputs as they were, and the result's buffer with the
    pieces `L` written over what it held. -/
def BodyRuns (L : List (View.Piece (Elt F) S1x4096x128 .bf16)) : Prop :=
  ∀ (f8 : Buf (Elt F) (a8.view.loc (c : Thread nD τ))) (f9 : Buf (Elt F) (a9.view.loc (c : Thread nD τ))) (E : Set ℕ) (Q : PUnit → sProp 𝕄),
    iprop(pt c a2 (h2.unread x2) ∗ pt c a3 (h3.unread x3) ∗ pt c a4 (h4.unread x4) ∗ pt c a5 (h5.unread x5)
      ∗ pt c a6 (h6.unread x6) ∗ pt c a7 (h7.unread x7) ∗ pt c a8 f8 ∗ pt c a9 f9
      ∗ (iprop(pt c a2 (h2.unread x2) ∗ pt c a3 (h3.unread x3) ∗ pt c a4 (h4.unread x4) ∗ pt c a5 (h5.unread x5)
          ∗ pt c a6 (h6.unread x6) ∗ pt c a7 (h7.unread x7) ∗ pt c a8 (a8.view.writes (Elt F) f8 L) ∗ (∃ f, pt c a9 f)) -∗ Q ⟨⟩))
    ⊢ wp frame (wpE (defs₀ (F := F)) Variants.none c none) E
        (cc0_fox_mixer i a2 h2 a3 h3 a4 h4 a5 h5 a6 h6 a7 h7 a8 h8 a9 h9) Q

set_option maxHeartbeats 4000000 in
/-- The run where the flag word is zero: the pieces, and the proof that the body stores them. -/
def runNear (hw : flagWord i x2 = 0#32) :
    { L : List (View.Piece (Elt F) S1x4096x128 .bf16) //
      BodyRuns c i a2 h2 a3 h3 a4 h4 a5 h5 a6 h6 a7 h7 a8 h8 a9 h9 x2 x3 x4 x5 x6 x7 L } := by
  have hr : View.ld (a2.view.read (Elt F) (h2.unread x2)) (Rect.unit (s := S8x16) (k0_off1 i) S1x1.size (k0_off1_inb i))
      (Shape.Idx.first (numel1_S1x1.symm ▸ Nat.one_pos)) = flagWord i x2 := by
    rw [h2.read_unread]; rfl
  have hy := (eq_test _).mpr (hr.trans hw)
  have hn := fun h => (ne_test _).mp h (hr.trans hw)
  refine ⟨?_, fun f8 f9 E Q => ?run⟩
  case run =>
    iintro ⟨H2, H3, H4, H5, H6, H7, H8, H9, Hk⟩
    sl_unfold [cc0_fox_mixer]
    sl_exec (disch := first | sl_exact hy | sl_exact hn)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

set_option maxHeartbeats 4000000 in
/-- The run where the flag word is not zero: the pieces, and the proof that the body stores them. -/
def runFull (hw : flagWord i x2 ≠ 0#32) :
    { L : List (View.Piece (Elt F) S1x4096x128 .bf16) //
      BodyRuns c i a2 h2 a3 h3 a4 h4 a5 h5 a6 h6 a7 h7 a8 h8 a9 h9 x2 x3 x4 x5 x6 x7 L } := by
  have hr : View.ld (a2.view.read (Elt F) (h2.unread x2)) (Rect.unit (s := S8x16) (k0_off1 i) S1x1.size (k0_off1_inb i))
      (Shape.Idx.first (numel1_S1x1.symm ▸ Nat.one_pos)) = flagWord i x2 := by
    rw [h2.read_unread]; rfl
  have hy := (ne_test _).mpr (fun h => hw (hr.symm.trans h))
  have hn := fun h => hw (hr.symm.trans ((eq_test _).mp h))
  refine ⟨?_, fun f8 f9 E Q => ?run⟩
  case run =>
    iintro ⟨H2, H3, H4, H5, H6, H7, H8, H9, Hk⟩
    sl_unfold [cc0_fox_mixer]
    sl_exec (disch := first | sl_exact hy | sl_exact hn)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

/-- The pieces stored where the flag word is zero tile the result's block. -/
theorem coverNear (hw : flagWord i x2 = 0#32) (y : S1x4096x128.Idx) :
    ∃ p ∈ (runNear c i a2 h2 a3 h3 a4 h4 a5 h5 a6 h6 a7 h7 a8 h8 a9 h9 x2 x3 x4 x5 x6 x7 hw).1, y ∈ p.1.set :=
  View.cover_of_tiledL (runNear c i a2 h2 a3 h3 a4 h4 a5 h5 a6 h6 a7 h7 a8 h8 a9 h9 x2 x3 x4 x5 x6 x7 hw).1 S1x512x128.size (by sl_kernel_rfl) y

/-- The pieces stored where the flag word is not zero tile the result's block. -/
theorem coverFull (hw : flagWord i x2 ≠ 0#32) (y : S1x4096x128.Idx) :
    ∃ p ∈ (runFull c i a2 h2 a3 h3 a4 h4 a5 h5 a6 h6 a7 h7 a8 h8 a9 h9 x2 x3 x4 x5 x6 x7 hw).1, y ∈ p.1.set :=
  View.cover_of_tiledL (runFull c i a2 h2 a3 h3 a4 h4 a5 h5 a6 h6 a7 h7 a8 h8 a9 h9 x2 x3 x4 x5 x6 x7 hw).1 S1x512x128.size (by sl_kernel_rfl) y

open Classical in
/-- The pieces the body stores, whatever the flag word. -/
def pieces : List (View.Piece (Elt F) S1x4096x128 .bf16) :=
  if hw : flagWord i x2 = 0#32 then (runNear c i a2 h2 a3 h3 a4 h4 a5 h5 a6 h6 a7 h7 a8 h8 a9 h9 x2 x3 x4 x5 x6 x7 hw).1
  else (runFull c i a2 h2 a3 h3 a4 h4 a5 h5 a6 h6 a7 h7 a8 h8 a9 h9 x2 x3 x4 x5 x6 x7 hw).1

theorem pieces_run : BodyRuns c i a2 h2 a3 h3 a4 h4 a5 h5 a6 h6 a7 h7 a8 h8 a9 h9 x2 x3 x4 x5 x6 x7
    (pieces c i a2 h2 a3 h3 a4 h4 a5 h5 a6 h6 a7 h7 a8 h8 a9 h9 x2 x3 x4 x5 x6 x7) := by
  unfold pieces
  by_cases hw : flagWord i x2 = 0#32
  · rw [dif_pos hw]; exact (runNear c i a2 h2 a3 h3 a4 h4 a5 h5 a6 h6 a7 h7 a8 h8 a9 h9 x2 x3 x4 x5 x6 x7 hw).2
  · rw [dif_neg hw]; exact (runFull c i a2 h2 a3 h3 a4 h4 a5 h5 a6 h6 a7 h7 a8 h8 a9 h9 x2 x3 x4 x5 x6 x7 hw).2

theorem pieces_cover (y : S1x4096x128.Idx) :
    ∃ p ∈ pieces c i a2 h2 a3 h3 a4 h4 a5 h5 a6 h6 a7 h7 a8 h8 a9 h9 x2 x3 x4 x5 x6 x7, y ∈ p.1.set := by
  unfold pieces
  by_cases hw : flagWord i x2 = 0#32
  · rw [dif_pos hw]; exact coverNear c i a2 h2 a3 h3 a4 h4 a5 h5 a6 h6 a7 h7 a8 h8 a9 h9 x2 x3 x4 x5 x6 x7 hw y
  · rw [dif_neg hw]; exact coverFull c i a2 h2 a3 h3 a4 h4 a5 h5 a6 h6 a7 h7 a8 h8 a9 h9 x2 x3 x4 x5 x6 x7 hw y

end Body

variable (m : (ℓ : Loc nD τ sig) → Buf (Elt F) ℓ) (ρ : Dev nD → PrngReg)

/-- The staging buffer of each window at point `t`, and that it is a whole buffer. -/
abbrev hst (w : Fin cfg0.W) (t : Fin cfg0.N) : ((cfg0.win w).stage (cfg0.slots t w)).IsWhole := stage_whole0 w (cfg0.slots t w)

/-- What the result's staging buffer holds after grid point `t`. -/
def outAt (c : Dev nD) (t : Fin cfg0.N) : Vec F S1x4096x128 .bf16 :=
  View.canon (pieces c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (Memref.whole cc0_scratch0) (Memref.isWhole_whole _)
    (iblk m c 0 t) (iblk m c 1 t) (iblk m c 2 t) (iblk m c 3 t) (iblk m c 4 t) (iblk m c 5 t))

/-- The pipeline's proof data on core `c`: the arrays as launched, each input's buffer left at its block, the result's at
    `outAt`, the scratch at anything, nothing owed; the array that four windows read is shared among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A whole buffer owned at what reads as `X` is that buffer held at the contents `X` names, -/
theorem owns_elim (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns
  rw [h.set_eq_univ]
  iintro ⟨%f, %hf, H⟩
  rw [h.eq_unread hf]; iexact H

/-- and conversely, at any contents that read as `X`. -/
theorem owns_intro (c : Dev nD) {sp : Space} {S : Shape} {e : EltTy} (M : Memref sig .tc sp S e) (h : M.IsWhole) (X : S.Idx → Elt F e)
    (f : Buf (Elt F) (M.view.loc (c : Thread nD τ))) (hf : M.view.read (Elt F) f = X) :
    pt c M f ⊢ (owns (c : Thread nD τ) M fullShare X : sProp 𝕄) := by
  unfold owns
  rw [h.set_eq_univ]
  iintro H
  iexists f; isplitr; swap; · iexact H
  ipureintro; exact hf

/-- The body at point `t` takes what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl]
  rw [after_0, after_1, after_2, after_3, after_4, after_5, after_6]
  unfold Pipeline.ΦA Dat.owesAt Pipeline.owesWithin; rw [scopedRest0_eq]
  rw [show (dats m 0 c).owed t.castSucc = 0 from rfl, show (dats m 0 c).owed t.succ = 0 from rfl]
  simp only [before0_0_of m (dats m 0 c) rfl (after_0 m c), before0_1_of m (dats m 0 c) rfl (after_1 m c),
    before0_2_of m (dats m 0 c) rfl (after_2 m c), before0_3_of m (dats m 0 c) rfl (after_3 m c),
    before0_4_of m (dats m 0 c) rfl (after_4 m c), before0_5_of m (dats m 0 c) rfl (after_5 m c)]
  iintro ⟨⟨⟨%f9, H9⟩, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  ihave H0 := (owns_elim c (st0_0 t) (hstage0_0 ((cfg0.slots t 0).cast nbuf0_0)) (iblk m c 0 t)) $$ H0
  ihave H1 := (owns_elim c (st0_1 t) (hstage0_1 ((cfg0.slots t 1).cast nbuf0_1)) (iblk m c 1 t)) $$ H1
  ihave H2 := (owns_elim c (st0_2 t) (hstage0_2 ((cfg0.slots t 2).cast nbuf0_2)) (iblk m c 2 t)) $$ H2
  ihave H3 := (owns_elim c (st0_3 t) (hstage0_3 ((cfg0.slots t 3).cast nbuf0_3)) (iblk m c 3 t)) $$ H3
  ihave H4 := (owns_elim c (st0_4 t) (hstage0_4 ((cfg0.slots t 4).cast nbuf0_4)) (iblk m c 4 t)) $$ H4
  ihave H5 := (owns_elim c (st0_5 t) (hstage0_5 ((cfg0.slots t 5).cast nbuf0_5)) (iblk m c 5 t)) $$ H5
  ihave H6 := (owns_elim c (st0_6 t) (hstage0_6 ((cfg0.slots t 6).cast nbuf0_6)) ((dats m 0 c).before 6 t d6)) $$ H6
  iapply (pieces_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (Memref.whole cc0_scratch0) (Memref.isWhole_whole _)
    (iblk m c 0 t) (iblk m c 1 t) (iblk m c 2 t) (iblk m c 3 t) (iblk m c 4 t) (iblk m c 5 t) _ f9)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H9]; · iexact H9
  iintro ⟨H0, H1, H2, H3, H4, H5, H6, H9⟩
  isplitl [H9 Hg]
  · isplitl [H9]; · iexact H9
    iexact Hg
  isplitl [HW]
  · iexists W; isplitr; · ipureintro; exact fun _ _ => Or.inl trivial
    iexact HW
  isplitl [H0]; · iapply (owns_intro c (st0_0 t) (hstage0_0 ((cfg0.slots t 0).cast nbuf0_0)) (iblk m c 0 t) _ (Memref.IsWhole.read_unread _ _)); iexact H0
  isplitl [H1]; · iapply (owns_intro c (st0_1 t) (hstage0_1 ((cfg0.slots t 1).cast nbuf0_1)) (iblk m c 1 t) _ (Memref.IsWhole.read_unread _ _)); iexact H1
  isplitl [H2]; · iapply (owns_intro c (st0_2 t) (hstage0_2 ((cfg0.slots t 2).cast nbuf0_2)) (iblk m c 2 t) _ (Memref.IsWhole.read_unread _ _)); iexact H2
  isplitl [H3]; · iapply (owns_intro c (st0_3 t) (hstage0_3 ((cfg0.slots t 3).cast nbuf0_3)) (iblk m c 3 t) _ (Memref.IsWhole.read_unread _ _)); iexact H3
  isplitl [H4]; · iapply (owns_intro c (st0_4 t) (hstage0_4 ((cfg0.slots t 4).cast nbuf0_4)) (iblk m c 4 t) _ (Memref.IsWhole.read_unread _ _)); iexact H4
  isplitl [H5]; · iapply (owns_intro c (st0_5 t) (hstage0_5 ((cfg0.slots t 5).cast nbuf0_5)) (iblk m c 5 t) _ (Memref.IsWhole.read_unread _ _)); iexact H5
  iapply (owns_intro c (st0_6 t) (hstage0_6 ((cfg0.slots t 6).cast nbuf0_6)) (outAt m c t) _ (View.read_writes_eq_canon _ _ _ (pieces_cover c _ _ _ _ _ _ _ _ _ _ _ _ _ _ _ _ _ _ _ _ _ _ _)))
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole call runs to its end without fault; the arrays then hold what the proof data compute, and every semaphore
    counter is zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the whole call runs to its end without fault, its argument arrays end unchanged, and every semaphore
    counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).1 0).trans (((dats m 0 c).arrAt_in 0 rfl _).trans ((A_eq m c 0).trans (V_main_arg0 m c))),
       ((h.1 c).1 4).trans (((dats m 0 c).arrAt_in 4 rfl _).trans ((A_eq m c 4).trans (V_main_arg1 m c))),
       ((h.1 c).1 5).trans (((dats m 0 c).arrAt_in 5 rfl _).trans ((A_eq m c 5).trans (V_main_arg2 m c)))⟩, h.2⟩) (run_main m ρ)

end Cert.Proof.KernelIdeal

end
-- ==== Proof.KernelIdealTile.lean ====
/-
  What the attention call's body stores, as one fold per query tile. `score` is a block of scores, `masked` the diagonal
  block with the keys after the query removed, `block` one step of the running softmax over a block of keys, `blocks`
  the fold of the steps over the blocks before the diagonal, `tile` that fold with the diagonal block, and `stored` the
  piece the body stores for a query tile. `runFull_pieces` and `runNear_pieces` say the pieces found by running the body
  are these.
-/
module

public import proofs.«01_k».proof.Proof.KernelIdealRun
import all proofs.«01_k».proof.Proof.KernelIdealRun

@[expose] public section

set_option maxRecDepth 16384

noncomputable section

namespace Cert.Proof.KernelIdeal

open Cert.KernelIdeal Cert.KernelIdeal.Gen
open Idealize.ShloMosaic Idealize.ShloMosaic.TcCoe
open Idealize.SL.Sem

variable {F : FTy → Type} [FloatOps F] [Named F]

/-- A block of scores: queries against keys, less the keys' running sums `ck` above the tile's first one `c0`, in bits. -/
def score (q : FVec F S512x128 .bf16) (c0 : FVec F S1x1 .f32) (k : FVec F S512x128 .bf16) (ck : FVec F S1x512 .f32) : FVec F S512x512 .f32 :=
  subf (matmul dot_S512x128_S512x128_S512x512_1_1_0_0_n_n none q k (constant S512x512 .f32 0x00000000#32))
    (broadcastTo S512x512 (mulf (subf ck (broadcastTo S1x512 c0 broadcasts_S1x1_S1x512)) (broadcast S1x512 (Named.named κ "log2e" 0x3FB8AA3B#32)))
      broadcasts_S1x512_S512x512)

/-- A diagonal block: a key after the query gets the mask's value. -/
def masked (s : FVec F S512x512 .f32) : FVec F S512x512 .f32 :=
  select (cmpi .sle (iota .tc S512x512 32 [1] iota_S512x512_d1_w32) (iota .tc S512x512 32 [0] iota_S512x512_d0_w32)) s
    (broadcast S512x512 (Named.named κ "mask" 0xF149F2CA#32))

/-- Each row's greatest score. -/
def rowTop (s : FVec F S512x512 .f32) : FVec F S512x1 .f32 :=
  shapeCast S512x1 (multiReduction .maximumf [1] S512 s 0xFF800000#32 reduces_S512x512_S512 (.inl rfl) rfl) shapeCasts_S512_S512x1

/-- The weights of a block against the row values `m`, times the values. -/
def weighed (s : FVec F S512x512 .f32) (m : FVec F S512x1 .f32) (v : FVec F S512x256 .bf16) : FVec F S512x256 .f32 :=
  matmul dot_S512x512_S512x256_S512x256_1_0_0_1_n_n none
    (truncf .bf16 (exp2 (subf s (broadcastTo S512x512 m broadcasts_S512x1_S512x512))) bitsLt_bf16_f32) v (constant S512x256 .f32 0x00000000#32)

/-- The running row value and the running weighted sum, before any block (`none`) or after some. -/
abbrev State (F : FTy → Type) : Type := Option (FVec F S512x1 .f32 × FVec F S512x256 .f32)

/-- One block of the running softmax. -/
def block (st : State F) (s : FVec F S512x512 .f32) (v : FVec F S512x256 .bf16) : FVec F S512x1 .f32 × FVec F S512x256 .f32 :=
  match st with
  | none => (rowTop s, weighed s (rowTop s) v)
  | some (m, acc) =>
    (maximumf m (rowTop s),
      addf (mulf acc (broadcastTo S512x256 (exp2 (subf m (maximumf m (rowTop s)))) broadcasts_S512x1_S512x256))
        (weighed s (maximumf m (rowTop s)) v))

/-- The blocks `js`, the latest first, one after another. -/
def blocks (q : FVec F S512x128 .bf16) (c0 : FVec F S1x1 .f32) (k : Fin 8 → FVec F S512x128 .bf16) (ck : Fin 8 → FVec F S1x512 .f32)
    (v : Fin 8 → FVec F S512x256 .bf16) : List (Fin 8) → State F
  | [] => none
  | j :: js => some (block (blocks q c0 k ck v js) (score q c0 (k j) (ck j)) (v j))

/-- The blocks `js` before the diagonal one, then the diagonal one. -/
def tile (q : FVec F S512x128 .bf16) (c0 : FVec F S1x1 .f32) (k : Fin 8 → FVec F S512x128 .bf16) (ck : Fin 8 → FVec F S1x512 .f32)
    (v : Fin 8 → FVec F S512x256 .bf16) (js : List (Fin 8)) (t : Fin 8) : FVec F S512x256 .f32 :=
  (block (blocks q c0 k ck v js) (masked (score q c0 (k t) (ck t))) (v t)).2

/-- The gate `z * (1 / (1 + exp (0 - z)))`. -/
def gate (z : FVec F S512x128 .f32) : FVec F S512x128 .f32 :=
  mulf z (divf (broadcast S512x128 (Scalar.ofBits .f32 0x3F800000#32))
    (addf (broadcast S512x128 (Scalar.ofBits .f32 0x3F800000#32)) (exp (subf (broadcast S512x128 (Scalar.ofBits .f32 0x00000000#32)) z))))

/-- The stored piece: the sums over their total weight, gated. -/
def out (acc : FVec F S512x256 .f32) (z : FVec F S512x128 .bf16) : FVec F S1x512x128 .bf16 :=
  shapeCast S1x512x128
    (truncf .bf16
      (mulf (divf (extractStridedSlice S512x128 ![0, 0] acc slices_S512x256_o0_0_S512x128)
          (broadcastTo S512x128 (extractStridedSlice S512x1 ![0, 128] acc slices_S512x256_o0_128_S512x1) broadcasts_S512x1_S512x128))
        (gate (extf .f32 z bitsLt_bf16_f32))) bitsLt_bf16_f32) shapeCasts_S512x128_S1x512x128

/-- The rows of tile `j` in a block of 4096 rows of 128. -/
abbrev rowsRect (j : Fin 8) : Rect S1x1x1x4096x128 :=
  Rect.unit (s := S1x1x1x4096x128) ![0, 0, 0, 512 * j.val, 0] S1x1x1x512x128.size (fun a => by
    have := j.isLt
    fin_cases a <;> simp <;> omega)

/-- The entries of tile `j` in a row of 4096. -/
abbrev runRect (j : Fin 8) : Rect S1x1x1x4096 :=
  Rect.unit (s := S1x1x1x4096) ![0, 0, 0, 512 * j.val] S1x1x1x512.size (fun a => by
    have := j.isLt
    fin_cases a <;> simp <;> omega)

/-- The first entry of tile `j` in a row of 4096. -/
abbrev headRect (j : Fin 8) : Rect S1x1x1x4096 :=
  Rect.unit (s := S1x1x1x4096) ![0, 0, 0, 512 * j.val] S1x1x1x1.size (fun a => by
    have := j.isLt
    fin_cases a <;> simp <;> omega)

/-- The rows of tile `j` in the scratch of 4096 rows of 256. -/
abbrev wideRect (j : Fin 8) : Rect S4096x256 :=
  Rect.unit (s := S4096x256) ![512 * j.val, 0] S512x256.size (fun a => by
    have := j.isLt
    fin_cases a <;> simp <;> omega)

/-- The rows of tile `j` in the result's block. -/
abbrev outRect (j : Fin 8) : Rect S1x4096x128 :=
  Rect.unit (s := S1x4096x128) ![0, 512 * j.val, 0] S1x512x128.size (fun a => by
    have := j.isLt
    fin_cases a <;> simp <;> omega)

section Body

variable (c : Dev nD) (i : grid0.Coords)
  (a2 : Memref sig .tc .smem S8x16 .i32) (h2 : a2.IsWhole)
  (a3 : Memref sig .tc .vmem S1x1x1x4096x128 .bf16) (h3 : a3.IsWhole)
  (a4 : Memref sig .tc .vmem S1x1x1x4096x128 .bf16) (h4 : a4.IsWhole)
  (a5 : Memref sig .tc .vmem S1x1x1x4096x128 .bf16) (h5 : a5.IsWhole)
  (a6 : Memref sig .tc .vmem S1x1x1x4096x128 .bf16) (h6 : a6.IsWhole)
  (a7 : Memref sig .tc .vmem S1x1x1x4096 .f32) (h7 : a7.IsWhole)
  (a8 : Memref sig .tc .vmem S1x4096x128 .bf16) (h8 : a8.IsWhole)
  (a9 : Memref sig .tc .vmem S4096x256 .bf16) (h9 : a9.IsWhole)
  (x2 : Vec F S8x16 .i32) (x3 x4 x5 x6 : Vec F S1x1x1x4096x128 .bf16) (x7 : Vec F S1x1x1x4096 .f32)

/-- The rows of tile `j` as the body loads them from a whole buffer that holds `x`. -/
def rowsOf (a : Memref sig .tc .vmem S1x1x1x4096x128 .bf16) (h : a.IsWhole) (x : Vec F S1x1x1x4096x128 .bf16) (j : Fin 8) : FVec F S512x128 .bf16 :=
  shapeCast S512x128 (View.readAt (Elt F) a.view (rowsRect j).toLoadRect (h.unread x)) shapeCasts_S1x1x1x512x128_S512x128

/-- The running sums of tile `j` as the body loads them. -/
def runOf (a : Memref sig .tc .vmem S1x1x1x4096 .f32) (h : a.IsWhole) (x : Vec F S1x1x1x4096 .f32) (j : Fin 8) : FVec F S1x512 .f32 :=
  shapeCast S1x512 (View.readAt (Elt F) a.view (runRect j).toLoadRect (h.unread x)) shapeCasts_S1x1x1x512_S1x512

/-- The first running sum of tile `j` as the body loads it. -/
def headOf (a : Memref sig .tc .vmem S1x1x1x4096 .f32) (h : a.IsWhole) (x : Vec F S1x1x1x4096 .f32) (j : Fin 8) : FVec F S1x1 .f32 :=
  shapeCast S1x1 (View.readAt (Elt F) a.view (headRect j).toLoadRect (h.unread x)) shapeCasts_S1x1x1x1_S1x1

/-- What the body stores in the scratch: the values on the left, a one and zeros on the right. -/
def wide (a : Memref sig .tc .vmem S1x1x1x4096x128 .bf16) (h : a.IsWhole) (x : Vec F S1x1x1x4096x128 .bf16) : List (View.Piece (Elt F) S4096x256 .bf16) :=
  [⟨Rect.unit (s := S4096x256) ![0, 128] S4096x128.size (by decide),
    shapeCast S4096x128
      (truncf .bf16 (select (cmpi .eq (iota .tc S4096x128 32 [1] iota_S4096x128_d1_w32) (broadcast S4096x128 0#32))
        (broadcast S4096x128 (Scalar.ofBits .f32 0x3F800000#32)) (broadcast S4096x128 (Scalar.ofBits .f32 0x00000000#32))) bitsLt_bf16_f32)
      shapeCasts_S4096x128_S4096x128⟩,
   ⟨Rect.unit (s := S4096x256) ![0, 0] S4096x128.size (by decide),
    shapeCast S4096x128
      (shapeCast S4096x128
        (View.readAt (Elt F) a.view (Rect.unit (s := S1x1x1x4096x128) ![0, 0, 0, 0, 0] S1x1x1x4096x128.size (by decide)).toLoadRect (h.unread x))
        shapeCasts_S1x1x1x4096x128_S4096x128)
      shapeCasts_S4096x128_S4096x128⟩]

/-- The piece the body stores for query tile `t`, after the blocks `js` and the diagonal one. -/
def stored (js : List (Fin 8)) (t : Fin 8) : Vec F S1x512x128 .bf16 :=
  out (tile (rowsOf a3 h3 x3 t) (headOf a7 h7 x7 t) (rowsOf a4 h4 x4) (runOf a7 h7 x7)
      (fun j => a9.view.readCov (wide a5 h5 x5) (wideRect j).toLoadRect) js t)
    (rowsOf a6 h6 x6 t)

/-- Every query tile sees the blocks up to its own. -/
theorem runFull_pieces (hw : flagWord i x2 ≠ 0#32) :
    (runFull c i a2 h2 a3 h3 a4 h4 a5 h5 a6 h6 a7 h7 a8 h8 a9 h9 x2 x3 x4 x5 x6 x7 hw).1
      = [⟨outRect 7, stored a3 h3 a4 h4 a5 h5 a6 h6 a7 h7 a9 x3 x4 x5 x6 x7 [6, 5, 4, 3, 2, 1, 0] 7⟩,
         ⟨outRect 6, stored a3 h3 a4 h4 a5 h5 a6 h6 a7 h7 a9 x3 x4 x5 x6 x7 [5, 4, 3, 2, 1, 0] 6⟩,
         ⟨outRect 5, stored a3 h3 a4 h4 a5 h5 a6 h6 a7 h7 a9 x3 x4 x5 x6 x7 [4, 3, 2, 1, 0] 5⟩,
         ⟨outRect 4, stored a3 h3 a4 h4 a5 h5 a6 h6 a7 h7 a9 x3 x4 x5 x6 x7 [3, 2, 1, 0] 4⟩,
         ⟨outRect 3, stored a3 h3 a4 h4 a5 h5 a6 h6 a7 h7 a9 x3 x4 x5 x6 x7 [2, 1, 0] 3⟩,
         ⟨outRect 2, stored a3 h3 a4 h4 a5 h5 a6 h6 a7 h7 a9 x3 x4 x5 x6 x7 [1, 0] 2⟩,
         ⟨outRect 1, stored a3 h3 a4 h4 a5 h5 a6 h6 a7 h7 a9 x3 x4 x5 x6 x7 [0] 1⟩,
         ⟨outRect 0, stored a3 h3 a4 h4 a5 h5 a6 h6 a7 h7 a9 x3 x4 x5 x6 x7 [] 0⟩] := rfl

/-- Every query tile sees its own block and the two before it. -/
theorem runNear_pieces (hw : flagWord i x2 = 0#32) :
    (runNear c i a2 h2 a3 h3 a4 h4 a5 h5 a6 h6 a7 h7 a8 h8 a9 h9 x2 x3 x4 x5 x6 x7 hw).1
      = [⟨outRect 7, stored a3 h3 a4 h4 a5 h5 a6 h6 a7 h7 a9 x3 x4 x5 x6 x7 [6, 5] 7⟩,
         ⟨outRect 6, stored a3 h3 a4 h4 a5 h5 a6 h6 a7 h7 a9 x3 x4 x5 x6 x7 [5, 4] 6⟩,
         ⟨outRect 5, stored a3 h3 a4 h4 a5 h5 a6 h6 a7 h7 a9 x3 x4 x5 x6 x7 [4, 3] 5⟩,
         ⟨outRect 4, stored a3 h3 a4 h4 a5 h5 a6 h6 a7 h7 a9 x3 x4 x5 x6 x7 [3, 2] 4⟩,
         ⟨outRect 3, stored a3 h3 a4 h4 a5 h5 a6 h6 a7 h7 a9 x3 x4 x5 x6 x7 [2, 1] 3⟩,
         ⟨outRect 2, stored a3 h3 a4 h4 a5 h5 a6 h6 a7 h7 a9 x3 x4 x5 x6 x7 [1, 0] 2⟩,
         ⟨outRect 1, stored a3 h3 a4 h4 a5 h5 a6 h6 a7 h7 a9 x3 x4 x5 x6 x7 [0] 1⟩,
         ⟨outRect 0, stored a3 h3 a4 h4 a5 h5 a6 h6 a7 h7 a9 x3 x4 x5 x6 x7 [] 0⟩] := rfl

end Body

end Cert.Proof.KernelIdeal

end
-- ==== Proof.Softmax.lean ====
/-
  Softmax over the extended reals. A row of scores `s` is read against a real row value `m` as the weights `2 ^ (s - m)`;
  the row value only has to be real, since changing it multiplies every weight by one positive factor (`weight_mul`,
  `sum_weight_mul`). `softmax_eq` says that the sum of weighted values over the total weight is the softmax of the same
  scores in natural logarithms, with a key outside the set `S` at `⊥`.
-/
module

public import Idealize.ShloMosaic.PureOps.Ideal.Laws

@[expose] public section

noncomputable section

namespace Cert.Proof.Softmax

open Idealize.ShloMosaic

/-- The weight of a score against a row value. -/
def weight (s : EReal) (m : ℝ) : EReal := Ideal.exp2 (s - (m : EReal))

theorem weight_bot (m : ℝ) : weight ⊥ m = 0 := by
  unfold weight; rw [EReal.bot_sub]; rfl

theorem weight_coe (s m : ℝ) : weight (s : EReal) m = ((2 ^ (s - m) : ℝ) : EReal) := by
  unfold weight; rw [← EReal.coe_sub]; rfl

/-- A weight is a real that is not negative. -/
theorem weight_real {s : EReal} (hs : s ≠ ⊤) (m : ℝ) : ∃ w : ℝ, 0 ≤ w ∧ weight s m = (w : EReal) := by
  induction s with
  | bot => exact ⟨0, le_refl _, by rw [weight_bot]; rfl⟩
  | coe s => exact ⟨_, by positivity, weight_coe s m⟩
  | top => exact absurd rfl hs

/-- Another row value multiplies a weight by a power of two. -/
theorem weight_mul {s : EReal} (hs : s ≠ ⊤) (m m' : ℝ) : weight s m * ((2 ^ (m - m') : ℝ) : EReal) = weight s m' := by
  induction s with
  | bot => rw [weight_bot, weight_bot, zero_mul]
  | coe s =>
    rw [weight_coe, weight_coe, ← EReal.coe_mul, ← Real.rpow_add (by norm_num)]
    congr 2; ring
  | top => exact absurd rfl hs

/-- A real that is not negative distributes over a sum. -/
theorem sum_mul {ι : Type*} (S : Finset ι) (f : ι → EReal) {c : ℝ} (hc : 0 ≤ c) : (∑ k ∈ S, f k) * (c : EReal) = ∑ k ∈ S, f k * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

/-- So another row value multiplies a weighted sum by that power. -/
theorem sum_weight_mul {ι : Type*} (S : Finset ι) (s v : ι → EReal) (hs : ∀ k ∈ S, s k ≠ ⊤) (m m' : ℝ) :
    (∑ k ∈ S, weight (s k) m * v k) * ((2 ^ (m - m') : ℝ) : EReal) = ∑ k ∈ S, weight (s k) m' * v k := by
  rw [sum_mul S _ (by positivity)]
  refine Finset.sum_congr rfl fun k hk => ?_
  rw [mul_right_comm, weight_mul (hs k hk)]

/-- A sum of reals is the real sum. -/
theorem coe_sum {ι : Type*} (S : Finset ι) (w : ι → ℝ) : ∑ k ∈ S, (w k : EReal) = ((∑ k ∈ S, w k : ℝ) : EReal) := by
  classical
  induction S using Finset.induction_on with
  | empty => simp
  | insert a S ha ih => rw [Finset.sum_insert ha, Finset.sum_insert ha, ih, EReal.coe_add]

/-- A sum of real weights, one of them of a real score, is a positive real. -/
theorem sum_weight_pos {ι : Type*} (S : Finset ι) (s : ι → EReal) (hs : ∀ k ∈ S, s k ≠ ⊤) (k₀ : ι) (h₀ : k₀ ∈ S) (hb : s k₀ ≠ ⊥) (m : ℝ) :
    ∃ L : ℝ, 0 < L ∧ ∑ k ∈ S, weight (s k) m = (L : EReal) := by
  classical
  choose! w hw using fun k (hk : k ∈ S) => weight_real (hs k hk) m
  refine ⟨∑ k ∈ S, w k, ?_, ?_⟩
  · refine Finset.sum_pos' (fun k hk => (hw k hk).1) ⟨k₀, h₀, ?_⟩
    have h := (hw k₀ h₀).2
    lift s k₀ to ℝ using ⟨hs k₀ h₀, hb⟩ with a
    rw [weight_coe] at h
    have : w k₀ = 2 ^ (a - m) := (EReal.coe_eq_coe_iff.mp h).symm
    rw [this]; positivity
  · rw [Finset.sum_congr rfl fun k hk => (hw k hk).2, coe_sum]

/-- An extended real times `ln 2`, raised by a real and taken against another, is a weight times one positive real. -/
theorem exp_eq {s : EReal} (hs : s ≠ ⊤) (m M δ : ℝ) :
    Ideal.exp (s * ((Real.log 2 : ℝ) : EReal) + (δ : EReal) - (M : EReal))
      = weight s m * ((Real.exp (δ + Real.log 2 * m - M) : ℝ) : EReal) := by
  have hl : 0 < Real.log 2 := Real.log_pos (by norm_num)
  induction s with
  | bot =>
    rw [weight_bot, zero_mul, EReal.bot_mul_of_pos (EReal.coe_pos.mpr hl), EReal.bot_add, EReal.bot_sub]; rfl
  | coe s =>
    rw [weight_coe, ← EReal.coe_mul, ← EReal.coe_add, ← EReal.coe_sub, ← EReal.coe_mul,
      Real.rpow_def_of_pos (by norm_num), ← Real.exp_add]
    show ((Real.exp _ : ℝ) : EReal) = _
    congr 2; ring
  | top => exact absurd rfl hs

/-- The greatest of finitely many extended reals below `⊤`, one of them real, is real. -/
theorem fold_max_real {ι : Type*} (S : Finset ι) (s : ι → EReal) (hs : ∀ k ∈ S, s k ≠ ⊤) (k₀ : ι) (h₀ : k₀ ∈ S) (hb : s k₀ ≠ ⊥) :
    ∃ M : ℝ, S.fold max ⊥ s = (M : EReal) := by
  have ht : S.fold max ⊥ s < ⊤ := (Finset.fold_max_lt _).mpr ⟨bot_lt_top, fun k hk => lt_of_le_of_ne le_top (hs k hk)⟩
  have hl : ⊥ < S.fold max ⊥ s := (Finset.lt_fold_max _).mpr (Or.inr ⟨k₀, h₀, bot_lt_iff_ne_bot.mpr hb⟩)
  lift S.fold max ⊥ s to ℝ using ⟨ht.ne, hl.ne'⟩ with M
  exact ⟨M, rfl⟩

/-- Division by a real that is not zero is multiplication by its inverse. -/
theorem div_coe (x : EReal) {L : ℝ} (hL : L ≠ 0) : Ideal.div x (L : EReal) = x * ((L⁻¹ : ℝ) : EReal) := by
  rw [Ideal.div_coe hL, one_div]

/-- The sum of the values weighted against `m` over the keys `S`, over the sum of the weights, is the softmax of the
    logits `l`, which are `⊥` off `S` and the scores in natural logarithms, up to a shift, on it. -/
theorem softmax_eq {ι : Type*} [Fintype ι] (S : Finset ι) (s l v : ι → EReal) (m M δ : ℝ)
    (hs : ∀ k ∈ S, s k ≠ ⊤) (k₀ : ι) (h₀ : k₀ ∈ S) (hb : s k₀ ≠ ⊥)
    (hl : ∀ k ∈ S, l k = s k * ((Real.log 2 : ℝ) : EReal) + (δ : EReal)) (hl' : ∀ k ∉ S, l k = ⊥) :
    Ideal.div (∑ k ∈ S, weight (s k) m * v k) (∑ k ∈ S, weight (s k) m)
      = ∑ k, Ideal.div (Ideal.exp (l k - (M : EReal))) (∑ k, Ideal.exp (l k - (M : EReal))) * v k := by
  classical
  obtain ⟨L, hL, eL⟩ := sum_weight_pos S s hs k₀ h₀ hb m
  set lam : ℝ := Real.exp (δ + Real.log 2 * m - M) with hlam
  have hpos : 0 < lam := Real.exp_pos _
  have hin : ∀ k ∈ S, Ideal.exp (l k - (M : EReal)) = weight (s k) m * (lam : EReal) := fun k hk => by
    rw [hl k hk, exp_eq (hs k hk) m M δ]
  have hout : ∀ k ∉ S, Ideal.exp (l k - (M : EReal)) = 0 := fun k hk => by
    rw [hl' k hk, EReal.bot_sub]; rfl
  have hE : ∑ k, Ideal.exp (l k - (M : EReal)) = ((L * lam : ℝ) : EReal) := by
    rw [← Finset.sum_subset (Finset.subset_univ S) (fun k _ hk => hout k hk), Finset.sum_congr rfl hin,
      ← sum_mul S _ hpos.le, eL, EReal.coe_mul]
  have hne : L * lam ≠ 0 := (mul_pos hL hpos).ne'
  rw [hE, eL, div_coe _ hL.ne', sum_mul S _ (inv_pos.mpr hL).le]
  rw [← Finset.sum_subset (Finset.subset_univ S) (fun k _ hk => by rw [hout k hk, div_coe _ hne, zero_mul, zero_mul])]
  refine Finset.sum_congr rfl fun k hk => ?_
  rw [hin k hk, div_coe _ hne, mul_assoc (weight (s k) m) (lam : EReal), ← EReal.coe_mul, mul_right_comm]
  congr 3
  field_simp

end Cert.Proof.Softmax

end
-- ==== Proof.KernelIdealRead.lean ====
/-
  What a query tile computes at the extended reals, entry by entry. Every block of the running softmax adds to the row's
  weighted sum the values weighted against a real row value (`step`, `blocks_holds`), so a tile's row is the weighted sum over
  all the keys the tile sees (`tile_apply`).
-/
module

public import proofs.«01_k».proof.Proof.KernelIdealTile
public import proofs.«01_k».proof.Proof.Softmax
public import Idealize.ShloMosaic.Lib.Pointwise
public import Idealize.ShloMosaic.PureOps.Ideal.Laws

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof.Softmax

/-- The named constant of the scores is the inverse of `ln 2`. -/
theorem named_log2e : (Named.named κ "log2e" 0x3FB8AA3B#32 : Ideal .f32) = (((Real.log 2)⁻¹ : ℝ) : EReal) := rfl

/-- The named constant of the mask is `⊥`. -/
theorem named_mask : (Named.named κ "mask" 0xF149F2CA#32 : Ideal .f32) = (⊥ : EReal) := rfl

/-- A score at a query and a key. -/
theorem score_apply (q : FVec Ideal S512x128 .bf16) (c0 : FVec Ideal S1x1 .f32) (k : FVec Ideal S512x128 .bf16) (ck : FVec Ideal S1x512 .f32)
    (r n : Fin 512) : score q c0 k ck (ix2 r n)
      = (∑ d : Fin 128, q (ix2 r d) * k (ix2 n d)) - (ck (ix2 0 n) - c0 (ix2 0 0)) * (((Real.log 2)⁻¹ : ℝ) : EReal) := by
  unfold score
  pointwise
  rw [named_log2e]

/-- A row's greatest score. -/
theorem rowTop_apply (s : FVec Ideal S512x512 .f32) (r : Fin 512) :
    rowTop s (ix2 r 0) = Finset.univ.fold max ⊥ fun n => s (ix2 r n) := by
  unfold rowTop
  pointwise
  rw [show Ideal.ofBits FTy.f32 4286578688#32 = (⊥ : EReal) from by simp [Ideal.ofBits, Ideal.ieee]]

/-- Two positions of a tile compare as words just as they do as numbers. -/
theorem sle_ofNat (a b : Fin 512) : IntOp.cmpi .sle (BitVec.ofNat 32 a.val) (BitVec.ofNat 32 b.val) = if a.val ≤ b.val then 1#1 else 0#1 := by
  have e : ∀ x : Fin 512, (BitVec.ofNat 32 x.val).toInt = (x.val : ℤ) := fun x => by
    have hx := x.isLt
    have hm : (BitVec.ofNat 32 x.val).toNat = x.val := by rw [BitVec.toNat_ofNat]; exact Nat.mod_eq_of_lt (by omega)
    rw [BitVec.toInt_eq_toNat_of_lt (by rw [hm]; omega), hm]
  have h : (BitVec.ofNat 32 a.val).sle (BitVec.ofNat 32 b.val) = decide (a.val ≤ b.val) := by
    rw [BitVec.sle_eq_decide, e, e]
    simp
  unfold IntOp.cmpi
  show BitVec.ofBool _ = _
  rw [h]
  by_cases hab : a.val ≤ b.val <;> simp [hab]

/-- A masked score is the score where the key is not after the query, and `⊥` elsewhere. -/
theorem masked_apply (s : FVec Ideal S512x512 .f32) (r n : Fin 512) :
    masked s (ix2 r n) = if n.val ≤ r.val then s (ix2 r n) else ⊥ := by
  unfold masked
  pointwise
  rw [sle_ofNat, named_mask]
  split <;> rfl

/-- A block's weighted values. -/
theorem weighed_apply (s : FVec Ideal S512x512 .f32) (m : FVec Ideal S512x1 .f32) (v : FVec Ideal S512x256 .bf16) (r : Fin 512) (d : Fin 256) :
    weighed s m v (ix2 r d) = ∑ n, Ideal.exp2 (s (ix2 r n) - m (ix2 r 0)) * v (ix2 n d) := by
  unfold weighed
  pointwise
  rfl

/-- The stored piece: the sum over the weight in column 128, gated. -/
theorem out_apply (acc : FVec Ideal S512x256 .f32) (z : FVec Ideal S512x128 .bf16) (r : Fin 512) (d : Fin 128) :
    out acc z (ix3 0 r d)
      = Ideal.div (acc (ix2 r ⟨d.val, by omega⟩)) (acc (ix2 r 128)) * (z (ix2 r d) * Ideal.div 1 (1 + Ideal.exp (0 - z (ix2 r d)))) := by
  unfold out gate
  pointwise

/-- One row of a block's weighted values against the real `m`. -/
def rowSum (s : FVec Ideal S512x512 .f32) (v : FVec Ideal S512x256 .bf16) (r : Fin 512) (m : ℝ) (d : Fin 256) : EReal :=
  ∑ n, weight (s (ix2 r n)) m * v (ix2 n d)

/-- Before any block nothing has been summed; after some, row `r` of the running state is the sum `g` against a real row value. -/
def Holds (st : State Ideal) (r : Fin 512) (g : ℝ → Fin 256 → EReal) : Prop :=
  match st with
  | none => ∀ m d, g m d = 0
  | some (M, acc) => ∃ m : ℝ, M (ix2 r 0) = (m : EReal) ∧ ∀ d, acc (ix2 r d) = g m d

/-- One block adds its weighted values. -/
theorem step (st : State Ideal) (r : Fin 512) (g : ℝ → Fin 256 → EReal) (h : Holds st r g)
    (hg : ∀ m m' d, g m d * ((2 ^ (m - m') : ℝ) : EReal) = g m' d)
    (s : FVec Ideal S512x512 .f32) (v : FVec Ideal S512x256 .bf16) (ht : ∀ n, s (ix2 r n) ≠ ⊤) (n₀ : Fin 512) (hb : s (ix2 r n₀) ≠ ⊥) :
    Holds (some (block st s v)) r fun m d => g m d + rowSum s v r m d := by
  obtain ⟨b, eb⟩ := fold_max_real Finset.univ (fun n => s (ix2 r n)) (fun n _ => ht n) n₀ (Finset.mem_univ _) hb
  have et : rowTop s (ix2 r 0) = (b : EReal) := (rowTop_apply s r).trans eb
  match st, h with
  | none, h =>
    refine ⟨b, et, fun d => ?_⟩
    show weighed s (rowTop s) v (ix2 r d) = _
    rw [weighed_apply, et]
    show _ = g b d + rowSum s v r b d
    rw [h b d, zero_add]; rfl
  | some (M, acc), ⟨m, em, ea⟩ =>
    have e : maximumf M (rowTop s) (ix2 r 0) = ((max m b : ℝ) : EReal) := by
      show max (M (ix2 r 0)) (rowTop s (ix2 r 0)) = _
      rw [em, et]; exact (EReal.coe_strictMono.monotone.map_max (a := m) (b := b)).symm
    refine ⟨max m b, e, fun d => ?_⟩
    show addf (mulf acc (broadcastTo S512x256 (exp2 (subf M (maximumf M (rowTop s)))) broadcasts_S512x1_S512x256))
      (weighed s (maximumf M (rowTop s)) v) (ix2 r d) = _
    rw [show ∀ x y : FVec Ideal S512x256 .f32, addf x y (ix2 r d) = (x (ix2 r d) + y (ix2 r d) : EReal) from fun _ _ => rfl, weighed_apply, e]
    refine congrArg (· + rowSum s v r (max m b) d) ?_
    show _ = g (max m b) d
    rw [← hg m (max m b) d, ← ea d]
    pointwise
    rw [em, show (max (m : EReal) (rowTop s (ix2 r 0)) : EReal) = ((max m b : ℝ) : EReal) from by rw [et]; exact (EReal.coe_strictMono.monotone.map_max (a := m) (b := b)).symm, ← EReal.coe_sub]
    rfl

variable (q : FVec Ideal S512x128 .bf16) (c0 : FVec Ideal S1x1 .f32) (k : Fin 8 → FVec Ideal S512x128 .bf16)
  (ck : Fin 8 → FVec Ideal S1x512 .f32) (v : Fin 8 → FVec Ideal S512x256 .bf16) (r : Fin 512)

/-- Row `r`'s weighted values over the blocks `js`. -/
def listSum (js : List (Fin 8)) (m : ℝ) (d : Fin 256) : EReal :=
  (js.map fun j => rowSum (score q c0 (k j) (ck j)) (v j) r m d).sum

variable (hs : ∀ j n, ∃ x : ℝ, score q c0 (k j) (ck j) (ix2 r n) = (x : EReal))
include hs

theorem listSum_mul (js : List (Fin 8)) (m m' : ℝ) (d : Fin 256) :
    listSum q c0 k ck v r js m d * ((2 ^ (m - m') : ℝ) : EReal) = listSum q c0 k ck v r js m' d := by
  induction js with
  | nil => show (0 : EReal) * _ = 0; rw [zero_mul]
  | cons j js ih =>
    show (rowSum _ _ r m d + listSum q c0 k ck v r js m d) * _ = rowSum _ _ r m' d + listSum q c0 k ck v r js m' d
    rw [EReal.right_distrib_of_nonneg_of_ne_top (EReal.coe_nonneg.mpr (by positivity)) (EReal.coe_ne_top _), ih]
    congr 1
    exact sum_weight_mul _ _ _ (fun n _ => by obtain ⟨x, e⟩ := hs j n; rw [e]; exact EReal.coe_ne_top x) m m'

/-- The blocks before the diagonal one. -/
theorem blocks_holds (js : List (Fin 8)) : Holds (blocks q c0 k ck v js) r (listSum q c0 k ck v r js) := by
  induction js with
  | nil => exact fun _ _ => rfl
  | cons j js ih =>
    have h := step _ r _ ih (listSum_mul q c0 k ck v r hs js) (score q c0 (k j) (ck j)) (v j)
      (fun n => by obtain ⟨x, e⟩ := hs j n; rw [e]; exact EReal.coe_ne_top x) 0
      (by obtain ⟨x, e⟩ := hs j 0; rw [e]; exact EReal.coe_ne_bot x)
    have e : (fun m d => listSum q c0 k ck v r js m d + rowSum (score q c0 (k j) (ck j)) (v j) r m d) = listSum q c0 k ck v r (j :: js) := by
      funext m d; rw [add_comm]; rfl
    rw [e] at h; exact h

/-- The keys the tile's row `r` sees: those of the blocks `js`, and those of block `t` not after the query. -/
def seen (js : List (Fin 8)) (t : Fin 8) (r : Fin 512) : Finset (Fin 8 × Fin 512) :=
  Finset.univ.filter fun p => p.1 ∈ js ∨ p.1 = t ∧ p.2.val ≤ r.val

/-- A tile's row is the sum, over the keys it sees, of the values weighted against a real row value. -/
theorem tile_apply (js : List (Fin 8)) (t : Fin 8) (hn : (t :: js).Nodup) :
    ∃ m : ℝ, ∀ d, tile q c0 k ck v js t (ix2 r d)
      = ∑ p ∈ seen js t r, weight (score q c0 (k p.1) (ck p.1) (ix2 r p.2)) m * v p.1 (ix2 p.2 d) := by
  obtain ⟨hnt, hnj⟩ := List.nodup_cons.mp hn
  obtain ⟨m, -, h⟩ := step _ r _ (blocks_holds q c0 k ck v r hs js) (listSum_mul q c0 k ck v r hs js) (masked (score q c0 (k t) (ck t))) (v t)
    (fun n => by
      rw [masked_apply]
      split
      · obtain ⟨x, e⟩ := hs t n; rw [e]; exact EReal.coe_ne_top x
      · exact bot_ne_top) 0
    (by rw [masked_apply, if_pos (show (0 : Fin 512).val ≤ r.val from Nat.zero_le _)]; obtain ⟨x, e⟩ := hs t 0; rw [e]; exact EReal.coe_ne_bot x)
  refine ⟨m, fun d => (h d).trans ?_⟩
  rw [seen, Finset.sum_filter, Fintype.sum_prod_type]
  have e : ∀ j : Fin 8, (∑ n : Fin 512, if j ∈ js ∨ j = t ∧ n.val ≤ r.val then
      weight (score q c0 (k j) (ck j) (ix2 r n)) m * v j (ix2 n d) else 0)
      = (if j ∈ js then rowSum (score q c0 (k j) (ck j)) (v j) r m d else 0)
        + (if j = t then rowSum (masked (score q c0 (k j) (ck j))) (v j) r m d else 0) := fun j => by
    by_cases hj : j ∈ js
    · have : j ≠ t := fun h => hnt (h ▸ hj)
      simp only [hj, this, true_or, if_true, if_false, add_zero]; rfl
    · by_cases ht : j = t
      · simp only [hj, ht, hnt, false_or, true_and, if_true, if_false, zero_add]
        refine Finset.sum_congr rfl fun n _ => ?_
        rw [masked_apply]
        split
        · rfl
        · rw [weight_bot, zero_mul]
      · simp only [hj, ht, false_or, false_and, if_false, add_zero, Finset.sum_const_zero]
  rw [Finset.sum_congr rfl fun j _ => e j, Finset.sum_add_distrib, Finset.sum_ite_eq' Finset.univ t, if_pos (Finset.mem_univ _)]
  congr 1
  rw [← Finset.sum_filter, show (Finset.univ.filter fun j => j ∈ js) = js.toFinset from by ext j; simp, List.sum_toFinset _ hnj]
  rfl

end Cert.Proof.KernelIdeal

end
-- ==== Proof.Attend.lean ====
/-
  Softmax attention of one head over the extended reals, with its gate, and the position of an entry of a tile.
-/
module

public import proofs.«01_k».proof.Proof.Softmax

@[expose] public section

noncomputable section

namespace Cert.Proof

open Idealize.ShloMosaic

/-- Position `512 j + n` of 4096, as a tile and a position in it. -/
def pos : Fin 8 × Fin 512 ≃ Fin 4096 where
  toFun p := ⟨512 * p.1.val + p.2.val, by have := p.1.isLt; have := p.2.isLt; omega⟩
  invFun x := (⟨x.val / 512, by have := x.isLt; omega⟩, ⟨x.val % 512, by omega⟩)
  left_inv p := by
    have := p.1.isLt; have := p.2.isLt
    refine Prod.ext (Fin.ext ?_) (Fin.ext ?_)
    · show (512 * p.1.val + p.2.val) / 512 = p.1.val; omega
    · show (512 * p.1.val + p.2.val) % 512 = p.2.val; omega
  right_inv x := by refine Fin.ext ?_; show 512 * (x.val / 512) + x.val % 512 = x.val; omega

section Head

variable (Q K V Z : Fin 4096 → Fin 128 → EReal) (C : Fin 4096 → EReal) (see : Fin 4096 → Fin 4096 → Prop)

open Classical in
/-- The logit of key `k` for query `i`: the product times `ln 2`, plus the running sum at the query, less that at the key;
    `⊥` where the query does not see the key. -/
def logit (i k : Fin 4096) : EReal :=
  if see i k then (∑ d, Q i d * K k d) * ((Real.log 2 : ℝ) : EReal) + C i - C k else ⊥

/-- The greatest logit of query `i`. -/
def top (i : Fin 4096) : EReal := Finset.univ.fold max ⊥ (logit Q K C see i)

/-- Softmax attention with its gate `z / (1 + exp (-z))`. -/
def attend (i : Fin 4096) (d : Fin 128) : EReal :=
  (∑ k, Ideal.div (Ideal.exp (logit Q K C see i k - top Q K C see i)) (∑ k, Ideal.exp (logit Q K C see i k - top Q K C see i)) * V k d)
    * (Z i d * Ideal.div 1 (1 + Ideal.exp (-(Z i d))))

/-- Finitely many reals multiplied pairwise have a real sum. -/
theorem dot_real {ι : Type*} (S : Finset ι) (f g : ι → EReal) (hf : ∀ k, ∃ x : ℝ, f k = x) (hg : ∀ k, ∃ x : ℝ, g k = x) :
    ∃ x : ℝ, ∑ k ∈ S, f k * g k = (x : EReal) := by
  choose a ha using hf
  choose b hb using hg
  refine ⟨∑ k ∈ S, a k * b k, ?_⟩
  rw [← Softmax.coe_sum]
  exact Finset.sum_congr rfl fun k _ => by rw [ha, hb, EReal.coe_mul]

variable (hQ : ∀ i d, ∃ x : ℝ, Q i d = x) (hK : ∀ i d, ∃ x : ℝ, K i d = x) (hC : ∀ i, ∃ x : ℝ, C i = x)

/-- The score of key `k` for query `i` in bits, above the running sum `c0`. -/
def bits (c0 : EReal) (i k : Fin 4096) : EReal := (∑ d, Q i d * K k d) - (C k - c0) * (((Real.log 2)⁻¹ : ℝ) : EReal)

include hQ hK hC

/-- A score in bits is real. -/
theorem bits_real {c0 : EReal} (h0 : ∃ x : ℝ, c0 = x) (i k : Fin 4096) : ∃ x : ℝ, bits Q K C c0 i k = x := by
  obtain ⟨p, hp⟩ := dot_real Finset.univ (Q i) (K k) (hQ i) (hK k)
  obtain ⟨c, hc⟩ := hC k
  obtain ⟨c', rfl⟩ := h0
  exact ⟨p - (c - c') * (Real.log 2)⁻¹, by rw [bits, hp, hc, ← EReal.coe_sub, ← EReal.coe_mul, ← EReal.coe_sub]⟩

/-- The keys' weighted values over their weight, in bits against any real row value, are softmax attention. -/
theorem attend_eq {c0 : EReal} (h0 : ∃ x : ℝ, c0 = x) (i : Fin 4096) (d : Fin 128) (m : ℝ) (S : Finset (Fin 8 × Fin 512))
    (p₀ : Fin 8 × Fin 512) (hp₀ : p₀ ∈ S) (hS : ∀ p, p ∈ S ↔ see i (pos p)) :
    Ideal.div (∑ p ∈ S, Softmax.weight (bits Q K C c0 i (pos p)) m * V (pos p) d) (∑ p ∈ S, Softmax.weight (bits Q K C c0 i (pos p)) m)
        * (Z i d * Ideal.div 1 (1 + Ideal.exp (0 - Z i d)))
      = attend Q K V Z C see i d := by
  have hl2 : Real.log 2 ≠ 0 := (Real.log_pos (by norm_num)).ne'
  have hr := bits_real Q K C hQ hK hC h0 i
  obtain ⟨c, hc⟩ := hC i
  obtain ⟨c', rfl⟩ := h0
  have hl : ∀ p ∈ S, logit Q K C see i (pos p) = bits Q K C c' i (pos p) * ((Real.log 2 : ℝ) : EReal) + ((c - c' : ℝ) : EReal) := fun p hp => by
    obtain ⟨a, ha⟩ := dot_real Finset.univ (Q i) (K (pos p)) (hQ i) (hK _)
    obtain ⟨b, hb⟩ := hC (pos p)
    rw [logit, if_pos ((hS p).mp hp), bits, ha, hb, hc, ← EReal.coe_sub, ← EReal.coe_mul, ← EReal.coe_mul, ← EReal.coe_sub, ← EReal.coe_mul,
      ← EReal.coe_add, ← EReal.coe_sub, ← EReal.coe_add]
    congr 1
    field_simp
    ring
  have hl' : ∀ p ∉ S, logit Q K C see i (pos p) = ⊥ := fun p hp => by
    rw [logit, if_neg fun h => hp ((hS p).mpr h)]
  have hreal : ∀ p ∈ S, ∃ x : ℝ, logit Q K C see i (pos p) = x := fun p hp => by
    obtain ⟨x, hx⟩ := hr (pos p)
    exact ⟨x * Real.log 2 + (c - c'), by rw [hl p hp, hx, ← EReal.coe_mul, ← EReal.coe_add]⟩
  obtain ⟨M, hM⟩ : ∃ M : ℝ, top Q K C see i = (M : EReal) := by
    refine Softmax.fold_max_real _ _ (fun k _ => ?_) (pos p₀) (Finset.mem_univ _) ?_
    · obtain ⟨p, rfl⟩ := pos.surjective k
      by_cases hp : p ∈ S
      · obtain ⟨x, hx⟩ := hreal p hp; rw [hx]; exact EReal.coe_ne_top x
      · rw [hl' p hp]; exact bot_ne_top
    · obtain ⟨x, hx⟩ := hreal p₀ hp₀; rw [hx]; exact EReal.coe_ne_bot x
  have h := Softmax.softmax_eq S (fun p => bits Q K C c' i (pos p)) (fun p => logit Q K C see i (pos p)) (fun p => V (pos p) d) m M (c - c')
    (fun p _ => by obtain ⟨x, hx⟩ := hr (pos p); rw [hx]; exact EReal.coe_ne_top x) p₀ hp₀
    (by obtain ⟨x, hx⟩ := hr (pos p₀); rw [hx]; exact EReal.coe_ne_bot x) hl hl'
  rw [h, attend, hM, zero_sub]
  refine congrArg (· * (Z i d * Ideal.div 1 (1 + Ideal.exp (-(Z i d))))) ?_
  rw [Equiv.sum_comp pos fun k => Ideal.exp (logit Q K C see i k - (M : EReal)),
    Equiv.sum_comp pos fun k => Ideal.div (Ideal.exp (logit Q K C see i k - (M : EReal))) (∑ k, Ideal.exp (logit Q K C see i k - (M : EReal))) * V k d]

end Head

end Cert.Proof

end
-- ==== Proof.KernelIdealStored.lean ====
/-
  What a grid point stores, entry by entry: softmax attention of the head whose blocks it holds (`stored_apply`, `canon_pieces`).
-/
module

public import proofs.«01_k».proof.Proof.KernelIdealRead
public import proofs.«01_k».proof.Proof.Attend

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof.Softmax

/-- Row `r` of tile `j`, read through the load of the tile's rows. -/
theorem rowsOf_apply (a : Memref sig .tc .vmem S1x1x1x4096x128 .bf16) (h : a.IsWhole) (x : Vec Ideal S1x1x1x4096x128 .bf16) (j : Fin 8)
    (r : Fin 512) (d : Fin 128) : rowsOf a h x j (ix2 r d) = x (ix5 0 0 0 (pos (j, r)) d) := by
  unfold rowsOf
  rw [View.readAt_eq_ld, h.read_unread]
  refine (shapeCast_apply _ _ (ix2 r d) (ix5 0 0 0 r d : S1x1x1x512x128.Idx) ?_).trans (congrArg x ?_)
  · rw [Shape.rowMajor_val_five, Shape.rowMajor_val_two]
    show (((0 * 1 + 0) * 1 + 0) * 512 + r.val) * 128 + d.val = r.val * 128 + d.val
    omega
  · funext ax
    match ax with
    | ⟨0, _⟩ => exact Fin.ext rfl
    | ⟨1, _⟩ => exact Fin.ext rfl
    | ⟨2, _⟩ => exact Fin.ext rfl
    | ⟨3, _⟩ => exact Fin.ext (show 512 * j.val + 1 * r.val = 512 * j.val + r.val by omega)
    | ⟨4, _⟩ => exact Fin.ext (show 0 + 1 * d.val = d.val by omega)

/-- Entry `n` of tile `j`'s running sums. -/
theorem runOf_apply (a : Memref sig .tc .vmem S1x1x1x4096 .f32) (h : a.IsWhole) (x : Vec Ideal S1x1x1x4096 .f32) (j : Fin 8)
    (n : Fin 512) : runOf a h x j (ix2 0 n) = x (ix4 0 0 0 (pos (j, n))) := by
  unfold runOf
  rw [View.readAt_eq_ld, h.read_unread]
  pointwise
  rfl

/-- The first running sum of tile `j`. -/
theorem headOf_apply (a : Memref sig .tc .vmem S1x1x1x4096 .f32) (h : a.IsWhole) (x : Vec Ideal S1x1x1x4096 .f32) (j : Fin 8) :
    headOf a h x j (ix2 0 0) = x (ix4 0 0 0 (pos (j, 0))) := by
  unfold headOf
  rw [View.readAt_eq_ld, h.read_unread]
  pointwise
  rfl

/-- The left half of the scratch holds the values, -/
theorem canon_wide_left (a : Memref sig .tc .vmem S1x1x1x4096x128 .bf16) (h : a.IsWhole) (x : Vec Ideal S1x1x1x4096x128 .bf16)
    (i : Fin 4096) (d : Fin 128) : View.canon (wide a h x) (ix2 i ⟨d.val, by omega⟩ : S4096x256.Idx) = x (ix5 0 0 0 i d) := by
  unfold wide
  rw [View.canon_cons_of_not_mem _ _ (fun hm => by
    have h2 : 128 ≤ d.val :=
      ((Rect.mem_set_unit.mp (show _ ∈ (Rect.unit (s := S4096x256) ![0, 128] S4096x128.size (by decide)).set from hm)) 1).1
    omega)]
  refine (congrArg _ ?_).trans ((View.canon_cons_emb _ _ _ (ix2 i d : S4096x128.Idx)).trans ?_)
  · funext ax
    match ax with
    | ⟨0, _⟩ => exact Fin.ext (show i.val = 0 + 1 * i.val by omega)
    | ⟨1, _⟩ => exact Fin.ext (show d.val = 0 + 1 * d.val by omega)
  · rw [View.readAt_eq_ld, h.read_unread]
    refine (shapeCast_apply _ _ (ix2 i d : S4096x128.Idx) (ix2 i d : S4096x128.Idx) rfl).trans ?_
    refine (shapeCast_apply _ _ (ix2 i d : S4096x128.Idx) (ix5 0 0 0 i d : S1x1x1x4096x128.Idx) ?_).trans (congrArg x ?_)
    · rw [Shape.rowMajor_val_five, Shape.rowMajor_val_two]
      show (((0 * 1 + 0) * 1 + 0) * 4096 + i.val) * 128 + d.val = i.val * 128 + d.val
      omega
    · funext ax
      match ax with
      | ⟨0, _⟩ => exact Fin.ext rfl
      | ⟨1, _⟩ => exact Fin.ext rfl
      | ⟨2, _⟩ => exact Fin.ext rfl
      | ⟨3, _⟩ => exact Fin.ext (show 0 + 1 * i.val = i.val by omega)
      | ⟨4, _⟩ => exact Fin.ext (show 0 + 1 * d.val = d.val by omega)

/-- and column 128 a one. -/
theorem canon_wide_one (a : Memref sig .tc .vmem S1x1x1x4096x128 .bf16) (h : a.IsWhole) (x : Vec Ideal S1x1x1x4096x128 .bf16)
    (i : Fin 4096) : View.canon (wide a h x) (ix2 i 128 : S4096x256.Idx) = (1 : EReal) := by
  unfold wide
  refine (congrArg _ ?_).trans ((View.canon_cons_emb _ _ _ (ix2 i 0 : S4096x128.Idx)).trans ?_)
  · funext ax
    match ax with
    | ⟨0, _⟩ => exact Fin.ext (show i.val = 0 + 1 * i.val by omega)
    | ⟨1, _⟩ => exact Fin.ext rfl
  · refine (shapeCast_apply _ _ (ix2 i 0 : S4096x128.Idx) (ix2 i 0 : S4096x128.Idx) rfl).trans ?_
    pointwise

section Body

variable (a3 : Memref sig .tc .vmem S1x1x1x4096x128 .bf16) (h3 : a3.IsWhole)
  (a4 : Memref sig .tc .vmem S1x1x1x4096x128 .bf16) (h4 : a4.IsWhole)
  (a5 : Memref sig .tc .vmem S1x1x1x4096x128 .bf16) (h5 : a5.IsWhole)
  (a6 : Memref sig .tc .vmem S1x1x1x4096x128 .bf16) (h6 : a6.IsWhole)
  (a7 : Memref sig .tc .vmem S1x1x1x4096 .f32) (h7 : a7.IsWhole)
  (a9 : Memref sig .tc .vmem S4096x256 .bf16)
  (x3 x4 x5 x6 : Vec Ideal S1x1x1x4096x128 .bf16) (x7 : Vec Ideal S1x1x1x4096 .f32)

/-- The rows of a head's block, -/
def rows (x : Vec Ideal S1x1x1x4096x128 .bf16) (i : Fin 4096) (d : Fin 128) : EReal := x (ix5 0 0 0 i d)

/-- and its running sums. -/
def sums (x : Vec Ideal S1x1x1x4096 .f32) (i : Fin 4096) : EReal := x (ix4 0 0 0 i)

/-- The tile's values as loaded from the scratch. -/
theorem vals_left (j : Fin 8) (n : Fin 512) (d : Fin 128) :
    (a9.view.readCov (wide a5 h5 x5) (wideRect j).toLoadRect : FVec Ideal S512x256 .bf16) (ix2 n ⟨d.val, by omega⟩) = rows x5 (pos (j, n)) d := by
  rw [View.readCov_eq_canon']
  refine Eq.trans (congrArg _ ?_) (canon_wide_left a5 h5 x5 (pos (j, n)) d)
  funext ax
  match ax with
  | ⟨0, _⟩ => exact Fin.ext (show 512 * j.val + 1 * n.val = 512 * j.val + n.val by omega)
  | ⟨1, _⟩ => exact Fin.ext (show 0 + 1 * d.val = d.val by omega)

theorem vals_one (j : Fin 8) (n : Fin 512) :
    (a9.view.readCov (wide a5 h5 x5) (wideRect j).toLoadRect : FVec Ideal S512x256 .bf16) (ix2 n 128) = (1 : EReal) := by
  rw [View.readCov_eq_canon']
  refine Eq.trans (congrArg _ ?_) (canon_wide_one a5 h5 x5 (pos (j, n)))
  funext ax
  match ax with
  | ⟨0, _⟩ => exact Fin.ext (show 512 * j.val + 1 * n.val = 512 * j.val + n.val by omega)
  | ⟨1, _⟩ => exact Fin.ext rfl

/-- A tile's score is the score in bits of its positions. -/
theorem score_bits (t j : Fin 8) (r n : Fin 512) :
    score (rowsOf a3 h3 x3 t) (headOf a7 h7 x7 t) (rowsOf a4 h4 x4 j) (runOf a7 h7 x7 j) (ix2 r n)
      = bits (rows x3) (rows x4) (sums x7) (sums x7 (pos (t, 0))) (pos (t, r)) (pos (j, n)) := by
  rw [score_apply, headOf_apply, runOf_apply, bits]
  simp only [rowsOf_apply]
  rfl

variable (hQ : ∀ i d, ∃ x : ℝ, rows x3 i d = x) (hK : ∀ i d, ∃ x : ℝ, rows x4 i d = x) (hC : ∀ i, ∃ x : ℝ, sums x7 i = x)
include hQ hK hC

/-- What is stored for a query tile is softmax attention over the keys its blocks let it see. -/
theorem stored_apply (see : Fin 4096 → Fin 4096 → Prop) (js : List (Fin 8)) (t : Fin 8) (hn : (t :: js).Nodup)
    (hS : ∀ (r : Fin 512) (p : Fin 8 × Fin 512), p ∈ seen js t r ↔ see (pos (t, r)) (pos p)) (r : Fin 512) (d : Fin 128) :
    stored a3 h3 a4 h4 a5 h5 a6 h6 a7 h7 a9 x3 x4 x5 x6 x7 js t (ix3 0 r d)
      = attend (rows x3) (rows x4) (rows x5) (rows x6) (sums x7) see (pos (t, r)) d := by
  have hs : ∀ j n, ∃ x : ℝ, score (rowsOf a3 h3 x3 t) (headOf a7 h7 x7 t) (rowsOf a4 h4 x4 j) (runOf a7 h7 x7 j) (ix2 r n) = (x : EReal) :=
    fun j n => by rw [score_bits]; exact bits_real _ _ _ hQ hK hC (hC _) _ _
  unfold stored
  obtain ⟨m, hm⟩ := tile_apply (rowsOf a3 h3 x3 t) (headOf a7 h7 x7 t) (rowsOf a4 h4 x4) (runOf a7 h7 x7)
    (fun j => a9.view.readCov (wide a5 h5 x5) (wideRect j).toLoadRect) r hs js t hn
  rw [out_apply, hm, hm]
  simp only [vals_left, vals_one, mul_one, score_bits]
  rw [rowsOf_apply]
  exact attend_eq (rows x3) (rows x4) (rows x5) (rows x6) (sums x7) see hQ hK hC (hC (pos (t, 0))) (pos (t, r)) d m (seen js t r) (t, 0)
    (by rw [seen, Finset.mem_filter]; exact ⟨Finset.mem_univ _, Or.inr ⟨rfl, Nat.zero_le _⟩⟩) (hS r)

/-- The keys a query sees: those not after it, and, unless `far`, no further back than two tiles before its own. -/
def sees (far : Prop) (i k : Fin 4096) : Prop := k.val ≤ i.val ∧ (far ∨ i.val / 512 ≤ k.val / 512 + 2)

/-- The piece stored for tile `t`, when its blocks are the ones before it that `far` lets it see. -/
theorem piece_apply (far : Prop) (js : List (Fin 8)) (t : Fin 8) (hn : (t :: js).Nodup)
    (hj : ∀ j : Fin 8, j ∈ js ↔ j.val < t.val ∧ (far ∨ t.val ≤ j.val + 2)) (x : S1x512x128.Idx) :
    stored a3 h3 a4 h4 a5 h5 a6 h6 a7 h7 a9 x3 x4 x5 x6 x7 js t x
      = (fun y : S1x4096x128.Idx => attend (rows x3) (rows x4) (rows x5) (rows x6) (sums x7) (sees far) (y 1) (y 2)) ((outRect t).emb x) := by
  have e : x = ix3 0 (x 1) (x 2) := by
    funext ax
    match ax with
    | ⟨0, _⟩ => exact Subsingleton.elim (α := Fin 1) _ _
    | ⟨1, _⟩ => rfl
    | ⟨2, _⟩ => rfl
  have h := stored_apply a3 h3 a4 h4 a5 h5 a6 h6 a7 h7 a9 x3 x4 x5 x6 x7 hQ hK hC (sees far) js t hn (fun r p => by
    have h1 := p.1.isLt
    have h2 := p.2.isLt
    have h3 := r.isLt
    rw [seen, Finset.mem_filter]
    show _ ∧ _ ↔ 512 * p.1.val + p.2.val ≤ 512 * t.val + r.val ∧ (far ∨ (512 * t.val + r.val) / 512 ≤ (512 * p.1.val + p.2.val) / 512 + 2)
    rw [hj, Fin.ext_iff, show (512 * t.val + r.val) / 512 = t.val by omega, show (512 * p.1.val + p.2.val) / 512 = p.1.val by omega]
    by_cases hf : far
    · simp only [hf, Finset.mem_univ, true_or, and_true, true_and]; omega
    · simp only [hf, Finset.mem_univ, false_or, true_and]; omega) (x 1) (x 2)
  refine (congrArg _ e).trans (h.trans ?_)
  show attend _ _ _ _ _ _ (pos (t, x 1)) (x 2) = attend _ _ _ _ _ _ ((outRect t).emb x 1) ((outRect t).emb x 2)
  rw [show (outRect t).emb x 1 = pos (t, x 1) from Fin.ext (show 512 * t.val + 1 * (x 1).val = 512 * t.val + (x 1).val by omega),
    show (outRect t).emb x 2 = x 2 from Fin.ext (show 0 + 1 * (x 2).val = (x 2).val by omega)]

end Body

section Body

variable (c : Dev nD) (i : grid0.Coords)
  (a2 : Memref sig .tc .smem S8x16 .i32) (h2 : a2.IsWhole)
  (a3 : Memref sig .tc .vmem S1x1x1x4096x128 .bf16) (h3 : a3.IsWhole)
  (a4 : Memref sig .tc .vmem S1x1x1x4096x128 .bf16) (h4 : a4.IsWhole)
  (a5 : Memref sig .tc .vmem S1x1x1x4096x128 .bf16) (h5 : a5.IsWhole)
  (a6 : Memref sig .tc .vmem S1x1x1x4096x128 .bf16) (h6 : a6.IsWhole)
  (a7 : Memref sig .tc .vmem S1x1x1x4096 .f32) (h7 : a7.IsWhole)
  (a8 : Memref sig .tc .vmem S1x4096x128 .bf16) (h8 : a8.IsWhole)
  (a9 : Memref sig .tc .vmem S4096x256 .bf16) (h9 : a9.IsWhole)
  (x2 : Vec Ideal S8x16 .i32) (x3 x4 x5 x6 : Vec Ideal S1x1x1x4096x128 .bf16) (x7 : Vec Ideal S1x1x1x4096 .f32)
  (hQ : ∀ i d, ∃ x : ℝ, rows x3 i d = x) (hK : ∀ i d, ∃ x : ℝ, rows x4 i d = x) (hC : ∀ i, ∃ x : ℝ, sums x7 i = x)
include hQ hK hC

/-- The pieces a grid point stores are softmax attention of its head. -/
theorem canon_pieces (y : S1x4096x128.Idx) :
    View.canon (pieces c i a2 h2 a3 h3 a4 h4 a5 h5 a6 h6 a7 h7 a8 h8 a9 h9 x2 x3 x4 x5 x6 x7) y
      = attend (rows x3) (rows x4) (rows x5) (rows x6) (sums x7) (sees (flagWord i x2 ≠ 0#32)) (y 1) (y 2) := by
  refine View.canon_apply_of_pieces
    (fun y : S1x4096x128.Idx => attend (rows x3) (rows x4) (rows x5) (rows x6) (sums x7) (sees (flagWord i x2 ≠ 0#32)) (y 1) (y 2)) _ ?_ y
    (pieces_cover c i a2 h2 a3 h3 a4 h4 a5 h5 a6 h6 a7 h7 a8 h8 a9 h9 x2 x3 x4 x5 x6 x7 y)
  have h := piece_apply a3 h3 a4 h4 a5 h5 a6 h6 a7 h7 a9 x3 x4 x5 x6 x7 hQ hK hC (flagWord i x2 ≠ 0#32)
  unfold pieces
  by_cases hw : flagWord i x2 = 0#32
  · have hf : ¬ flagWord i x2 ≠ 0#32 := fun h => h hw
    rw [dif_pos hw, runNear_pieces]
    simp only [List.forall_mem_cons]
    simp only [hf, false_or] at h ⊢
    exact ⟨h _ _ (by decide) (by decide), h _ _ (by decide) (by decide), h _ _ (by decide) (by decide), h _ _ (by decide) (by decide),
      h _ _ (by decide) (by decide), h _ _ (by decide) (by decide), h _ _ (by decide) (by decide), h _ _ (by decide) (by decide), fun _ hp => absurd hp (List.not_mem_nil)⟩
  · have hf : flagWord i x2 ≠ 0#32 := hw
    rw [dif_neg hw, runFull_pieces]
    simp only [List.forall_mem_cons]
    have h := fun js t hn (hj : ∀ j : Fin 8, j ∈ js ↔ j.val < t.val) => h js t hn fun j => (hj j).trans ⟨fun a => ⟨a, Or.inl hf⟩, fun a => a.1⟩
    exact ⟨h _ _ (by decide) (by decide), h _ _ (by decide) (by decide), h _ _ (by decide) (by decide), h _ _ (by decide) (by decide),
      h _ _ (by decide) (by decide), h _ _ (by decide) (by decide), h _ _ (by decide) (by decide), h _ _ (by decide) (by decide), fun _ hp => absurd hp (List.not_mem_nil)⟩

end Body

end Cert.Proof.KernelIdeal

end
-- ==== Proof.Reference.lean ====
/-
  What the two references compute, entry by entry: softmax attention of every head over the keys its mask holds. Both are one
  function of the mask (`attended`), read once (`attended_apply`).
-/
module

public import proofs.«01_k».proof.Proof.Attend
public import proofs.«01_k».proof.Proof.Gen.ReferenceIdeal.Read
public import proofs.«01_k».proof.Proof.Gen.WindowedIdeal.Read
public import Idealize.ShloMosaic.Lib.Pointwise
public import Idealize.ShloMosaic.PureOps.Ideal.Laws

@[expose] public section

set_option maxRecDepth 16384

noncomputable section

namespace Cert.Proof.Reference

open Cert.ReferenceIdeal Cert.ReferenceIdeal.Gen Cert.ReferenceIdeal.Read
open Idealize.ShloMosaic Idealize.ShloMosaic.TcCoe
open Idealize.SL.Sem

/-- The logits where the mask holds, `-∞` elsewhere. -/
def masked (mask : IVec S8x16x4096x4096 1) (x1 : FVec Ideal S4x8x16x4096x128 .bf16) (x2 : FVec Ideal S8x16x1x4096 .f32) :
    FVec Ideal S8x16x4096x4096 .f32 :=
  select mask (val_main_v25 (F := Ideal) x1 x2) (val_main_call1_v2 (F := Ideal))

/-- One value per row, along the row. -/
def along (y : FVec Ideal S8x16x4096 .f32) : FVec Ideal S8x16x4096x4096 .f32 :=
  broadcastInDim S8x16x4096x4096 ![0, 1, 2, 3] bcast_S8x16x4096x1_S8x16x4096x4096_0_1_2_3
    (broadcastInDim S8x16x4096x1 ![0, 1, 2] bcast_S8x16x4096_S8x16x4096x1_0_1_2 y)

/-- The greatest logit of every row. -/
def tops (s : FVec Ideal S8x16x4096x4096 .f32) : FVec Ideal S8x16x4096 .f32 :=
  maximumf (val_main_v28 (F := Ideal))
    (Host.reduce FloatOps.maximumf s (val_main_cst_1 (F := Ideal)) reducesTo_S8x16x4096x4096_S8x16x4096_d3 h_S_)

/-- The exponentials of the logits under their row's greatest. -/
def powers (s : FVec Ideal S8x16x4096x4096 .f32) : FVec Ideal S8x16x4096x4096 .f32 :=
  Host.exp (subf s (along (tops s)))

/-- Every power over its row's sum. -/
def shares (p : FVec Ideal S8x16x4096x4096 .f32) : FVec Ideal S8x16x4096x4096 .f32 :=
  Host.divf p (along (Host.reduceAdd p (val_main_cst_3 (F := Ideal)) reducesTo_S8x16x4096x4096_S8x16x4096_d3 h_S_))

/-- The values weighted by the shares. -/
def mixed (p : FVec Ideal S8x16x4096x4096 .f32) (v : FVec Ideal S8x16x4096x128 .f32) : FVec Ideal S8x16x4096x128 .f32 :=
  Host.dotGeneral dot_S8x16x4096x4096_S8x16x4096x128_S8x16x4096x128_3_2_2_3_01_01 none p v

/-- The result, with the heads side by side. -/
def attended (mask : IVec S8x16x4096x4096 1) (x1 : FVec Ideal S4x8x16x4096x128 .bf16) (x2 : FVec Ideal S8x16x1x4096 .f32) :
    FVec Ideal S8x4096x2048 .bf16 :=
  truncf .bf16 (shapeCast S8x4096x2048 (transpose S8x4096x16x128 [0, 2, 1, 3]
    (mulf (mixed (shares (powers (masked mask x1 x2))) (val_main_v10 (F := Ideal) x1)) (val_main_v39 (F := Ideal) x1))
    transposes_S8x16x4096x128_S8x4096x16x128_0_2_1_3) shapeCasts_S8x4096x16x128_S8x4096x2048) bitsLt_bf16_f32

theorem reference_eq (x1 : FVec Ideal S4x8x16x4096x128 .bf16) (x2 : FVec Ideal S8x16x1x4096 .f32) :
    val_main_v43 (F := Ideal) x1 x2 = attended (val_main_call1_v1 (F := Ideal)) x1 x2 := rfl

theorem windowed_eq (x0 : IVec S8x16 32) (x1 : FVec Ideal S4x8x16x4096x128 .bf16) (x2 : FVec Ideal S8x16x1x4096 .f32) :
    Cert.WindowedIdeal.Read.val_main_v63 (F := Ideal) x0 x1 x2
      = attended (Cert.WindowedIdeal.Read.val_main_v21 (F := Ideal) x0) x1 x2 := rfl

/-- The bits of the starting value are `⊥`. -/
theorem bot_bits : Ideal.ofBits .f32 0xFF800000#32 = (⊥ : EReal) := by simp [Ideal.ofBits, Ideal.ieee]

theorem tops_apply (s : FVec Ideal S8x16x4096x4096 .f32) (b : Fin 8) (h : Fin 16) (i : Fin 4096) :
    tops s (ix3 b h i) = Finset.univ.fold max ⊥ fun k => s (ix4 b h i k) := by
  have e : Host.reduce FloatOps.maximumf s (val_main_cst_1 (F := Ideal)) reducesTo_S8x16x4096x4096_S8x16x4096_d3 h_S_ (ix3 b h i)
      = Finset.univ.fold max ⊥ fun k => s (ix4 b h i k) := by
    refine (Host.reduce_eq_fold_single (a := (3 : Fin S8x16x4096x4096.rank)) FloatOps.maximumf s _ _ (by decide) h_S_ (ix3 b h i)).trans ?_
    rw [val_main_cst_1_apply]
    show Finset.univ.fold max (Ideal.ofBits .f32 0xFF800000#32) _ = _
    rw [bot_bits]
    refine congrArg (fun g => Finset.univ.fold max ⊥ g) (funext fun k => congrArg s (funext fun a => ?_))
    match a with
    | ⟨0, _⟩ => exact Fin.ext rfl
    | ⟨1, _⟩ => exact Fin.ext rfl
    | ⟨2, _⟩ => exact Fin.ext rfl
    | ⟨3, _⟩ => exact Fin.ext rfl
  unfold tops
  rw [maximumf_apply, e, val_main_v28_apply, val_main_cst_2_apply]
  show max (Ideal.ofBits .f32 0xFF800000#32) _ = _
  rw [bot_bits]
  exact max_eq_right bot_le

theorem along_apply (y : FVec Ideal S8x16x4096 .f32) (b : Fin 8) (h : Fin 16) (i k : Fin 4096) :
    along y (ix4 b h i k) = y (ix3 b h i) := by
  unfold along
  pointwise

theorem powers_apply (s : FVec Ideal S8x16x4096x4096 .f32) (b : Fin 8) (h : Fin 16) (i k : Fin 4096) :
    powers s (ix4 b h i k) = Ideal.exp (s (ix4 b h i k) - Finset.univ.fold max ⊥ fun k => s (ix4 b h i k)) := by
  rw [← tops_apply, ← along_apply (tops s) b h i k]
  rfl

theorem shares_apply (p : FVec Ideal S8x16x4096x4096 .f32) (b : Fin 8) (h : Fin 16) (i k : Fin 4096) :
    shares p (ix4 b h i k) = Ideal.div (p (ix4 b h i k)) (∑ k, p (ix4 b h i k)) := by
  have e : Host.reduceAdd p (val_main_cst_3 (F := Ideal)) reducesTo_S8x16x4096x4096_S8x16x4096_d3 h_S_ (ix3 b h i)
      = ∑ k, p (ix4 b h i k) := by
    simp only [Host.reduceAdd, Ideal.hostReduceAdd_def]
    rw [Ideal.hostReduceAdd_single reducesTo_S8x16x4096x4096_S8x16x4096_d3 (by decide), val_main_cst_3_apply]
    show Ideal.ofBits .f32 0x00000000#32 + _ = _
    rw [show Ideal.ofBits .f32 0x00000000#32 = (0 : EReal) from by simp [Ideal.ofBits, Ideal.ieee], zero_add]
    refine Finset.sum_congr rfl fun k _ => congrArg p (funext fun a => ?_)
    match a with
    | ⟨0, _⟩ => exact Fin.ext rfl
    | ⟨1, _⟩ => exact Fin.ext rfl
    | ⟨2, _⟩ => exact Fin.ext rfl
    | ⟨3, _⟩ => exact Fin.ext rfl
  exact congrArg (Ideal.div _) ((along_apply _ b h i k).trans e)

theorem mixed_apply (p : FVec Ideal S8x16x4096x4096 .f32) (v : FVec Ideal S8x16x4096x128 .f32) (b : Fin 8) (h : Fin 16) (i : Fin 4096)
    (d : Fin 128) : mixed p v (ix4 b h i d) = ∑ k, p (ix4 b h i k) * v (ix4 b h k d) := by
  unfold mixed
  pointwise

theorem ext3 {n0 n1 n2 : Nat} {x y : (⟨3, ![n0, n1, n2]⟩ : Shape).Idx} (h0 : (x 0).val = (y 0).val) (h1 : (x 1).val = (y 1).val)
    (h2 : (x 2).val = (y 2).val) : x = y := funext fun a => by
  match a with
  | ⟨0, _⟩ => exact Fin.ext h0
  | ⟨1, _⟩ => exact Fin.ext h1
  | ⟨2, _⟩ => exact Fin.ext h2

theorem ext4 {n0 n1 n2 n3 : Nat} {x y : (⟨4, ![n0, n1, n2, n3]⟩ : Shape).Idx} (h0 : (x 0).val = (y 0).val) (h1 : (x 1).val = (y 1).val)
    (h2 : (x 2).val = (y 2).val) (h3 : (x 3).val = (y 3).val) : x = y := funext fun a => by
  match a with
  | ⟨0, _⟩ => exact Fin.ext h0
  | ⟨1, _⟩ => exact Fin.ext h1
  | ⟨2, _⟩ => exact Fin.ext h2
  | ⟨3, _⟩ => exact Fin.ext h3

/-- Entry (b, h, i, d) of section `s` of the projections. -/
def head (x1 : FVec Ideal S4x8x16x4096x128 .bf16) (s : Fin 4) (b : Fin 8) (h : Fin 16) (i : Fin 4096) (d : Fin 128) : EReal := x1 (ix5 s b h i d)

/-- The running sums of a head. -/
def running (x2 : FVec Ideal S8x16x1x4096 .f32) (b : Fin 8) (h : Fin 16) (i : Fin 4096) : EReal := x2 (ix4 b h 0 i)

theorem section_apply (s : Fin 4) (x1 : FVec Ideal S4x8x16x4096x128 .bf16) (hs : S4x8x16x4096x128.Slices ![s.val, 0, 0, 0, 0] S1x8x16x4096x128)
    (b : Fin 8) (h : Fin 16) (i : Fin 4096) (d : Fin 128) :
    (extf .f32 (shapeCast S8x16x4096x128 (extractStridedSlice S1x8x16x4096x128 ![s.val, 0, 0, 0, 0] x1 hs)
      shapeCasts_S1x8x16x4096x128_S8x16x4096x128) bitsLt_bf16_f32 : FVec Ideal S8x16x4096x128 .f32) (ix4 b h i d) = head x1 s b h i d := by
  refine (show _ = shapeCast S8x16x4096x128 (extractStridedSlice S1x8x16x4096x128 ![s.val, 0, 0, 0, 0] x1 hs)
    shapeCasts_S1x8x16x4096x128_S8x16x4096x128 (ix4 b h i d) from rfl).trans ?_
  refine (shapeCast_apply _ _ (ix4 b h i d) (ix5 0 b h i d : S1x8x16x4096x128.Idx) ?_).trans ?_
  · rw [Shape.rowMajor_val_five, Shape.rowMajor_val_four]
    show (((0 * 8 + b.val) * 16 + h.val) * 4096 + i.val) * 128 + d.val = ((b.val * 16 + h.val) * 4096 + i.val) * 128 + d.val
    omega
  · refine extractStridedSlice_apply _ x1 hs _ (ix5 s b h i d) fun a => ?_
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm

theorem running_apply (x2 : FVec Ideal S8x16x1x4096 .f32) (b : Fin 8) (h : Fin 16) (i : Fin 4096) :
    val_main_v14 (F := Ideal) x2 (ix3 b h i) = running x2 b h i := by
  unfold val_main_v14
  refine shapeCast_apply x2 _ (ix3 b h i) (ix4 b h 0 i) ?_
  rw [Shape.rowMajor_val_four, Shape.rowMajor_val_three]
  show ((b.val * 16 + h.val) * 1 + 0) * 4096 + i.val = (b.val * 16 + h.val) * 4096 + i.val
  omega

/-- The product of a query and a key. -/
theorem product_apply (x1 : FVec Ideal S4x8x16x4096x128 .bf16) (b : Fin 8) (h : Fin 16) (i k : Fin 4096) :
    val_main_v15 (F := Ideal) x1 (ix4 b h i k) = ∑ d, head x1 0 b h i d * head x1 1 b h k d := by
  rw [val_main_v15_apply]
  refine Finset.sum_congr rfl fun d _ => congrArg₂ (· * ·) ?_ ?_
  · rw [show lidx_main_v15 (ix4 b h i k) d = ix4 b h i d from ext4 rfl rfl rfl rfl]
    exact section_apply 0 x1 _ b h i d
  · rw [show ridx_main_v15 (ix4 b h i k) d = ix4 b h k d from ext4 rfl rfl rfl rfl]
    exact section_apply 1 x1 _ b h k d

/-- The logarithm the products are multiplied by. -/
theorem log_two : Ideal.log (Ideal.ofBits .f32 0x40000000#32) = ((Real.log 2 : ℝ) : EReal) := by
  have two : Ideal.ofBits .f32 0x40000000#32 = ((2 : ℝ) : EReal) := by
    simp [Ideal.ofBits, Ideal.ieee]
    rw [← EReal.coe_mul]
    norm_num
  rw [two]
  show (if (2 : ℝ) ≤ 0 then (⊥ : EReal) else ((Real.log 2 : ℝ) : EReal)) = _
  rw [if_neg (by norm_num)]

theorem score_apply (x1 : FVec Ideal S4x8x16x4096x128 .bf16) (x2 : FVec Ideal S8x16x1x4096 .f32) (b : Fin 8) (h : Fin 16) (i k : Fin 4096) :
    val_main_v25 (F := Ideal) x1 x2 (ix4 b h i k)
      = (∑ d, head x1 0 b h i d * head x1 1 b h k d) * ((Real.log 2 : ℝ) : EReal) + running x2 b h i - running x2 b h k := by
  rw [val_main_v25_apply, val_main_v22_apply, val_main_v19_apply, val_main_v18_apply, val_main_v17_apply, val_main_v16_apply,
    val_main_cst_apply, val_main_v21_apply, val_main_v20_apply, val_main_v24_apply, val_main_v23_apply, product_apply,
    show idx_main_v20 (idx_main_v21 (ix4 b h i k)) = ix3 b h i from ext3 rfl rfl rfl,
    show idx_main_v23 (idx_main_v24 (ix4 b h i k)) = ix3 b h k from ext3 rfl rfl rfl, running_apply, running_apply, ← log_two]
  rfl

/-- The gate of the result. -/
theorem gate_apply (x1 : FVec Ideal S4x8x16x4096x128 .bf16) (b : Fin 8) (h : Fin 16) (i : Fin 4096) (d : Fin 128) :
    val_main_v39 (F := Ideal) x1 (ix4 b h i d)
      = head x1 3 b h i d * Ideal.div 1 (1 + Ideal.exp (-(head x1 3 b h i d))) := by
  have one : Ideal.ofBits .f32 0x3F800000#32 = (1 : EReal) := by
    simp [Ideal.ofBits, Ideal.ieee]
    rw [← EReal.coe_mul]
    norm_num
  rw [val_main_v39_apply, val_main_call2_v5_apply, val_main_call2_v3_apply, val_main_call2_v4_apply, val_main_call2_v2_apply,
    val_main_call2_v1_apply, val_main_call2_v0_apply, val_main_call2_cst_apply, val_main_call2_cst_0_apply,
    show val_main_v13 (F := Ideal) x1 (ix4 b h i d) = head x1 3 b h i d from section_apply 3 x1 _ b h i d]
  show head x1 3 b h i d * Ideal.div (Ideal.ofBits .f32 0x3F800000#32) (Ideal.ofBits .f32 0x3F800000#32 + Ideal.exp (-(head x1 3 b h i d))) = _
  rw [one]

/-- The column of entry `d` of head `h`. -/
def column (h : Fin 16) (d : Fin 128) : Fin 2048 := ⟨h.val * 128 + d.val, by have := h.isLt; have := d.isLt; omega⟩

open Classical in
theorem masked_apply (mask : IVec S8x16x4096x4096 1) (x1 : FVec Ideal S4x8x16x4096x128 .bf16) (x2 : FVec Ideal S8x16x1x4096 .f32)
    (b : Fin 8) (h : Fin 16) (see : Fin 4096 → Fin 4096 → Prop) (hsee : ∀ i k, mask (ix4 b h i k) = 1#1 ↔ see i k) (i k : Fin 4096) :
    masked mask x1 x2 (ix4 b h i k) = logit (head x1 0 b h) (head x1 1 b h) (running x2 b h) see i k := by
  unfold masked logit
  show (if mask (ix4 b h i k) = 1#1 then val_main_v25 (F := Ideal) x1 x2 (ix4 b h i k) else val_main_call1_v2 (F := Ideal) (ix4 b h i k)) = _
  rw [score_apply, val_main_call1_v2_apply]
  show (if _ then _ else Ideal.ofBits .f32 0xFF800000#32) = _
  rw [bot_bits]
  simp only [hsee]

/-- The result at a position of a head. -/
theorem attended_apply (mask : IVec S8x16x4096x4096 1) (x1 : FVec Ideal S4x8x16x4096x128 .bf16) (x2 : FVec Ideal S8x16x1x4096 .f32)
    (b : Fin 8) (h : Fin 16) (see : Fin 4096 → Fin 4096 → Prop) (hsee : ∀ i k, mask (ix4 b h i k) = 1#1 ↔ see i k) (i : Fin 4096) (d : Fin 128) :
    attended mask x1 x2 (ix3 b i (column h d))
      = attend (head x1 0 b h) (head x1 1 b h) (head x1 2 b h) (head x1 3 b h) (running x2 b h) see i d := by
  unfold attended
  refine (show _ = shapeCast S8x4096x2048 (transpose S8x4096x16x128 [0, 2, 1, 3]
    (mulf (mixed (shares (powers (masked mask x1 x2))) (val_main_v10 (F := Ideal) x1)) (val_main_v39 (F := Ideal) x1))
    transposes_S8x16x4096x128_S8x4096x16x128_0_2_1_3) shapeCasts_S8x4096x16x128_S8x4096x2048 (ix3 b i (column h d)) from rfl).trans ?_
  refine (shapeCast_apply _ _ (ix3 b i (column h d)) (ix4 b i h d : S8x4096x16x128.Idx) ?_).trans ?_
  · rw [Shape.rowMajor_val_four, Shape.rowMajor_val_three]
    show ((b.val * 4096 + i.val) * 16 + h.val) * 128 + d.val = (b.val * 4096 + i.val) * 2048 + (h.val * 128 + d.val)
    omega
  refine (transpose_apply _ _ _ (ix4 b i h d : S8x4096x16x128.Idx) (ix4 b h i d) fun a => ?_).trans ?_
  · match a with
    | ⟨0, _⟩ => rfl
    | ⟨1, _⟩ => rfl
    | ⟨2, _⟩ => rfl
    | ⟨3, _⟩ => rfl
  show mixed _ _ (ix4 b h i d) * val_main_v39 (F := Ideal) x1 (ix4 b h i d) = _
  rw [mixed_apply, gate_apply]
  refine congrArg (· * _) (Finset.sum_congr rfl fun k _ => congrArg₂ (· * ·) ?_ (section_apply 2 x1 _ b h k d))
  simp only [shares_apply, powers_apply, masked_apply mask x1 x2 b h see hsee]
  rfl

/-- Positions compare as words just as they do as numbers. -/
theorem sge_ofInt (x y : BitVec 32) (a b : ℤ) (hx : x.toInt = a) (hy : y.toInt = b) : IntOp.cmpi .sge x y = 1#1 ↔ b ≤ a := by
  unfold IntOp.cmpi
  show BitVec.ofBool (BitVec.sle y x) = 1#1 ↔ _
  rw [BitVec.sle_eq_decide, hx, hy]
  by_cases h : b ≤ a <;> simp [h]

theorem toInt_ofNat (n : ℕ) (hn : n < 4096) : (BitVec.ofNat 32 n).toInt = n := by
  have hm : (BitVec.ofNat 32 n).toNat = n := by rw [BitVec.toNat_ofNat]; exact Nat.mod_eq_of_lt (by omega)
  rw [BitVec.toInt_eq_toNat_of_lt (by rw [hm]; omega), hm]

theorem ite_one (p : Prop) [Decidable p] : (if p then 1#1 else 0#1) = 1#1 ↔ p := by by_cases h : p <;> simp [h]

/-- A query sees the keys up to it. -/
theorem tril_apply (b : Fin 8) (h : Fin 16) (i k : Fin 4096) : val_main_call1_v1 (F := Ideal) (ix4 b h i k) = 1#1 ↔ k ≤ i := by
  rw [val_main_call1_v1_apply, val_main_v1_apply, val_main_call0_v4_apply, val_main_call0_v2_apply, val_main_call0_v0_apply,
    val_main_call0_v1_apply, val_main_call0_c_apply, val_main_call0_v3_apply, val_main_v0_apply, val_main_c_apply,
    val_main_call0_v5_apply, val_main_call0_c_0_apply]
  have e := sge_ofInt (BitVec.ofNat 32 i.val + 0#32) (BitVec.ofNat 32 k.val) i.val k.val
    (by rw [BitVec.add_zero]; exact toInt_ofNat _ i.isLt) (toInt_ofNat _ k.isLt)
  show (if IntOp.cmpi .sge (BitVec.ofNat 32 i.val + 0#32) (BitVec.ofNat 32 k.val) = 1#1 then 1#1 else 0#1) = 1#1 ↔ _
  exact (ite_one _).trans (e.trans (by rw [Nat.cast_le]; exact Iff.rfl))

theorem bits_and_or : ∀ u v w : BitVec 1, IntOp.andi u (IntOp.ori v w) = 1#1 ↔ u = 1#1 ∧ (w = 1#1 ∨ v = 1#1) := by decide

/-- The shift of a position by nine is the number of its run of 512. -/
theorem run_word (i : Fin 4096) : IntOp.shrsi .host (BitVec.ofNat 32 i.val) 9#32 = BitVec.ofNat 32 (i.val / 512) := by
  refine BitVec.eq_of_toInt_eq ?_
  rw [toInt_ofNat _ (by have := i.isLt; omega)]
  show ((BitVec.ofNat 32 i.val).sshiftRight 9).toInt = _
  rw [BitVec.toInt_sshiftRight, toInt_ofNat _ i.isLt, Int.shiftRight_eq_div_pow]
  norm_num

/-- A query of the windowed reference sees the keys up to it that are near it, and all of them where its head's flag is set. -/
theorem windowed_apply (x0 : IVec S8x16 32) (b : Fin 8) (h : Fin 16) (i k : Fin 4096) :
    Cert.WindowedIdeal.Read.val_main_v21 (F := Ideal) x0 (ix4 b h i k) = 1#1 ↔ k ≤ i ∧ (x0 (ix2 b h) ≠ 0#32 ∨ i.val / 512 ≤ k.val / 512 + 2) := by
  have hnear : Cert.WindowedIdeal.Read.val_main_v16 (F := Ideal) (ix4 b h i k) = 1#1 ↔ i.val / 512 ≤ k.val / 512 + 2 := by
    refine Iff.trans (sge_ofInt (IntOp.shrsi .host (BitVec.ofNat 32 k.val) 9#32) (IntOp.shrsi .host (BitVec.ofNat 32 i.val) 9#32 - 2#32)
      ((k.val / 512 : ℕ) : ℤ) ((i.val / 512 : ℕ) - 2 : ℤ) ?_ ?_) (by omega)
    · rw [run_word]; exact toInt_ofNat _ (by have := k.isLt; omega)
    · rw [run_word]
      have hi : i.val / 512 < 8 := by have := i.isLt; omega
      generalize i.val / 512 = n at hi ⊢
      interval_cases n <;> rfl
  have hfar : Cert.WindowedIdeal.Read.val_main_v17 (F := Ideal) x0 (ix4 b h i k) = 1#1 ↔ x0 (ix2 b h) ≠ 0#32 := by
    rw [Cert.WindowedIdeal.Read.val_main_v17_apply, Cert.WindowedIdeal.Read.val_main_v14_apply, Cert.WindowedIdeal.Read.val_main_v13_apply,
      Cert.WindowedIdeal.Read.val_main_v12_apply, Cert.WindowedIdeal.Read.val_main_c_2_apply,
      show Cert.WindowedIdeal.Read.idx_main_v14 (Cert.WindowedIdeal.Read.idx_main_v17 (ix4 b h i k)) = ix2 b h from
        funext fun a => match a with | ⟨0, _⟩ => Fin.ext rfl | ⟨1, _⟩ => Fin.ext rfl]
    show BitVec.ofBool (x0 (ix2 b h) != 0#32) = 1#1 ↔ _
    by_cases hz : x0 (ix2 b h) = 0#32
    · simp [hz]
    · rw [show (x0 (ix2 b h) != 0#32) = true from bne_iff_ne.mpr hz]
      simp [hz]
  have htril : Cert.WindowedIdeal.Read.val_main_v20 (F := Ideal) (ix4 b h i k) = 1#1 ↔ k ≤ i := tril_apply b h i k
  rw [← hnear, ← hfar, ← htril]
  show IntOp.andi (Cert.WindowedIdeal.Read.val_main_v20 (F := Ideal) (ix4 b h i k)) (IntOp.ori
    (Cert.WindowedIdeal.Read.val_main_v16 (F := Ideal) (ix4 b h i k)) (Cert.WindowedIdeal.Read.val_main_v17 (F := Ideal) x0 (ix4 b h i k))) = 1#1 ↔ _
  exact bits_and_or _ _ _

end Cert.Proof.Reference
-- ==== Proof.KernelIdealArray.lean ====
/-
  The attention call's result array, entry by entry: softmax attention of every head of the arguments (`result_apply`).
-/
module

public import proofs.«01_k».proof.Proof.KernelIdealStored
public import proofs.«01_k».proof.Proof.KernelIdealRun
public import proofs.«01_k».proof.Proof.Reference
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe
open Idealize.SL.Sem
open Idealize.ShloMosaic.Pipeline (Dat Cfg Window BodyObligation cellOf)
open Cert.Proof.Reference (head running column)

variable (m : (ℓ : Loc nD τ sig) → Buf (Elt Ideal) ℓ) (c : Dev nD) (t : Fin cfg0.N)

/-- The batch of a grid point, -/
abbrev batchOf : Fin 8 := grid0.coords t 0

/-- and its head. -/
abbrev headAt : Fin 16 := grid0.coords t 1

/-- An entry of the projections at an index with the coordinates given. -/
theorem head_of_val (x : FVec Ideal S4x8x16x4096x128 .bf16) (s : Fin 4) (b : Fin 8) (h : Fin 16) (i : Fin 4096) (d : Fin 128)
    (e : S4x8x16x4096x128.Idx) (h0 : (e 0).val = s.val) (h1 : (e 1).val = b.val) (h2 : (e 2).val = h.val) (h3 : (e 3).val = i.val)
    (h4 : (e 4).val = d.val) : x e = head x s b h i d := congrArg x (funext fun a => by
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4)

/-- Two indices of the flags with the same coordinates are one. -/
theorem ext2 {a b : S8x16.Idx} (h0 : (a 0).val = (b 0).val) (h1 : (a 1).val = (b 1).val) : a = b := by
  funext x
  match x with
  | ⟨0, _⟩ => exact Fin.ext h0
  | ⟨1, _⟩ => exact Fin.ext h1

theorem index_0 : ∀ t, win0_0.index t = ![0, 0] := by decide +kernel
theorem index_1 : ∀ t, win0_1.index t = ![0, (grid0.coords t 0).val, (grid0.coords t 1).val, 0, 0] := by decide +kernel
theorem index_2 : ∀ t, win0_2.index t = ![1, (grid0.coords t 0).val, (grid0.coords t 1).val, 0, 0] := by decide +kernel
theorem index_3 : ∀ t, win0_3.index t = ![2, (grid0.coords t 0).val, (grid0.coords t 1).val, 0, 0] := by decide +kernel
theorem index_4 : ∀ t, win0_4.index t = ![3, (grid0.coords t 0).val, (grid0.coords t 1).val, 0, 0] := by decide +kernel
theorem index_5 : ∀ t, win0_5.index t = ![(grid0.coords t 0).val, (grid0.coords t 1).val, 0, 0] := by decide +kernel
theorem index_6 : ∀ t, win0_6.index t = ![(grid0.coords t 0).val, 0, (grid0.coords t 1).val] := by decide +kernel

/-- A grid point's queries, -/
theorem queries_eq : rows (iblk m c 1 t) = head (m ((c : Thread nD τ).loc main_arg1)) 0 (batchOf t) (headAt t) := by
  funext i d
  unfold rows iblk
  blk_simp
  refine head_of_val _ _ _ _ _ _ _ ?_ ?_ ?_ ?_ ?_ <;> blk_simp [index_1] <;> rfl

/-- its keys, -/
theorem keys_eq : rows (iblk m c 2 t) = head (m ((c : Thread nD τ).loc main_arg1)) 1 (batchOf t) (headAt t) := by
  funext i d
  unfold rows iblk
  blk_simp
  refine head_of_val _ _ _ _ _ _ _ ?_ ?_ ?_ ?_ ?_ <;> blk_simp [index_2] <;> rfl

/-- its values, -/
theorem values_eq : rows (iblk m c 3 t) = head (m ((c : Thread nD τ).loc main_arg1)) 2 (batchOf t) (headAt t) := by
  funext i d
  unfold rows iblk
  blk_simp
  refine head_of_val _ _ _ _ _ _ _ ?_ ?_ ?_ ?_ ?_ <;> blk_simp [index_3] <;> rfl

/-- its gates, -/
theorem gates_eq : rows (iblk m c 4 t) = head (m ((c : Thread nD τ).loc main_arg1)) 3 (batchOf t) (headAt t) := by
  funext i d
  unfold rows iblk
  blk_simp
  refine head_of_val _ _ _ _ _ _ _ ?_ ?_ ?_ ?_ ?_ <;> blk_simp [index_4] <;> rfl

/-- its running sums, -/
theorem sums_eq : sums (iblk m c 5 t) = running (m ((c : Thread nD τ).loc main_arg2)) (batchOf t) (headAt t) := by
  funext i
  unfold sums iblk
  blk_simp
  refine congrArg (m ((c : Thread nD τ).loc main_arg2)) (Reference.ext4 ?_ ?_ ?_ ?_) <;> blk_simp [index_5] <;> rfl

/-- The flag a grid point reads lies at its batch and head. -/
theorem offset_eq : ∀ i : grid0.Coords, k0_off1 i = ![(i 0).val, (i 1).val] := by decide +kernel

/-- and its flag word. -/
theorem flag_eq : flagWord (grid0.coords t) (iblk m c 0 t) = m ((c : Thread nD τ).loc main_arg0) (ix2 (batchOf t) (headAt t)) := by
  have hi := offset_eq (grid0.coords t)
  refine congrArg (m ((c : Thread nD τ).loc main_arg0)) (ext2 ?_ ?_)
  · blk_simp [index_0]
    rw [Rect.idx_unit_val]; exact congrFun hi 0
  · blk_simp [index_0]
    rw [Rect.idx_unit_val]; exact congrFun hi 1

/-- Two places of the result with one column belong to one head. -/
theorem column_inj {h h' : Fin 16} {d d' : Fin 128} (e : (column h d).val = (column h' d').val) : h = h' ∧ d = d' := by
  have e : h.val * 128 + d.val = h'.val * 128 + d'.val := e
  have := d.isLt; have := d'.isLt
  exact ⟨Fin.ext (by omega), Fin.ext (by omega)⟩

variable (hQ : ∀ b h i d, ∃ x : ℝ, head (m ((c : Thread nD τ).loc main_arg1)) 0 b h i d = x)
  (hK : ∀ b h i d, ∃ x : ℝ, head (m ((c : Thread nD τ).loc main_arg1)) 1 b h i d = x)
  (hC : ∀ b h i, ∃ x : ℝ, running (m ((c : Thread nD τ).loc main_arg2)) b h i = x)
include hQ hK hC

/-- The result array at a position of a head: softmax attention of that head, over all the keys up to the query where the
    head's flag is set, over the near ones of them where it is not. -/
theorem result_apply (b : Fin 8) (h : Fin 16) (i : Fin 4096) (d : Fin 128) :
    (dats m 0 c).arrAt 6 cfg0.N (ix3 b i (column h d) : S8x4096x2048.Idx)
      = attend (head (m ((c : Thread nD τ).loc main_arg1)) 0 b h) (head (m ((c : Thread nD τ).loc main_arg1)) 1 b h)
        (head (m ((c : Thread nD τ).loc main_arg1)) 2 b h) (head (m ((c : Thread nD τ).loc main_arg1)) 3 b h)
        (running (m ((c : Thread nD τ).loc main_arg2)) b h) (sees (m ((c : Thread nD τ).loc main_arg0) (ix2 b h) ≠ 0#32)) i d := by
  have P := (dats m 0 c).arrAt_forall_of_covers 6
    (fun (y : S8x4096x2048.Idx) (v : EReal) => ∀ b h i d, y = ix3 b i (column h d) → v
      = attend (head (m ((c : Thread nD τ).loc main_arg1)) 0 b h) (head (m ((c : Thread nD τ).loc main_arg1)) 1 b h)
        (head (m ((c : Thread nD τ).loc main_arg1)) 2 b h) (head (m ((c : Thread nD τ).loc main_arg1)) 3 b h)
        (running (m ((c : Thread nD τ).loc main_arg2)) b h) (sees (m ((c : Thread nD τ).loc main_arg0) (ix2 b h) ≠ 0#32)) i d)
    (by decide +kernel) (fun t hf y b h i d e => ?_) (ix3 b i (column h d))
  · exact P b h i d rfl
  · have e0 : (batchOf t).val = b.val := by
      have e := congrArg (fun x : S8x4096x2048.Idx => (x 0).val) e
      blk_simp [index_6] at e
      exact e
    have e1 : (y 1).val = i.val := by
      have e := congrArg (fun x : S8x4096x2048.Idx => (x 1).val) e
      blk_simp [index_6] at e
      exact e
    have e2 : (column (headAt t) (y 2)).val = (column h d).val := by
      have e := congrArg (fun x : S8x4096x2048.Idx => (x 2).val) e
      blk_simp [index_6] at e
      exact e
    obtain ⟨e2, e3⟩ := column_inj e2
    have e0 : batchOf t = b := Fin.ext e0
    have e1 : (y 1 : Fin 4096) = i := Fin.ext e1
    rw [← e2, ← e3, ← e0, ← e1]
    blk_simp
    rw [after_6]
    unfold outAt
    refine (canon_pieces c (grid0.coords t) _ _ _ _ _ _ _ _ _ _ _ _ _ _ _ _ _ _ _ _ _ _ ?_ ?_ ?_ y).trans ?_
    · rw [queries_eq]; exact hQ _ _
    · rw [keys_eq]; exact hK _ _
    · rw [sums_eq]; exact hC _ _
    · rw [queries_eq, keys_eq, values_eq, gates_eq, sums_eq, flag_eq]

end Cert.Proof.KernelIdeal

end
-- ==== Proof.Finite.lean ====
/-
  What the two preconditions say of the arrays: the queries, the keys and the running sums are real numbers (`finite_reals`),
  and the second also that every head's flag is set (`finite_and_far_reals`).
-/
module

public import proofs.«01_k».proof.Proof.Gen.Pre_finite
public import proofs.«01_k».proof.Proof.Gen.Pre_finite_and_far
public import proofs.«01_k».proof.Proof.Reference
public import Idealize.ShloMosaic.Lib.ReduceAll
public import Idealize.ShloMosaic.Lib.Affine

@[expose] public section

set_option maxRecDepth 16384

noncomputable section

namespace Cert.Proof.Finite

open Idealize.ShloMosaic
open Cert.Proof.Reference (head running)

/-- The pattern of the infinity denotes the greatest of the extended reals. -/
theorem infinity : Ideal.ofBits .f32 0x7F800000#32 = (⊤ : EReal) := by
  simp [Ideal.ofBits, Ideal.ieee]

/-- An extended real whose magnitude is less than infinity is a real number. -/
theorem real_of_lt {x : EReal} (h : max x (-x) < ⊤) : ∃ r : ℝ, x = r := by
  have h1 : x ≠ ⊤ := fun e => by subst e; simp at h
  have h2 : x ≠ ⊥ := fun e => by subst e; simp at h
  exact ⟨x.toReal, (EReal.coe_toReal h1 h2).symm⟩

instance : Subsingleton Pre_finite.S_.Idx := ⟨fun a b => funext fun i => i.elim0⟩

/-- Every entry of an array is real when all of them pass the test against infinity. -/
theorem real_of_all {s : Shape} {axes : List (Fin s.rank)} (x : FVec Ideal s .f32)
    (hb : Pre_finite.S_.BroadcastsInDim s (![] : Fin 0 → Fin s.rank)) (hr : s.ReducesTo axes Pre_finite.S_) (hu : 0 < Pre_finite.S_.numel)
    (j : Pre_finite.S_.Idx)
    (h : Host.reduce IntOp.andi (cmpf .olt (Host.absf x) (broadcastInDim s ![] hb (constant Pre_finite.S_ .f32 0x7F800000#32)))
      (constantI Pre_finite.S_ 1 1#1) hr hu j = 1#1) (i : s.Idx) : ∃ r : ℝ, x i = r := by
  have h := Host.reduce_andi_all _ _ hr hu j h i
  refine real_of_lt ?_
  have h : Ideal.cmp .olt (max (x i) (-(x i))) (Ideal.ofBits .f32 0x7F800000#32) = 1#1 := h
  rw [infinity] at h
  by_contra n
  have h : BitVec.ofBool (decide (max (x i) (-(x i)) < (⊤ : EReal))) = 1#1 := h
  rw [decide_eq_false n] at h
  exact absurd h (by decide)

theorem andi_apply {s : Shape} (a b : IVec s 1) (j : s.Idx) : andi a b j = IntOp.andi (a j) (b j) := rfl

variable {x0 : IVec Pre_finite.S8x16 32} {x1 : FVec Ideal Pre_finite.S4x8x16x4096x128 .bf16} {x2 : FVec Ideal Pre_finite.S8x16x1x4096 .f32}

/-- Section `s` of the projections, as the preconditions cut it out. -/
def section_ (s : Nat) (hs : Pre_finite.S4x8x16x4096x128.Slices ![s, 0, 0, 0, 0] Pre_finite.S1x8x16x4096x128)
    (x1 : FVec Ideal Pre_finite.S4x8x16x4096x128 .bf16) : FVec Ideal Pre_finite.S8x16x4096x128 .f32 :=
  extf .f32 (shapeCast Pre_finite.S8x16x4096x128 (extractStridedSlice Pre_finite.S1x8x16x4096x128 ![s, 0, 0, 0, 0] x1 hs)
    Pre_finite.Facts.shapeCasts_S1x8x16x4096x128_S8x16x4096x128) Pre_finite.Facts.bitsLt_bf16_f32

theorem section_0 (hs) (b : Fin 8) (h : Fin 16) (i : Fin 4096) (d : Fin 128) : section_ 0 hs x1 (ix4 b h i d) = head x1 0 b h i d := by
  unfold section_ head
  pointwise

theorem section_1 (hs) (b : Fin 8) (h : Fin 16) (i : Fin 4096) (d : Fin 128) : section_ 1 hs x1 (ix4 b h i d) = head x1 1 b h i d := by
  unfold section_ head
  pointwise

/-- Where the queries, the keys and the running sums pass the test, they are real numbers. -/
theorem finite_reals (h : Pre_finite.fn (F := Ideal) x0 x1 x2 = fun _ => 1#1) :
    (∀ b h i d, ∃ x : ℝ, head x1 0 b h i d = x) ∧ (∀ b h i d, ∃ x : ℝ, head x1 1 b h i d = x)
      ∧ ∀ b h i, ∃ x : ℝ, running x2 b h i = x := by
  have h := congrFun h (fun a => a.elim0)
  dsimp only [Pre_finite.fn, Pre_finite.fn_part1] at h
  obtain ⟨h, h2⟩ := IntOp.andi_eq_one.mp h
  obtain ⟨h0, h1⟩ := IntOp.andi_eq_one.mp h
  refine ⟨fun b h i d => ?_, fun b h i d => ?_, fun b h i => real_of_all _ _ _ _ _ h2 (ix4 b h 0 i)⟩
  · rw [← section_0 Pre_finite.Facts.slices_S4x8x16x4096x128_S1x8x16x4096x128_0_0_0_0_0]
    exact real_of_all _ _ _ _ _ h0 (ix4 b h i d)
  · rw [← section_1 Pre_finite.Facts.slices_S4x8x16x4096x128_S1x8x16x4096x128_1_0_0_0_0]
    exact real_of_all _ _ _ _ _ h1 (ix4 b h i d)

/-- The second precondition is the first together with a set flag for every head. -/
theorem finite_and_far_reals (h : Pre_finite_and_far.fn (F := Ideal) x0 x1 x2 = fun _ => 1#1) :
    Pre_finite.fn (F := Ideal) x0 x1 x2 = (fun _ => 1#1) ∧ ∀ b h, x0 (ix2 b h) ≠ 0#32 := by
  have h := congrFun h (fun a => a.elim0)
  dsimp only [Pre_finite_and_far.fn, Pre_finite_and_far.fn_part1] at h
  obtain ⟨h, h3⟩ := IntOp.andi_eq_one.mp h
  refine ⟨funext fun j => ?_, fun b hd e => ?_⟩
  · rw [Subsingleton.elim j (fun a => a.elim0)]
    exact h
  · have t : IntOp.cmpi .ne (x0 (ix2 b hd)) 0#32 = 1#1 := Host.reduce_andi_all _ _ _ _ _ h3 (ix2 b hd)
    rw [e] at t
    exact absurd t (by decide)

end Cert.Proof.Finite

end
-- ==== Proof.Claims.lean ====
/-
  The claims about the attention call: its result array is what the two references compute (`algebraic_plain`,
  `algebraic_windowed`), and its two named constants are the ones its printed literals stand for (`preserves`).
-/
module

public import proofs.«01_k».proof.Defs
public import proofs.«01_k».proof.Proof.KernelIdealArray
public import proofs.«01_k».proof.Proof.Finite
public import proofs.«01_k».proof.Proof.Gen.Kernel
public import proofs.«01_k».proof.Proof.Gen.ReferenceIdeal.Run
public import proofs.«01_k».proof.Proof.Gen.WindowedIdeal.Run
public import Idealize.ShloMosaic.Lib.Quiescent

@[expose] public section

set_option maxRecDepth 16384

noncomputable section

namespace Cert.Proof.Claims

open Idealize.ShloMosaic Idealize.ShloMosaic.TcCoe Idealize.SL.Sem
open Cert.KernelIdeal
open Cert.Proof.Reference (head running column attended)
open Cert.Proof.KernelIdeal (dats sees)

/-- The call runs to its end, its result array holding what its last grid point leaves and its arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h.1 c).1 6,
       ((h.1 c).1 0).trans (((dats m 0 c).arrAt_in 0 rfl _).trans ((KernelIdeal.A_eq m c 0).trans (Cert.KernelIdeal.Gen.V_main_arg0 m c))),
       ((h.1 c).1 4).trans (((dats m 0 c).arrAt_in 4 rfl _).trans ((KernelIdeal.A_eq m c 4).trans (Cert.KernelIdeal.Gen.V_main_arg1 m c))),
       ((h.1 c).1 5).trans (((dats m 0 c).arrAt_in 5 rfl _).trans ((KernelIdeal.A_eq m c 5).trans (Cert.KernelIdeal.Gen.V_main_arg2 m c)))⟩)
    (KernelIdeal.run_main m ρ)

/-- Every index of the result is a batch, a position, and the column of a head's coordinate. -/
theorem exists_column (y : S8x4096x2048.Idx) : ∃ b h i d, y = ix3 b i (column h d) := by
  have hy : (y 2).val < 2048 := (y 2).isLt
  refine ⟨y 0, ⟨(y 2).val / 128, by omega⟩, y 1, ⟨(y 2).val % 128, by omega⟩, Reference.ext3 rfl rfl ?_⟩
  show (y 2).val = (y 2).val / 128 * 128 + (y 2).val % 128
  omega

variable {m : (ℓ : Loc nD τ sig) → Buf (Elt Ideal) ℓ} {c : Dev nD}

/-- The result array is the attention under any mask that holds, head by head, the keys the kernel sees. -/
theorem result_eq
    (hf : Cert.Pre_finite.fn (F := Ideal) (m ((c.tc : Thread nD τ).loc main_arg0)) (m ((c.tc : Thread nD τ).loc main_arg1))
      (m ((c.tc : Thread nD τ).loc main_arg2)) = fun _ => 1#1)
    (mask : IVec Cert.ReferenceIdeal.S8x16x4096x4096 1)
    (hmask : ∀ b h i k, mask (ix4 b h i k) = 1#1 ↔ sees (m ((c.tc : Thread nD τ).loc main_arg0) (ix2 b h) ≠ 0#32) i k) :
    (dats m 0 c).arrAt 6 cfg0.N = attended mask (m ((c.tc : Thread nD τ).loc main_arg1)) (m ((c.tc : Thread nD τ).loc main_arg2)) := by
  obtain ⟨hQ, hK, hC⟩ := Finite.finite_reals hf
  funext y
  obtain ⟨b, h, i, d, rfl⟩ := exists_column y
  exact (KernelIdeal.result_apply m c hQ hK hC b h i d).trans
    (Reference.attended_apply mask _ _ b h _ (hmask b h) i d).symm

/-- Where every flag is set, the call computes the plain reference. -/
theorem algebraic_plain : Cert.algebraic_KernelIdeal_ReferenceIdeal_pre_finite_and_far := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hf, hfar⟩ := Finite.finite_and_far_reals (hpre c)
  obtain ⟨_, e1, e2⟩ := hagree c
  rw [Cert.ReferenceIdeal.Read.val_main_v43_eq, Reference.reference_eq, e1, e2]
  exact (result_eq hf _ fun b h i k => (Reference.tril_apply b h i k).trans
    ⟨fun e => ⟨e, Or.inl (hfar b h)⟩, fun e => e.1⟩).symm

/-- Whatever the flags, the call computes the reference that keeps to the near blocks of the heads whose flag is not set. -/
theorem algebraic_windowed : Cert.algebraic_KernelIdeal_WindowedIdeal_pre_finite := by
  intro m ρ m' ρ' hpre hagree
  refine ⟨_, kernel_run m ρ, ?_⟩
  refine (θ_run Cert.WindowedIdeal.defs _ _).mono (fun _ h c => ⟨(h c).1.trans ?_, (h c).2⟩)
    (Cert.WindowedIdeal.Value.run (F := Ideal) m' ρ')
  obtain ⟨e0, e1, e2⟩ := hagree c
  rw [Cert.WindowedIdeal.Read.val_main_v63_eq, Reference.windowed_eq, e0, e1, e2]
  exact (result_eq (hpre c) _ fun b h i k => Reference.windowed_apply _ b h i k).symm

/-- The base-two logarithm of `e` and the value of the masked logits are the constants the printed literals stand for. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl⟩

/-- The plain reference runs to its end with its arguments unchanged. -/
theorem frame_plain : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the windowed one. -/
theorem frame_windowed : Cert.quiescent_WindowedIdeal := fun m ρ _ =>
  (θ_run Cert.WindowedIdeal.defs _ _).mono (fun r h => ⟨fun c => (h c).2, sem_eq_zero_of_no_sems (by decide) r.2⟩)
    (Cert.WindowedIdeal.Value.run (F := Ideal) m ρ)

end Cert.Proof.Claims

end
-- ==== Proof.SbProjTile.lean ====
/-
  The stick-breaking layers' projection call, one grid point: the block it writes is the product of its rows with its columns,
  scaled where the columns are the queries' (`block_apply`), and the rows kept in the scratch are the point's own (`kept`).
-/
module

public import proofs.«01_k».proof.Proof.Gen.SbProjIdeal.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.Proof.SbProj

open Cert.SbProjIdeal Cert.SbProjIdeal.Gen
open Idealize.ShloMosaic Idealize.ShloMosaic.TcCoe
open Idealize.SL.Sem
open Idealize.ShloMosaic.Pipeline (Dat Cfg Window BodyObligation cellOf)

variable (m : (ℓ : Loc nD τ sig) → Buf (Elt Ideal) ℓ) (c : Dev nD)

theorem index_0 : ∀ t, win0_0.index t = ![(grid0.coords t 0).val, (grid0.coords t 1).val, 0] := by decide +kernel
theorem index_1 : ∀ t, win0_1.index t = ![0, 0, (grid0.coords t 2).val] := by decide +kernel
theorem index_2 : ∀ t, win0_2.index t
    = ![(grid0.coords t 2).val / 2, (grid0.coords t 0).val, (grid0.coords t 2).val % 2, (grid0.coords t 1).val, 0] := by decide +kernel

/-- Points of one row tile, next to each other, stage the same rows. -/
theorem same_rows : ∀ t : Fin cfg0.N, ¬t.val % 8 = 0 → ∀ h : t.val - 1 < cfg0.N,
    win0_0.index ⟨t.val - 1, h⟩ = win0_0.index t := by decide +kernel

theorem rows_eq (t : Fin cfg0.N) (h0 : ¬t.val % 8 = 0) (h : t.val - 1 < cfg0.N) :
    iblk m c 0 ⟨t.val - 1, h⟩ = iblk m c 0 t := by
  funext y
  unfold iblk
  blk_simp
  refine congrArg (m ((c : Thread nD τ).loc main_arg0)) (funext fun a => Fin.ext ?_)
  blk_simp [same_rows t h0 h]

/-- The rows in the scratch after a point are the point's own. -/
theorem kept (n : ℕ) (hn : n < cfg0.N) : (outsAt0 m c n hn).2 = k0_pay6 (iblk m c 0 ⟨n, hn⟩) := by
  induction n with
  | zero =>
    rw [outsAt0_A m c ⟨0, hn⟩ (Nat.zero_mod _)]
    dsimp only
    frame_out
  | succ n ih =>
    by_cases h0 : (n + 1) % 8 = 0
    · rw [outsAt0_A m c ⟨n + 1, hn⟩ h0]
      dsimp only
      frame_out
    · rw [outsAt0_B m c ⟨n + 1, hn⟩ h0]
      exact (ih (Nat.lt_of_succ_lt hn)).trans (congrArg k0_pay6 (rows_eq m c ⟨n + 1, hn⟩ h0 _))

/-- The column of a head's coordinate among the 1024 columns of a point. -/
def near (h : Fin 8) (d : Fin 128) : Fin 1024 := ⟨h.val * 128 + d.val, by omega⟩

/-- One head cut out of the product. -/
theorem slice_apply (o : ℕ) (hs : S2048x1024.Slices ![0, o] S2048x128) (G : FVec Ideal S2048x1024 .f32) (hb) (hc) (x : S1x1x1x2048x128.Idx)
    (j : S2048x1024.Idx) (h0 : (j 0).val = (x 3).val) (h1 : (j 1).val = o + (x 4).val) :
    shapeCast S1x1x1x2048x128 (truncf .bf16 (extractStridedSlice S2048x128 ![0, o] G hs) hb) hc x = G j := by
  obtain ⟨r, d, rfl⟩ : ∃ r d, x = ix5 0 0 0 r d := ⟨x 3, x 4, funext fun a => by
    match a with
    | ⟨0, _⟩ => exact Fin.ext (Nat.lt_one_iff.mp (x 0).isLt)
    | ⟨1, _⟩ => exact Fin.ext (Nat.lt_one_iff.mp (x 1).isLt)
    | ⟨2, _⟩ => exact Fin.ext (Nat.lt_one_iff.mp (x 2).isLt)
    | ⟨3, _⟩ => rfl
    | ⟨4, _⟩ => rfl⟩
  pointwise
  refine congrArg G (funext fun a => ?_)
  match a with
  | ⟨0, _⟩ => exact Fin.ext h0.symm
  | ⟨1, _⟩ => exact Fin.ext h1.symm

/-- The eight heads of a point are stored one by one: the block holds the product with its columns taken head by head. -/
theorem canon_heads (i : grid0.Coords) (v3 : Vec Ideal S1x1024x1024 .f32) (v6 : Vec Ideal S2048x1024 .bf16) (y : S1x1x8x2048x128.Idx) :
    View.canon
      ([⟨Rect.unit ![0, 0, 7, 0, 0] ![1, 1, 1, 2048, 128] inb_S1x1x8x2048x128_S1x1x1x2048x128_0_0_7_0_0, k0_pay5 (k0_pay7 i v3 v6)⟩,
        ⟨Rect.unit ![0, 0, 6, 0, 0] ![1, 1, 1, 2048, 128] inb_S1x1x8x2048x128_S1x1x1x2048x128_0_0_6_0_0, k0_pay4 (k0_pay7 i v3 v6)⟩,
        ⟨Rect.unit ![0, 0, 5, 0, 0] ![1, 1, 1, 2048, 128] inb_S1x1x8x2048x128_S1x1x1x2048x128_0_0_5_0_0, k0_pay3 (k0_pay7 i v3 v6)⟩,
        ⟨Rect.unit ![0, 0, 4, 0, 0] ![1, 1, 1, 2048, 128] inb_S1x1x8x2048x128_S1x1x1x2048x128_0_0_4_0_0, k0_pay2 (k0_pay7 i v3 v6)⟩,
        ⟨Rect.unit ![0, 0, 3, 0, 0] ![1, 1, 1, 2048, 128] inb_S1x1x8x2048x128_S1x1x1x2048x128_0_0_3_0_0, k0_pay1 (k0_pay7 i v3 v6)⟩,
        ⟨Rect.unit ![0, 0, 2, 0, 0] ![1, 1, 1, 2048, 128] inb_S1x1x8x2048x128_S1x1x1x2048x128_0_0_2_0_0, k0_pay10 i v3 v6⟩,
        ⟨Rect.unit ![0, 0, 1, 0, 0] ![1, 1, 1, 2048, 128] inb_S1x1x8x2048x128_S1x1x1x2048x128_0_0_1_0_0, k0_pay9 i v3 v6⟩,
        ⟨Rect.unit ![0, 0, 0, 0, 0] ![1, 1, 1, 2048, 128] inb_S1x1x8x2048x128_S1x1x1x2048x128_0_0_0_0_0, k0_pay8 i v3 v6⟩] :
        List (View.Piece (Elt Ideal) S1x1x8x2048x128 .bf16)) y
      = k0_pay7 i v3 v6 (ix2 (y 3) (near (y 2) (y 4))) := by
  canon_tiles x h
  all_goals exact slice_apply _ _ _ _ _ x _ h3 (by show (y 2).val * 128 + (y 4).val = _; omega)

/-- The block that a point writes: the product of its rows with its columns, head by head. -/
theorem block_apply (t : Fin cfg0.N) (y : S1x1x8x2048x128.Idx) :
    (outsAt0 m c t.val t.isLt).1 y
      = k0_pay7 (grid0.coords t) (iblk m c 1 t) (k0_pay6 (iblk m c 0 t)) (ix2 (y 3) (near (y 2) (y 4))) := by
  by_cases h0 : t.val % 8 = 0
  · rw [outsAt0_A m c t h0]
    dsimp only
    frame_out
    exact canon_heads _ _ _ y
  · rw [outsAt0_B m c t h0]
    dsimp only
    rw [kept, rows_eq m c t h0]
    frame_out
    simp only [read_unread_whole]
    exact canon_heads _ _ _ y

/-- The factor of a column tile. -/
theorem scale_eq (n : Fin 8) :
    (Scalar.select (Scalar.cmpi .slt (BitVec.ofNat 32 n.val) 2#32) (Named.named (F := Ideal) κ "qscale" (φ := .f32) 0x3E0293EE#32) 1 : EReal)
      = if n.val < 2 then (((Real.sqrt 128)⁻¹ * (Real.log 2)⁻¹ : ℝ) : EReal) else 1 := by
  have e : Named.named (F := Ideal) κ "qscale" (φ := .f32) 0x3E0293EE#32 = (((Real.sqrt 128)⁻¹ * (Real.log 2)⁻¹ : ℝ) : EReal) :=
    IdealRules.named_const.ideal_named_scalar _ _ _ _ rfl
  rw [e]
  have h : Scalar.cmpi .slt (BitVec.ofNat 32 n.val) 2#32 = if n.val < 2 then 1#1 else 0#1 := by revert n; decide
  rw [h]
  split <;> rfl

/-- What the product holds: the sum over the 1024 features, scaled for the first two column tiles of every row tile. -/
theorem product_apply (i : grid0.Coords) (w : Vec Ideal S1x1024x1024 .f32) (x : Vec Ideal S1x2048x1024 .f32) (r : Fin 2048) (n : Fin 1024) :
    k0_pay7 i w (k0_pay6 x) (ix2 r n)
      = (∑ k : Fin 1024, x (ix3 0 r k) * w (ix3 0 k n)) * (if (i 2).val < 2 then (((Real.sqrt 128)⁻¹ * (Real.log 2)⁻¹ : ℝ) : EReal) else 1) := by
  unfold k0_pay7 k0_pay6
  pointwise
  exact congrArg _ (scale_eq (i 2))

end Cert.Proof.SbProj

end
-- ==== Proof.FoxProjTile.lean ====
/-
  The forgetting layers' projection call, one grid point: the block it writes is the product of its rows with its columns,
  scaled where the columns are the queries' (`block_apply`), and the rows kept in the scratch are the point's own (`kept`).
-/
module

public import proofs.«01_k».proof.Proof.Gen.FoxProjIdeal.Value
public import proofs.«01_k».proof.Proof.SbProjTile
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.Proof.FoxProj

open Cert.FoxProjIdeal Cert.FoxProjIdeal.Gen
open Idealize.ShloMosaic Idealize.ShloMosaic.TcCoe
open Idealize.SL.Sem
open Cert.Proof.SbProj (near)
open Idealize.ShloMosaic.Pipeline (Dat Cfg Window BodyObligation cellOf)

variable (m : (ℓ : Loc nD τ sig) → Buf (Elt Ideal) ℓ) (c : Dev nD)

theorem index_0 : ∀ t, win0_0.index t = ![(grid0.coords t 0).val, (grid0.coords t 1).val, 0] := by decide +kernel
theorem index_1 : ∀ t, win0_1.index t = ![0, (grid0.coords t 2).val, 0] := by decide +kernel
theorem index_2 : ∀ t, win0_2.index t
    = ![(grid0.coords t 2).val / 2, (grid0.coords t 0).val, (grid0.coords t 2).val % 2, (grid0.coords t 1).val, 0] := by decide +kernel

/-- Points of one row tile, next to each other, stage the same rows. -/
theorem same_rows : ∀ t : Fin cfg0.N, ¬t.val % 8 = 0 → ∀ h : t.val - 1 < cfg0.N,
    win0_0.index ⟨t.val - 1, h⟩ = win0_0.index t := by decide +kernel

theorem rows_eq (t : Fin cfg0.N) (h0 : ¬t.val % 8 = 0) (h : t.val - 1 < cfg0.N) :
    iblk m c 0 ⟨t.val - 1, h⟩ = iblk m c 0 t := by
  funext y
  unfold iblk
  blk_simp
  refine congrArg (V m c main_arg0) (funext fun a => Fin.ext ?_)
  blk_simp [same_rows t h0 h]

/-- The rows in the scratch after a point are the point's own. -/
theorem kept (n : ℕ) (hn : n < cfg0.N) : (outsAt0 m c n hn).2.2 = k0_pay5 (iblk m c 0 ⟨n, hn⟩) := by
  induction n with
  | zero =>
    rw [outsAt0_A m c ⟨0, hn⟩ (Nat.zero_mod _)]
    dsimp only
    frame_out
  | succ n ih =>
    by_cases h0 : (n + 1) % 8 = 0
    · rw [outsAt0_A m c ⟨n + 1, hn⟩ h0]
      dsimp only
      frame_out
    · rw [outsAt0_B m c ⟨n + 1, hn⟩ h0]
      exact (ih (Nat.lt_of_succ_lt hn)).trans (congrArg k0_pay5 (rows_eq m c ⟨n + 1, hn⟩ h0 _))

/-- One head cut out of the product. -/
theorem slice_apply (o : ℕ) (hs : S2048x1024.Slices ![0, o] S2048x128) (G : FVec Ideal S2048x1024 .f32) (hb) (hc) (x : S1x1x1x2048x128.Idx)
    (j : S2048x1024.Idx) (h0 : (j 0).val = (x 3).val) (h1 : (j 1).val = o + (x 4).val) :
    shapeCast S1x1x1x2048x128 (truncf .bf16 (extractStridedSlice S2048x128 ![0, o] G hs) hb) hc x = G j :=
  SbProj.slice_apply o hs G hb hc x j h0 h1

/-- The eight heads of a point are stored one by one: the block holds the product with its columns taken head by head. -/
theorem canon_heads (i : grid0.Coords) (v3 : Vec Ideal S1x1024x1024 .f32) (v6 : Vec Ideal S2048x1024 .bf16) (y : S1x1x8x2048x128.Idx) :
    View.canon
      ([⟨Rect.unit ![0, 0, 7, 0, 0] ![1, 1, 1, 2048, 128] inb_S1x1x8x2048x128_S1x1x1x2048x128_0_0_7_0_0, k0_pay3 (k0_pay6 i v3 v6)⟩,
        ⟨Rect.unit ![0, 0, 6, 0, 0] ![1, 1, 1, 2048, 128] inb_S1x1x8x2048x128_S1x1x1x2048x128_0_0_6_0_0, k0_pay28 (k0_pay6 i v3 v6)⟩,
        ⟨Rect.unit ![0, 0, 5, 0, 0] ![1, 1, 1, 2048, 128] inb_S1x1x8x2048x128_S1x1x1x2048x128_0_0_5_0_0, k0_pay25 (k0_pay6 i v3 v6)⟩,
        ⟨Rect.unit ![0, 0, 4, 0, 0] ![1, 1, 1, 2048, 128] inb_S1x1x8x2048x128_S1x1x1x2048x128_0_0_4_0_0, k0_pay21 (k0_pay6 i v3 v6)⟩,
        ⟨Rect.unit ![0, 0, 3, 0, 0] ![1, 1, 1, 2048, 128] inb_S1x1x8x2048x128_S1x1x1x2048x128_0_0_3_0_0, k0_pay18 (k0_pay6 i v3 v6)⟩,
        ⟨Rect.unit ![0, 0, 2, 0, 0] ![1, 1, 1, 2048, 128] inb_S1x1x8x2048x128_S1x1x1x2048x128_0_0_2_0_0, k0_pay14 (k0_pay6 i v3 v6)⟩,
        ⟨Rect.unit ![0, 0, 1, 0, 0] ![1, 1, 1, 2048, 128] inb_S1x1x8x2048x128_S1x1x1x2048x128_0_0_1_0_0, k0_pay11 (k0_pay10 i v3 v6)⟩,
        ⟨Rect.unit ![0, 0, 0, 0, 0] ![1, 1, 1, 2048, 128] inb_S1x1x8x2048x128_S1x1x1x2048x128_0_0_0_0_0, k0_pay8 i v3 v6⟩] :
        List (View.Piece (Elt Ideal) S1x1x8x2048x128 .bf16)) y
      = k0_pay6 i v3 v6 (ix2 (y 3) (near (y 2) (y 4))) := by
  canon_tiles x h
  all_goals try unfold k0_pay3 k0_pay2
  all_goals try unfold k0_pay28 k0_pay27
  all_goals try unfold k0_pay25 k0_pay24
  all_goals try unfold k0_pay21 k0_pay20
  all_goals try unfold k0_pay18 k0_pay17
  all_goals try unfold k0_pay14 k0_pay13
  all_goals try unfold k0_pay11 k0_pay10
  all_goals try unfold k0_pay8 k0_pay7
  all_goals exact slice_apply _ _ _ _ _ x _ h3 (by show (y 2).val * 128 + (y 4).val = _; omega)

/-- The block that a point writes: the product of its rows with its columns, head by head. -/
theorem block_apply (t : Fin cfg0.N) (y : S1x1x8x2048x128.Idx) :
    (outsAt0 m c t.val t.isLt).1 y
      = k0_pay6 (grid0.coords t) (X0_1 m c t) (k0_pay5 (iblk m c 0 t)) (ix2 (y 3) (near (y 2) (y 4))) := by
  by_cases h0 : t.val % 8 = 0
  · rw [outsAt0_A m c t h0]
    dsimp only
    frame_out
    exact canon_heads _ _ _ y
  · rw [outsAt0_B m c t h0]
    dsimp only
    rw [kept, rows_eq m c t h0]
    frame_out
    simp only [read_unread_whole]
    exact canon_heads _ _ _ y

/-- The factor of a column tile. -/
theorem scale_eq (n : Fin 8) :
    (Scalar.select (Scalar.cmpi .slt (BitVec.ofNat 32 n.val) 2#32) (Named.named (F := Ideal) κ "qscale" (φ := .f32) 0x3E0293EE#32) 1 : EReal)
      = if n.val < 2 then (((Real.sqrt 128)⁻¹ * (Real.log 2)⁻¹ : ℝ) : EReal) else 1 := by
  have e : Named.named (F := Ideal) κ "qscale" (φ := .f32) 0x3E0293EE#32 = (((Real.sqrt 128)⁻¹ * (Real.log 2)⁻¹ : ℝ) : EReal) :=
    IdealRules.named_const.ideal_named_scalar _ _ _ _ rfl
  rw [e]
  have h : Scalar.cmpi .slt (BitVec.ofNat 32 n.val) 2#32 = if n.val < 2 then 1#1 else 0#1 := by revert n; decide
  rw [h]
  split <;> rfl

/-- What the product holds: the sum over the 1024 features, scaled for the first two column tiles of every row tile. -/
theorem product_apply (i : grid0.Coords) (w : Vec Ideal S1x1024x1024 .f32) (x : Vec Ideal S1x2048x1024 .f32) (r : Fin 2048) (n : Fin 1024) :
    k0_pay6 i w (k0_pay5 x) (ix2 r n)
      = (∑ k : Fin 1024, x (ix3 0 r k) * w (ix3 0 n k)) * (if (i 2).val < 2 then (((Real.sqrt 128)⁻¹ * (Real.log 2)⁻¹ : ℝ) : EReal) else 1) := by
  unfold k0_pay6 k0_pay5
  pointwise
  exact congrArg _ (scale_eq (i 2))

end Cert.Proof.FoxProj

end
-- ==== Proof.Projected.lean ====
/-
  What the two references of the projections compute, entry by entry (`projected_sb`, `projected_fox`): the product of a row
  with a column, the queries over `√128 · log 2`.
-/
module

public import proofs.«01_k».proof.Proof.Gen.SbProjectedIdeal.Read
public import proofs.«01_k».proof.Proof.Gen.FoxProjectedIdeal.Read
public import Idealize.ShloMosaic.Lib.Pointwise
public import Idealize.ShloMosaic.PureOps.Ideal.Laws

@[expose] public section

set_option maxRecDepth 16384

noncomputable section

namespace Cert.Proof.Projected

open Cert.SbProjectedIdeal Cert.SbProjectedIdeal.Gen Cert.SbProjectedIdeal.Read
open Idealize.ShloMosaic Idealize.ShloMosaic.TcCoe
open Idealize.SL.Sem

/-- The column of a head's coordinate within a section (queries, keys, values or gates). -/
def within (h : Fin 16) (d : Fin 128) : Fin 2048 := ⟨h.val * 128 + d.val, by omega⟩

/-- The column of a head's coordinate among all four sections. -/
def column (s : Fin 4) (h : Fin 16) (d : Fin 128) : Fin 8192 := ⟨s.val * 2048 + h.val * 128 + d.val, by omega⟩

/-- The factor of a section: the queries carry the attention's scale, in base two. -/
def factor (s : Fin 4) : EReal := if s.val = 0 then (((Real.sqrt 128)⁻¹ * (Real.log 2)⁻¹ : ℝ) : EReal) else 1

/-- An entry of the projections: the product of its row with its column, times its section's factor. -/
def entry (x : S8x4096x1024.Idx → EReal) (w : Fin 1024 → Fin 8192 → EReal) (s : Fin 4) (b : Fin 8) (h : Fin 16) (i : Fin 4096)
    (d : Fin 128) : EReal :=
  (∑ k : Fin 1024, x (ix3 b i k) * w k (column s h d)) * factor s

/-- A section with its columns taken head by head. -/
def heads (q : FVec Ideal S8x4096x2048 .f32) : FVec Ideal S8x16x4096x128 .f32 :=
  transpose S8x16x4096x128 [0, 2, 1, 3] (shapeCast S8x4096x16x128 q shapeCasts_S8x4096x2048_S8x4096x16x128)
    transposes_S8x4096x16x128_S8x16x4096x128_0_2_1_3

theorem heads_apply (q : FVec Ideal S8x4096x2048 .f32) (b : Fin 8) (h : Fin 16) (i : Fin 4096) (d : Fin 128) :
    heads q (ix4 b h i d) = q (ix3 b i (within h d)) := by
  unfold heads within
  pointwise

/-- One section of the result. -/
def layer (q : FVec Ideal S8x16x4096x128 .f32) : FVec Ideal S1x8x16x4096x128 .f32 :=
  broadcastInDim S1x8x16x4096x128 ![1, 2, 3, 4] bcast_S8x16x4096x128_S1x8x16x4096x128_1_2_3_4 q

/-- Four sections stacked. -/
def stack (q k v z : FVec Ideal S8x16x4096x128 .f32) : FVec Ideal S4x8x16x4096x128 .bf16 :=
  truncf .bf16 (concatenate S4x8x16x4096x128 0
    [⟨S1x8x16x4096x128, layer q⟩, ⟨S1x8x16x4096x128, layer k⟩, ⟨S1x8x16x4096x128, layer v⟩, ⟨S1x8x16x4096x128, layer z⟩]
    concatenates_S1x8x16x4096x128_S1x8x16x4096x128_S1x8x16x4096x128_S1x8x16x4096x128_S4x8x16x4096x128_d0) bitsLt_bf16_f32

/-- The divisor of the queries. -/
theorem divisor_apply (j : S8x16x4096x128.Idx) :
    val_main_v19 (F := Ideal) j = ((Real.sqrt 128 * Real.log 2 : ℝ) : EReal) := by
  have big : Ideal.ofBits .f32 0x43000000#32 = ((128 : ℝ) : EReal) := by
    simp [Ideal.ofBits, Ideal.ieee]
    rw [← EReal.coe_mul]
    norm_num
  have two : Ideal.ofBits .f32 0x40000000#32 = ((2 : ℝ) : EReal) := by
    simp [Ideal.ofBits, Ideal.ieee]
    rw [← EReal.coe_mul]
    norm_num
  rw [val_main_v19_apply, val_main_v18_apply, val_main_v17_apply, val_main_v15_apply, val_main_v16_apply, val_main_cst_apply,
    val_main_cst_0_apply]
  show Ideal.sqrt (Ideal.ofBits .f32 0x43000000#32) * Ideal.log (Ideal.ofBits .f32 0x40000000#32) = _
  rw [big, two, Ideal.sqrt_coe, Ideal.log_coe, if_neg (by norm_num), if_neg (by norm_num), EReal.coe_mul]

theorem divided_apply (q : FVec Ideal S8x16x4096x128 .f32) (j : S8x16x4096x128.Idx) :
    Host.divf q (val_main_v19 (F := Ideal)) j = q j * (((Real.sqrt 128)⁻¹ * (Real.log 2)⁻¹ : ℝ) : EReal) := by
  show Ideal.div (q j) (val_main_v19 (F := Ideal) j) = _
  rw [divisor_apply, Ideal.div_coe (mul_ne_zero (Real.sqrt_ne_zero'.mpr (by norm_num)) (Real.log_pos (by norm_num)).ne'), one_div, mul_inv]

theorem layer_apply (q : FVec Ideal S8x16x4096x128 .f32) (b : Fin 8) (h : Fin 16) (i : Fin 4096) (d : Fin 128) :
    layer q (ix5 0 b h i d) = q (ix4 b h i d) := by
  unfold layer
  pointwise

theorem four : ∀ s : Fin 4, s = 0 ∨ s = 1 ∨ s = 2 ∨ s = 3 := by decide

/-- A section of the stack. -/
theorem stack_piece (q k v z y : FVec Ideal S8x16x4096x128 .f32) (s : Fin 4)
    (e : (⟨S1x8x16x4096x128, layer y⟩ : (s : Shape) × (s.Idx → EReal))
      = ![⟨S1x8x16x4096x128, layer q⟩, ⟨S1x8x16x4096x128, layer k⟩, ⟨S1x8x16x4096x128, layer v⟩, ⟨S1x8x16x4096x128, layer z⟩] s)
    (b : Fin 8) (h : Fin 16) (i : Fin 4096) (d : Fin 128) : stack q k v z (ix5 s b h i d) = y (ix4 b h i d) := by
  unfold stack
  rw [← layer_apply y]
  refine concatenate_apply_piece (α := EReal) 0
    [⟨S1x8x16x4096x128, layer q⟩, ⟨S1x8x16x4096x128, layer k⟩, ⟨S1x8x16x4096x128, layer v⟩, ⟨S1x8x16x4096x128, layer z⟩]
    concatenates_S1x8x16x4096x128_S1x8x16x4096x128_S1x8x16x4096x128_S1x8x16x4096x128_S4x8x16x4096x128_d0
    (ix5 s b h i d) s.val s.isLt S1x8x16x4096x128 (layer y) ?_ rfl s.val ?_ (ix5 0 b h i d) ?_ rfl
  · rw [e]
    obtain rfl | rfl | rfl | rfl := four s
    all_goals rfl
  · obtain rfl | rfl | rfl | rfl := four s
    all_goals rfl
  · intro a ha
    match a with
    | ⟨0, _⟩ => exact absurd rfl ha
    | ⟨1, _⟩ => rfl
    | ⟨2, _⟩ => rfl
    | ⟨3, _⟩ => rfl
    | ⟨4, _⟩ => rfl

/-- The four sections head by head, the queries divided. -/
def stacked (q k v z : FVec Ideal S8x4096x2048 .f32) : FVec Ideal S4x8x16x4096x128 .bf16 :=
  stack (Host.divf (heads q) (val_main_v19 (F := Ideal))) (heads k) (heads v) (heads z)

/-- An entry of the stack is the entry of its section, times the section's factor. -/
theorem stacked_apply (q k v z : FVec Ideal S8x4096x2048 .f32) (s : Fin 4) (b : Fin 8) (h : Fin 16) (i : Fin 4096) (d : Fin 128)
    (x : EReal) (hq : s = 0 → q (ix3 b i (within h d)) = x) (hk : s = 1 → k (ix3 b i (within h d)) = x)
    (hv : s = 2 → v (ix3 b i (within h d)) = x) (hz : s = 3 → z (ix3 b i (within h d)) = x) :
    stacked q k v z (ix5 s b h i d) = x * factor s := by
  unfold stacked
  obtain rfl | rfl | rfl | rfl := four s
  · rw [stack_piece _ _ _ _ _ 0 rfl, divided_apply, heads_apply, hq rfl]
    exact congrArg (x * ·) (if_pos rfl).symm
  · rw [stack_piece _ _ _ _ _ 1 rfl, heads_apply, hk rfl]
    exact (mul_one x).symm.trans (congrArg (x * ·) (if_neg (by decide)).symm)
  · rw [stack_piece _ _ _ _ _ 2 rfl, heads_apply, hv rfl]
    exact (mul_one x).symm.trans (congrArg (x * ·) (if_neg (by decide)).symm)
  · rw [stack_piece _ _ _ _ _ 3 rfl, heads_apply, hz rfl]
    exact (mul_one x).symm.trans (congrArg (x * ·) (if_neg (by decide)).symm)

theorem ext3 {n0 n1 n2 : ℕ} {a b : (⟨3, ![n0, n1, n2]⟩ : Shape).Idx} (h0 : (a 0).val = (b 0).val) (h1 : (a 1).val = (b 1).val)
    (h2 : (a 2).val = (b 2).val) : a = b := by
  funext x
  match x with
  | ⟨0, _⟩ => exact Fin.ext h0
  | ⟨1, _⟩ => exact Fin.ext h1
  | ⟨2, _⟩ => exact Fin.ext h2

theorem sb_eq (x : FVec Ideal S8x4096x1024 .f32) (w : FVec Ideal S2x1024x8192 .f32) :
    val_main_v26 (F := Ideal) x w = stacked (val_main_v3 (F := Ideal) x w) (val_main_v6 (F := Ideal) x w) (val_main_v9 (F := Ideal) x w)
      (val_main_v12 (F := Ideal) x w) := rfl

theorem sb_product (x : FVec Ideal S8x4096x1024 .f32) (w : FVec Ideal S2x1024x8192 .f32) (b : Fin 8) (i : Fin 4096) (n : Fin 8192)
    (j : S8x4096x8192.Idx) (h0 : (j 0).val = b.val) (h1 : (j 1).val = i.val) (h2 : (j 2).val = n.val) :
    val_main_v2 (F := Ideal) x w j = ∑ k : Fin 1024, x (ix3 b i k) * w (ix3 0 k n) := by
  rw [val_main_v2_apply]
  refine Finset.sum_congr rfl fun k _ => ?_
  rw [val_main_v1_apply, val_main_v0_apply]
  refine congrArg₂ (· * ·) (congrArg x (ext3 h0 h1 rfl)) (congrArg w (ext3 ?_ ?_ ?_))
  · rfl
  · show (k.val * 8192 + (j 2).val) / 8192 % 1024 = k.val
    omega
  · show (k.val * 8192 + (j 2).val) % 8192 = n.val
    omega

/-- The stick-breaking layers' reference. -/
theorem sb_apply (x : FVec Ideal S8x4096x1024 .f32) (w : FVec Ideal S2x1024x8192 .f32) (s : Fin 4) (b : Fin 8) (h : Fin 16) (i : Fin 4096)
    (d : Fin 128) :
    val_main_v26 (F := Ideal) x w (ix5 s b h i d) = entry x (fun k n => w (ix3 0 k n)) s b h i d := by
  rw [sb_eq]
  refine stacked_apply _ _ _ _ s b h i d _ (fun e => ?_) (fun e => ?_) (fun e => ?_) fun e => ?_
  · rw [val_main_v3_apply, e]
    exact sb_product x w b i (column 0 h d) _ rfl rfl (by show h.val * 128 + d.val = 0 * 2048 + h.val * 128 + d.val; omega)
  · rw [val_main_v6_apply, e]
    exact sb_product x w b i (column 1 h d) _ rfl rfl (by show 2048 + (h.val * 128 + d.val) = 1 * 2048 + h.val * 128 + d.val; omega)
  · rw [val_main_v9_apply, e]
    exact sb_product x w b i (column 2 h d) _ rfl rfl (by show 4096 + (h.val * 128 + d.val) = 2 * 2048 + h.val * 128 + d.val; omega)
  · rw [val_main_v12_apply, e]
    exact sb_product x w b i (column 3 h d) _ rfl rfl (by show 6144 + (h.val * 128 + d.val) = 3 * 2048 + h.val * 128 + d.val; omega)

/-- A column of the projections among all the columns of the forgetting layers' weights, the last sixteen of which are the
    forget gates'. -/
def wide (n : Fin 8192) : Fin 8208 := n.castLE (by decide)

theorem fox_eq (x : FVec Ideal S8x4096x1024 .f32) (w : FVec Ideal Cert.FoxProjectedIdeal.S2x1024x8208 .f32) :
    Cert.FoxProjectedIdeal.Read.val_main_v26 (F := Ideal) x w = stacked (Cert.FoxProjectedIdeal.Read.val_main_v3 (F := Ideal) x w) (Cert.FoxProjectedIdeal.Read.val_main_v6 (F := Ideal) x w) (Cert.FoxProjectedIdeal.Read.val_main_v9 (F := Ideal) x w)
      (Cert.FoxProjectedIdeal.Read.val_main_v12 (F := Ideal) x w) := rfl

theorem fox_product (x : FVec Ideal S8x4096x1024 .f32) (w : FVec Ideal Cert.FoxProjectedIdeal.S2x1024x8208 .f32) (b : Fin 8) (i : Fin 4096) (n : Fin 8208)
    (j : Cert.FoxProjectedIdeal.S8x4096x8208.Idx) (h0 : (j 0).val = b.val) (h1 : (j 1).val = i.val) (h2 : (j 2).val = n.val) :
    Cert.FoxProjectedIdeal.Read.val_main_v2 (F := Ideal) x w j = ∑ k : Fin 1024, x (ix3 b i k) * w (ix3 0 k n) := by
  rw [Cert.FoxProjectedIdeal.Read.val_main_v2_apply]
  refine Finset.sum_congr rfl fun k _ => ?_
  rw [Cert.FoxProjectedIdeal.Read.val_main_v1_apply, Cert.FoxProjectedIdeal.Read.val_main_v0_apply]
  refine congrArg₂ (· * ·) (congrArg x (ext3 h0 h1 rfl)) (congrArg w (ext3 ?_ ?_ ?_))
  · rfl
  · show (k.val * 8208 + (j 2).val) / 8208 % 1024 = k.val
    omega
  · show (k.val * 8208 + (j 2).val) % 8208 = n.val
    omega

/-- The forgetting layers' reference. -/
theorem fox_apply (x : FVec Ideal S8x4096x1024 .f32) (w : FVec Ideal Cert.FoxProjectedIdeal.S2x1024x8208 .f32) (s : Fin 4) (b : Fin 8) (h : Fin 16) (i : Fin 4096)
    (d : Fin 128) :
    Cert.FoxProjectedIdeal.Read.val_main_v26 (F := Ideal) x w (ix5 s b h i d) = entry x (fun k n => w (ix3 0 k (wide n))) s b h i d := by
  rw [fox_eq]
  refine stacked_apply _ _ _ _ s b h i d _ (fun e => ?_) (fun e => ?_) (fun e => ?_) fun e => ?_
  · rw [Cert.FoxProjectedIdeal.Read.val_main_v3_apply, e]
    exact fox_product x w b i (wide (column 0 h d)) _ rfl rfl (by show h.val * 128 + d.val = 0 * 2048 + h.val * 128 + d.val; omega)
  · rw [Cert.FoxProjectedIdeal.Read.val_main_v6_apply, e]
    exact fox_product x w b i (wide (column 1 h d)) _ rfl rfl (by show 2048 + (h.val * 128 + d.val) = 1 * 2048 + h.val * 128 + d.val; omega)
  · rw [Cert.FoxProjectedIdeal.Read.val_main_v9_apply, e]
    exact fox_product x w b i (wide (column 2 h d)) _ rfl rfl (by show 4096 + (h.val * 128 + d.val) = 2 * 2048 + h.val * 128 + d.val; omega)
  · rw [Cert.FoxProjectedIdeal.Read.val_main_v12_apply, e]
    exact fox_product x w b i (wide (column 3 h d)) _ rfl rfl (by show 6144 + (h.val * 128 + d.val) = 3 * 2048 + h.val * 128 + d.val; omega)

end Cert.Proof.Projected

end
-- ==== Proof.FoxProjArray.lean ====
/-
  The forgetting layers' projection call: its result array, entry by entry (`result_apply`), and the claims about it.
-/
module

public import proofs.«01_k».proof.Defs
public import proofs.«01_k».proof.Proof.FoxProjTile
public import proofs.«01_k».proof.Proof.Projected
public import proofs.«01_k».proof.Proof.Gen.FoxProjectedIdeal.Run
public import Idealize.ShloMosaic.Lib.Quiescent

@[expose] public section

set_option maxRecDepth 16384

noncomputable section

namespace Cert.Proof.FoxProj

open Cert.FoxProjIdeal Cert.FoxProjIdeal.Gen
open Idealize.ShloMosaic Idealize.ShloMosaic.TcCoe
open Idealize.SL.Sem
open Idealize.ShloMosaic.Pipeline (Dat Cfg Window BodyObligation cellOf)
open Cert.Proof.Projected (entry factor column ext3 wide)

variable (m : (ℓ : Loc nD τ sig) → Buf (Elt Ideal) ℓ) (c : Dev nD)

/-- The weights as the call finds them, with rows and columns swapped. -/
theorem swapped_apply (j : S2x8208x1024.Idx) (k : S2x1024x8208.Idx) (h0 : (k 0).val = (j 0).val) (h1 : (k 1).val = (j 2).val)
    (h2 : (k 2).val = (j 1).val) : V m c main_v0 j = m ((c : Thread nD τ).loc main_arg1) k := by
  have e : V m c main_v0 = transpose S2x8208x1024 [0, 2, 1] (m ((c : Thread nD τ).loc main_arg1)) transposes_S2x1024x8208_S2x8208x1024_0_2_1 := by
    show StableHlo.after hostOps0 (fun b => m (c, b)) (Proc.devRef .tc main_v0) = _
    after_results <;> rfl
  rw [e]
  exact transpose_apply [0, 2, 1] _ _ j k (fun b => match b with
    | ⟨0, _⟩ => h0
    | ⟨1, _⟩ => h2
    | ⟨2, _⟩ => h1)

/-- The rows that a point stages. -/
theorem rows_apply (t : Fin cfg0.N) (r : Fin 2048) (k : Fin 1024) (b : Fin 8) (i : Fin 4096)
    (hb : (grid0.coords t 0).val = b.val) (hi : (grid0.coords t 1).val * 2048 + r.val = i.val) :
    iblk m c 0 t (ix3 0 r k : S1x2048x1024.Idx) = m ((c : Thread nD τ).loc main_arg0) (ix3 b i k) := by
  unfold iblk
  blk_simp [index_0]
  refine (congrFun (V_main_arg0 m c) _).trans ?_
  refine congrArg (m ((c : Thread nD τ).loc main_arg0)) (ext3 ?_ ?_ ?_)
  · blk_simp [index_0]
    exact hb
  · blk_simp [index_0]
    exact hi
  · blk_simp [index_0]

/-- The columns that a point stages. -/
theorem columns_apply (t : Fin cfg0.N) (k : Fin 1024) (n : Fin 1024) (l : Fin 8208)
    (hl : (grid0.coords t 2).val * 1024 + n.val = l.val) :
    X0_1 m c t (ix3 0 n k : S1x1024x1024.Idx) = m ((c : Thread nD τ).loc main_arg1) (ix3 0 k l) := by
  unfold X0_1 Pipeline.Window.fill
  rw [dif_pos (moved0_1 t _)]
  unfold iblk
  blk_simp [index_1]
  refine swapped_apply m c _ _ ?_ ?_ ?_
  · blk_simp [index_1]
    rfl
  · blk_simp [index_1]
  · blk_simp [index_1]
    exact hl.symm

/-- The result array. -/
theorem result_apply (s : Fin 4) (b : Fin 8) (h : Fin 16) (i : Fin 4096) (d : Fin 128) :
    (dats m 0 c).arrAt 2 cfg0.N (ix5 s b h i d : S4x8x16x4096x128.Idx)
      = entry (m ((c : Thread nD τ).loc main_arg0)) (fun k n => m ((c : Thread nD τ).loc main_arg1) (ix3 0 k (wide n))) s b h i d := by
  have P := (dats m 0 c).arrAt_forall_of_covers 2
    (fun (y : S4x8x16x4096x128.Idx) (v : EReal) => ∀ s b h i d, y = ix5 s b h i d → v
      = entry (m ((c : Thread nD τ).loc main_arg0)) (fun k n => m ((c : Thread nD τ).loc main_arg1) (ix3 0 k (wide n))) s b h i d)
    (by decide +kernel) (fun t hf y s b h i d e => ?_) (ix5 s b h i d)
  · exact P s b h i d rfl
  · have e0 : (grid0.coords t 2).val / 2 = s.val := by
      have e := congrArg (fun x : S4x8x16x4096x128.Idx => (x 0).val) e
      blk_simp [index_2] at e
      exact e
    have e1 : (grid0.coords t 0).val = b.val := by
      have e := congrArg (fun x : S4x8x16x4096x128.Idx => (x 1).val) e
      blk_simp [index_2] at e
      exact e
    have e2 : (grid0.coords t 2).val % 2 * 8 + (y 2).val = h.val := by
      have e := congrArg (fun x : S4x8x16x4096x128.Idx => (x 2).val) e
      blk_simp [index_2] at e
      exact e
    have e3 : (grid0.coords t 1).val * 2048 + (y 3).val = i.val := by
      have e := congrArg (fun x : S4x8x16x4096x128.Idx => (x 3).val) e
      blk_simp [index_2] at e
      exact e
    have e4 : (y 4).val = d.val := by
      have e := congrArg (fun x : S4x8x16x4096x128.Idx => (x 4).val) e
      blk_simp [index_2] at e
      exact e
    blk_simp
    rw [after0_2, block_apply]
    refine (product_apply _ _ _ _ _).trans ?_
    unfold entry
    refine congrArg₂ (· * ·) (Finset.sum_congr rfl fun k _ => congrArg₂ (· * ·) ?_ ?_) ?_
    · exact rows_apply m c t _ k b i e1 e3
    · refine columns_apply m c t k _ _ ?_
      show (grid0.coords t 2).val * 1024 + ((y 2).val * 128 + (y 4).val) = s.val * 2048 + h.val * 128 + d.val
      omega
    · unfold factor
      exact if_congr (by omega) rfl rfl

/-- Every index of the result is a section, a batch, a head, a position and a coordinate. -/
theorem exists_ix (y : S4x8x16x4096x128.Idx) : ∃ s b h i d, y = ix5 s b h i d := ⟨y 0, y 1, y 2, y 3, y 4, funext fun a => by
  match a with
  | ⟨0, _⟩ => rfl
  | ⟨1, _⟩ => rfl
  | ⟨2, _⟩ => rfl
  | ⟨3, _⟩ => rfl
  | ⟨4, _⟩ => rfl⟩

/-- The call computes its reference. -/
theorem algebraic : Cert.algebraic_FoxProjIdeal_FoxProjectedIdeal := by
  intro m ρ m' ρ' _ hagree
  refine ⟨_, (θ_run defs _ _).mono (fun _ h c => ⟨(h c).1, (h c).2.2⟩) (Value.run_blocks m ρ), ?_⟩
  refine (θ_run Cert.FoxProjectedIdeal.defs _ _).mono (fun _ h c => ⟨(h c).1.trans ?_, (h c).2⟩)
    (Cert.FoxProjectedIdeal.Value.run (F := Ideal) m' ρ')
  obtain ⟨e0, e1⟩ := hagree c
  rw [Cert.FoxProjectedIdeal.Read.val_main_v26_eq, e0, e1]
  funext y
  obtain ⟨s, b, h, i, d, rfl⟩ := exists_ix y
  exact (Projected.fox_apply _ _ s b h i d).trans (result_apply m c s b h i d).symm

/-- The queries' factor is the constant that the printed literal stands for. -/
theorem preserves : Cert.preserves_FoxProj_FoxProjIdeal :=
  IdealRules.named_const.statement Cert.FoxProjIdeal.κ "qscale" .f32 0x3E0293EE#32 (((Real.sqrt 128)⁻¹ * (Real.log 2)⁻¹ : ℝ) : EReal) rfl

/-- The reference runs to its end with its arguments unchanged. -/
theorem frame_reference : Cert.quiescent_FoxProjectedIdeal := fun m ρ _ =>
  (θ_run Cert.FoxProjectedIdeal.defs _ _).mono (fun r h => ⟨fun c => (h c).2, sem_eq_zero_of_no_sems (by decide) r.2⟩)
    (Cert.FoxProjectedIdeal.Value.run (F := Ideal) m ρ)

end Cert.Proof.FoxProj

end
-- ==== Proof.SbProjArray.lean ====
/-
  The stick-breaking layers' projection call: its result array, entry by entry (`result_apply`), and the claims about it.
-/
module

public import proofs.«01_k».proof.Defs
public import proofs.«01_k».proof.Proof.SbProjTile
public import proofs.«01_k».proof.Proof.Projected
public import proofs.«01_k».proof.Proof.Gen.SbProjectedIdeal.Run
public import Idealize.ShloMosaic.Lib.Quiescent

@[expose] public section

set_option maxRecDepth 16384

noncomputable section

namespace Cert.Proof.SbProj

open Cert.SbProjIdeal Cert.SbProjIdeal.Gen
open Idealize.ShloMosaic Idealize.ShloMosaic.TcCoe
open Idealize.SL.Sem
open Idealize.ShloMosaic.Pipeline (Dat Cfg Window BodyObligation cellOf)
open Cert.Proof.Projected (entry factor column ext3)

variable (m : (ℓ : Loc nD τ sig) → Buf (Elt Ideal) ℓ) (c : Dev nD)

/-- The rows that a point stages. -/
theorem rows_apply (t : Fin cfg0.N) (r : Fin 2048) (k : Fin 1024) (b : Fin 8) (i : Fin 4096)
    (hb : (grid0.coords t 0).val = b.val) (hi : (grid0.coords t 1).val * 2048 + r.val = i.val) :
    iblk m c 0 t (ix3 0 r k : S1x2048x1024.Idx) = m ((c : Thread nD τ).loc main_arg0) (ix3 b i k) := by
  unfold iblk
  blk_simp [index_0]
  refine congrArg (m ((c : Thread nD τ).loc main_arg0)) (ext3 ?_ ?_ ?_)
  · blk_simp [index_0]
    exact hb
  · blk_simp [index_0]
    exact hi
  · blk_simp [index_0]

/-- The columns that a point stages. -/
theorem columns_apply (t : Fin cfg0.N) (k : Fin 1024) (n : Fin 1024) (l : Fin 8192)
    (hl : (grid0.coords t 2).val * 1024 + n.val = l.val) :
    iblk m c 1 t (ix3 0 k n : S1x1024x1024.Idx) = m ((c : Thread nD τ).loc main_arg1) (ix3 0 k l) := by
  unfold iblk
  blk_simp [index_1]
  refine congrArg (m ((c : Thread nD τ).loc main_arg1)) (ext3 ?_ ?_ ?_)
  · blk_simp [index_1]
    rfl
  · blk_simp [index_1]
  · blk_simp [index_1]
    exact hl

/-- The result array. -/
theorem result_apply (s : Fin 4) (b : Fin 8) (h : Fin 16) (i : Fin 4096) (d : Fin 128) :
    (dats m 0 c).arrAt 2 cfg0.N (ix5 s b h i d : S4x8x16x4096x128.Idx)
      = entry (m ((c : Thread nD τ).loc main_arg0)) (fun k n => m ((c : Thread nD τ).loc main_arg1) (ix3 0 k n)) s b h i d := by
  have P := (dats m 0 c).arrAt_forall_of_covers 2
    (fun (y : S4x8x16x4096x128.Idx) (v : EReal) => ∀ s b h i d, y = ix5 s b h i d → v
      = entry (m ((c : Thread nD τ).loc main_arg0)) (fun k n => m ((c : Thread nD τ).loc main_arg1) (ix3 0 k n)) s b h i d)
    (by decide +kernel) (fun t hf y s b h i d e => ?_) (ix5 s b h i d)
  · exact P s b h i d rfl
  · have e0 : (grid0.coords t 2).val / 2 = s.val := by
      have e := congrArg (fun x : S4x8x16x4096x128.Idx => (x 0).val) e
      blk_simp [index_2] at e
      exact e
    have e1 : (grid0.coords t 0).val = b.val := by
      have e := congrArg (fun x : S4x8x16x4096x128.Idx => (x 1).val) e
      blk_simp [index_2] at e
      exact e
    have e2 : (grid0.coords t 2).val % 2 * 8 + (y 2).val = h.val := by
      have e := congrArg (fun x : S4x8x16x4096x128.Idx => (x 2).val) e
      blk_simp [index_2] at e
      exact e
    have e3 : (grid0.coords t 1).val * 2048 + (y 3).val = i.val := by
      have e := congrArg (fun x : S4x8x16x4096x128.Idx => (x 3).val) e
      blk_simp [index_2] at e
      exact e
    have e4 : (y 4).val = d.val := by
      have e := congrArg (fun x : S4x8x16x4096x128.Idx => (x 4).val) e
      blk_simp [index_2] at e
      exact e
    blk_simp
    rw [after0_2, block_apply]
    refine (product_apply _ _ _ _ _).trans ?_
    unfold entry
    refine congrArg₂ (· * ·) (Finset.sum_congr rfl fun k _ => congrArg₂ (· * ·) ?_ ?_) ?_
    · exact rows_apply m c t _ k b i e1 e3
    · refine columns_apply m c t k _ _ ?_
      show (grid0.coords t 2).val * 1024 + ((y 2).val * 128 + (y 4).val) = s.val * 2048 + h.val * 128 + d.val
      omega
    · unfold factor
      exact if_congr (by omega) rfl rfl

/-- Every index of the result is a section, a batch, a head, a position and a coordinate. -/
theorem exists_ix (y : S4x8x16x4096x128.Idx) : ∃ s b h i d, y = ix5 s b h i d := ⟨y 0, y 1, y 2, y 3, y 4, funext fun a => by
  match a with
  | ⟨0, _⟩ => rfl
  | ⟨1, _⟩ => rfl
  | ⟨2, _⟩ => rfl
  | ⟨3, _⟩ => rfl
  | ⟨4, _⟩ => rfl⟩

/-- The call computes its reference. -/
theorem algebraic : Cert.algebraic_SbProjIdeal_SbProjectedIdeal := by
  intro m ρ m' ρ' _ hagree
  refine ⟨_, Value.run_blocks m ρ, ?_⟩
  refine (θ_run Cert.SbProjectedIdeal.defs _ _).mono (fun _ h c => ⟨(h c).1.trans ?_, (h c).2⟩)
    (Cert.SbProjectedIdeal.Value.run (F := Ideal) m' ρ')
  obtain ⟨e0, e1⟩ := hagree c
  rw [Cert.SbProjectedIdeal.Read.val_main_v26_eq, e0, e1]
  funext y
  obtain ⟨s, b, h, i, d, rfl⟩ := exists_ix y
  exact (Projected.sb_apply _ _ s b h i d).trans (result_apply m c s b h i d).symm

/-- The queries' factor is the constant that the printed literal stands for. -/
theorem preserves : Cert.preserves_SbProj_SbProjIdeal :=
  IdealRules.named_const.statement Cert.SbProjIdeal.κ "qscale" .f32 0x3E0293EE#32 (((Real.sqrt 128)⁻¹ * (Real.log 2)⁻¹ : ℝ) : EReal) rfl

/-- The reference runs to its end with its arguments unchanged. -/
theorem frame_reference : Cert.quiescent_SbProjectedIdeal := fun m ρ _ =>
  (θ_run Cert.SbProjectedIdeal.defs _ _).mono (fun r h => ⟨fun c => (h c).2, sem_eq_zero_of_no_sems (by decide) r.2⟩)
    (Cert.SbProjectedIdeal.Value.run (F := Ideal) m ρ)

end Cert.Proof.SbProj

end
-- ==== Proof.Rows.lean ====
/-
  A layer norm over one row of 1024 features, after a residual sum: the function (`normed`) that the output projection's call and
  the reference both apply to every row, and the reference's entries as its values (`reference_apply`).
-/
module

public import proofs.«01_k».proof.Proof.Gen.NormedIdeal.Read
public import Idealize.ShloMosaic.Lib.Pointwise
public import Idealize.ShloMosaic.PureOps.Ideal.Laws

@[expose] public section

set_option maxRecDepth 16384

noncomputable section

namespace Cert.Proof.Rows

open Idealize.ShloMosaic

/-- The residual sum of a row: the layer's input `x`, scaled, plus the branch's output `y`. -/
def mixture (x y : Fin 1024 → EReal) (n : Fin 1024) : EReal := Ideal.ofBits .f32 0x3FD744FD#32 * x n + y n

/-- The average of a row. -/
def average (r : Fin 1024 → EReal) : EReal := Ideal.div (∑ k, r k) (Ideal.ofBits .f32 0x44800000#32)

/-- A row less its average. -/
def centred (r : Fin 1024 → EReal) (n : Fin 1024) : EReal := r n - average r

/-- A row, centred and divided by the root of its variance plus a small number, then scaled by `g` and shifted by `b`. -/
def normed (r g b : Fin 1024 → EReal) (n : Fin 1024) : EReal :=
  centred r n * Ideal.rsqrt (average (fun k => centred r k * centred r k) + Ideal.ofBits .f32 0x3727C5AC#32) * g n + b n

section reference

open Cert.NormedIdeal Cert.NormedIdeal.Gen Cert.NormedIdeal.Read

theorem zero_bits : Ideal.ofBits .f32 0x00000000#32 = (0 : EReal) := by simp [Ideal.ofBits, Ideal.ieee]

theorem ext1 {n0 : Nat} {x y : (⟨1, ![n0]⟩ : Shape).Idx} (h0 : (x 0).val = (y 0).val) : x = y := funext fun a => by
  match a with
  | ⟨0, _⟩ => exact Fin.ext h0

theorem ext2 {n0 n1 : Nat} {x y : (⟨2, ![n0, n1]⟩ : Shape).Idx} (h0 : (x 0).val = (y 0).val) (h1 : (x 1).val = (y 1).val) :
    x = y := funext fun a => by
  match a with
  | ⟨0, _⟩ => exact Fin.ext h0
  | ⟨1, _⟩ => exact Fin.ext h1

theorem ext3 {n0 n1 n2 : Nat} {x y : (⟨3, ![n0, n1, n2]⟩ : Shape).Idx} (h0 : (x 0).val = (y 0).val) (h1 : (x 1).val = (y 1).val)
    (h2 : (x 2).val = (y 2).val) : x = y := funext fun a => by
  match a with
  | ⟨0, _⟩ => exact Fin.ext h0
  | ⟨1, _⟩ => exact Fin.ext h1
  | ⟨2, _⟩ => exact Fin.ext h2

variable (x0 : FVec Ideal S8x4096x2048 .bf16) (x1 : FVec Ideal S2x2048x1024 .f32) (x2 : FVec Ideal S8x4096x1024 .f32)
  (x3 x4 : FVec Ideal S4x1024 .f32)

/-- The branch's output at a row: the mixed heads times the last layer's weights. -/
def branch (b : Fin 8) (i : Fin 4096) (n : Fin 1024) : EReal := ∑ k : Fin 2048, x0 (ix3 b i k) * x1 (ix3 1 k n)

/-- The residual sum at a row. -/
def row (b : Fin 8) (i : Fin 4096) : Fin 1024 → EReal := mixture (fun n => x2 (ix3 b i n)) (branch x0 x1 b i)

theorem branch_apply (b : Fin 8) (i : Fin 4096) (n : Fin 1024) :
    val_main_v3 (F := Ideal) x0 x1 (ix3 b i n) = branch x0 x1 b i n := by
  unfold branch val_main_v3 val_main_v0 val_main_v2 val_main_v1
  pointwise

theorem row_apply (b : Fin 8) (i : Fin 4096) (n : Fin 1024) :
    val_main_v6 (F := Ideal) x0 x1 x2 (ix3 b i n) = row x0 x1 x2 b i n := by
  rw [val_main_v6_apply, branch_apply]
  rfl

theorem average_apply (b : Fin 8) (i : Fin 4096) (j : S8x4096x1.Idx) (h0 : (j 0).val = b.val) (h1 : (j 1).val = i.val) :
    val_main_v10 (F := Ideal) x0 x1 x2 j = average (row x0 x1 x2 b i) := by
  rw [val_main_v10_apply]
  refine congrArg (fun z => Ideal.div z (Ideal.ofBits .f32 0x44800000#32)) ?_
  rw [val_main_v8_apply, val_main_v7_apply]
  refine (congrArg (· + _) zero_bits).trans ((zero_add _).trans (Finset.sum_congr rfl fun k _ => ?_))
  rw [← row_apply]
  exact congrArg _ (ext3 h0 h1 rfl)

theorem centred_apply (b : Fin 8) (i : Fin 4096) (n : Fin 1024) :
    val_main_v12 (F := Ideal) x0 x1 x2 (ix3 b i n) = centred (row x0 x1 x2 b i) n := by
  rw [val_main_v12_apply, row_apply, val_main_v11_apply, average_apply x0 x1 x2 b i _ rfl rfl]
  rfl

theorem spread_apply (b : Fin 8) (i : Fin 4096) (j : S8x4096x1.Idx) (h0 : (j 0).val = b.val) (h1 : (j 1).val = i.val) :
    val_main_v17 (F := Ideal) x0 x1 x2 j = average (fun k => centred (row x0 x1 x2 b i) k * centred (row x0 x1 x2 b i) k) := by
  rw [val_main_v17_apply]
  refine congrArg (fun z => Ideal.div z (Ideal.ofBits .f32 0x44800000#32)) ?_
  rw [val_main_v15_apply, val_main_v14_apply]
  refine (congrArg (· + _) zero_bits).trans ((zero_add _).trans (Finset.sum_congr rfl fun k _ => ?_))
  rw [val_main_v13_apply]
  have e : idx_main_v14 (idx_main_v15 j) k = (ix3 b i k : S8x4096x1024.Idx) := ext3 h0 h1 rfl
  rw [e, centred_apply]
  rfl

/-- The reference's entries: the layer norm of the residual sum of the entry's row. -/
theorem reference_apply (b : Fin 8) (i : Fin 4096) (n : Fin 1024) :
    val_main_v34 (F := Ideal) x0 x1 x2 x3 x4 (ix3 b i n)
      = normed (row x0 x1 x2 b i) (fun n => x3 (ix2 3 n)) (fun n => x4 (ix2 3 n)) n := by
  rw [val_main_v34_apply, val_main_v29_apply, val_main_v24_apply, val_main_v23_apply, val_main_v22_apply, val_main_v21_apply,
    spread_apply x0 x1 x2 b i _ rfl rfl]
  have e : val_main_v19 (F := Ideal) x0 x1 x2 (ix3 b i n) = centred (row x0 x1 x2 b i) n := centred_apply x0 x1 x2 b i n
  have g : val_main_v28 (F := Ideal) x3 (ix3 b i n) = x3 (ix2 3 n) := by
    rw [val_main_v28_apply, val_main_v27_apply, val_main_v26_apply, val_main_v25_apply]
    exact congrArg _ (ext2 rfl (Nat.mod_eq_of_lt n.isLt))
  have s : val_main_v33 (F := Ideal) x4 (ix3 b i n) = x4 (ix2 3 n) := by
    rw [val_main_v33_apply, val_main_v32_apply, val_main_v31_apply, val_main_v30_apply]
    exact congrArg _ (ext2 rfl (Nat.mod_eq_of_lt n.isLt))
  rw [e, g, s]
  rfl

end reference

end Cert.Proof.Rows

end
-- ==== Proof.OutNormTile.lean ====
/-
  The output projection's call, one grid point: the block it writes holds the layer norm of the residual sum of every row
  (`block_apply`).
-/
module

public import proofs.«01_k».proof.Proof.Gen.OutNormIdeal.Value
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section

namespace Cert.Proof.OutNorm

open Cert.OutNormIdeal Cert.OutNormIdeal.Gen
open Idealize.ShloMosaic Idealize.ShloMosaic.TcCoe
open Idealize.SL.Sem
open Idealize.ShloMosaic.Pipeline (Dat Cfg Window BodyObligation cellOf)
open Cert.Proof.Rows (mixture average centred normed ext3)

/-- The residual sum of 256 rows. -/
def sums (g : Vec Ideal S1x256x2048 .bf16) (w : Vec Ideal S1x2048x1024 .bf16) (x : Vec Ideal S1x256x1024 .f32) : FVec Ideal S256x1024 .f32 :=
  addf (mulf (broadcast S256x1024 (Scalar.ofBits .f32 0x3FD744FD#32)) (shapeCast S256x1024 x shapeCasts_S1x256x1024_S256x1024))
    (matmul (φ₁ := .bf16) (φ₂ := .bf16) dot_S256x2048_S2048x1024_S256x1024_1_0_0_1_n_n none (shapeCast S256x2048 g shapeCasts_S1x256x2048_S256x2048)
      (shapeCast S2048x1024 w shapeCasts_S1x2048x1024_S2048x1024) (constant S256x1024 .f32 0x00000000#32))

/-- The averages of 256 rows. -/
def averages (r : FVec Ideal S256x1024 .f32) : FVec Ideal S256x1 .f32 :=
  divf (shapeCast S256x1 (multiReduction .add [1] S256 r 0x00000000#32 reduces_S256x1024_S256 (.inl rfl) rfl) shapeCasts_S256_S256x1)
    (broadcast S256x1 (Scalar.ofBits .f32 0x44800000#32))

/-- 256 rows less their averages. -/
def centres (r : FVec Ideal S256x1024 .f32) : FVec Ideal S256x1024 .f32 :=
  subf r (broadcastTo S256x1024 (averages r) broadcasts_S256x1_S256x1024)

theorem averages_apply (r : FVec Ideal S256x1024 .f32) (q : Fin 256) :
    averages r (ix2 q 0) = average (fun k => r (ix2 q k)) := by
  unfold averages average
  pointwise

theorem centres_apply (r : FVec Ideal S256x1024 .f32) (q : Fin 256) (n : Fin 1024) :
    centres r (ix2 q n) = centred (fun k => r (ix2 q k)) n := by
  unfold centres centred
  rw [← averages_apply]
  pointwise

theorem sums_apply (g : Vec Ideal S1x256x2048 .bf16) (w : Vec Ideal S1x2048x1024 .bf16) (x : Vec Ideal S1x256x1024 .f32)
    (q : Fin 256) (n : Fin 1024) :
    sums g w x (ix2 q n) = mixture (fun n => x (ix3 0 q n)) (fun n => ∑ k : Fin 2048, g (ix3 0 q k) * w (ix3 0 k n)) n := by
  unfold sums mixture
  pointwise

/-- What 256 rows become. -/
def outcome (r : FVec Ideal S256x1024 .f32) (s b : Vec Ideal S1x1024 .f32) : FVec Ideal S256x1024 .f32 :=
  addf (mulf (mulf (centres r) (broadcastTo S256x1024 (rsqrt (addf (averages (mulf (centres r) (centres r)))
      (broadcast S256x1 (Scalar.ofBits .f32 0x3727C5AC#32)))) broadcasts_S256x1_S256x1024))
      (broadcastTo S256x1024 (shapeCast S1x1024 s shapeCasts_S1x1024_S1x1024) broadcasts_S1x1024_S256x1024))
    (broadcastTo S256x1024 (shapeCast S1x1024 b shapeCasts_S1x1024_S1x1024) broadcasts_S1x1024_S256x1024)

theorem outcome_apply (r : FVec Ideal S256x1024 .f32) (s b : Vec Ideal S1x1024 .f32) (q : Fin 256) (n : Fin 1024) :
    outcome r s b (ix2 q n) = normed (fun k => r (ix2 q k)) (fun n => s (ix2 0 n)) (fun n => b (ix2 0 n)) n := by
  have v : averages (mulf (centres r) (centres r)) (ix2 q 0)
      = average (fun k => centred (fun k => r (ix2 q k)) k * centred (fun k => r (ix2 q k)) k) := by
    rw [averages_apply]
    refine congrArg average (funext fun k => ?_)
    rw [← centres_apply]
    rfl
  unfold outcome normed
  rw [← v, ← centres_apply]
  pointwise

/-- The stored rows, as the row function of what was read. -/
theorem stored_apply (g : Vec Ideal S1x256x2048 .bf16) (w : Vec Ideal S1x2048x1024 .bf16) (x : Vec Ideal S1x256x1024 .f32)
    (s b : Vec Ideal S1x1024 .f32) (z : S1x256x1024.Idx) :
    shapeCast S1x256x1024 (outcome (sums g w x) s b) shapeCasts_S256x1024_S1x256x1024 z
      = normed (mixture (fun n => x (ix3 0 (z 1) n)) (fun n => ∑ k : Fin 2048, g (ix3 0 (z 1) k) * w (ix3 0 k n)))
          (fun n => s (ix2 0 n)) (fun n => b (ix2 0 n)) (z 2) := by
  obtain ⟨q, n, rfl⟩ : ∃ q n, z = ix3 0 q n := ⟨z 1, z 2, ext3 (Nat.lt_one_iff.mp (z 0).isLt) rfl rfl⟩
  have e : shapeCast S1x256x1024 (outcome (sums g w x) s b) shapeCasts_S256x1024_S1x256x1024 (ix3 0 q n)
      = outcome (sums g w x) s b (ix2 q n) := by pointwise
  refine e.trans ((outcome_apply _ s b q n).trans (congrArg (fun r => normed r _ _ n) (funext fun k => sums_apply g w x q k)))

theorem pay_2 (g : Vec Ideal S1x256x2048 .bf16) (w x s b) : k0_pay3 (F := Ideal) (k0_pay2 g w x s b)
    = shapeCast S1x256x1024 (outcome (sums g w x) s b) shapeCasts_S256x1024_S1x256x1024 := rfl
theorem pay_4 (g : Vec Ideal S1x256x2048 .bf16) (w x s b) : k0_pay5 (F := Ideal) (k0_pay4 g w x s b)
    = shapeCast S1x256x1024 (outcome (sums g w x) s b) shapeCasts_S256x1024_S1x256x1024 := rfl
theorem pay_6 (g : Vec Ideal S1x256x2048 .bf16) (w x s b) : k0_pay7 (F := Ideal) (k0_pay6 g w x s b)
    = shapeCast S1x256x1024 (outcome (sums g w x) s b) shapeCasts_S256x1024_S1x256x1024 := rfl
theorem pay_8 (g : Vec Ideal S1x256x2048 .bf16) (w x s b) : k0_pay1 (F := Ideal) (k0_pay8 g w x s b)
    = shapeCast S1x256x1024 (outcome (sums g w x) s b) shapeCasts_S256x1024_S1x256x1024 := rfl

theorem normed_congr {x x' y y' s s' b b' : Fin 1024 → EReal} {n n' : Fin 1024} (hx : ∀ k, x k = x' k) (hy : ∀ k, y k = y' k)
    (hs : ∀ k, s k = s' k) (hb : ∀ k, b k = b' k) (hn : n = n') :
    normed (mixture x y) s b n = normed (mixture x' y') s' b' n' := by
  rw [funext hx, funext hy, funext hs, funext hb, hn]

/-- A row of 256 consecutive ones, read from the block. -/
theorem ld_rows {e : EltTy} {w : ℕ} (o : ℕ) (X : (⟨3, ![1, 1024, w]⟩ : Shape).Idx → Elt Ideal e)
    (inb : ∀ a, (![0, o, 0] : Fin 3 → ℕ) a + (![1, 256, w] : Fin 3 → ℕ) a ≤ (⟨3, ![1, 1024, w]⟩ : Shape).size a)
    (q : Fin 256) (k : Fin w) {i : Fin 1024} (h : i.val = o + q.val) :
    View.ld X (Rect.unit (s := ⟨3, ![1, 1024, w]⟩) ![0, o, 0] ![1, 256, w] inb) (ix3 0 q k) = X (ix3 0 i k) :=
  View.ld_unit_apply_of X _ _ inb _ _ fun a => by
    match a with
    | ⟨0, _⟩ => rfl
    | ⟨1, _⟩ => exact h
    | ⟨2, _⟩ => exact (Nat.zero_add _).symm

/-- A point's block, row by row. -/
theorem block_apply (x0 : Vec Ideal S1x1024x2048 .bf16) (x1 : Vec Ideal S1x2048x1024 .bf16) (x2 : Vec Ideal S1x1024x1024 .f32)
    (x3 x4 : Vec Ideal S1x1024 .f32) (y : S1x1024x1024.Idx) :
    out0_5 x0 x1 x2 x3 x4 y
      = normed (mixture (fun n => x2 (ix3 0 (y 1) n)) (fun n => ∑ k : Fin 2048, x0 (ix3 0 (y 1) k) * x1 (ix3 0 k n)))
          (fun n => x3 (ix2 0 n)) (fun n => x4 (ix2 0 n)) (y 2) := by
  unfold out0_5
  rw [pay_2, pay_4, pay_6, pay_8]
  canon_tiles z h
  all_goals
    refine (stored_apply _ _ _ _ _ z).trans (normed_congr (fun k => ?_) (fun k => Finset.sum_congr rfl fun j _ => congrArg₂ _ ?_ ?_)
      (fun k => ?_) (fun k => ?_) (Fin.ext h2.symm))
    · exact ld_rows _ _ _ _ _ (by omega)
    · exact ld_rows _ _ _ _ _ (by omega)
    · exact congrFun (View.ld_unit_lit _ _ (by decide)) _
    · exact congrFun (View.ld_unit_lit _ _ (by decide)) _
    · exact congrFun (View.ld_unit_lit _ _ (by decide)) _

end Cert.Proof.OutNorm

end
-- ==== Proof.OutNormArray.lean ====
/-
  The output projection's call: its result array, entry by entry (`result_apply`), and the claims about it.
-/
module

public import proofs.«01_k».proof.Defs
public import proofs.«01_k».proof.Proof.OutNormTile
public import proofs.«01_k».proof.Proof.Gen.NormedIdeal.Run
public import Idealize.ShloMosaic.Lib.Quiescent

@[expose] public section

set_option maxRecDepth 16384

noncomputable section

namespace Cert.Proof.OutNorm

open Cert.OutNormIdeal Cert.OutNormIdeal.Gen
open Idealize.ShloMosaic Idealize.ShloMosaic.TcCoe
open Idealize.SL.Sem
open Idealize.ShloMosaic.Pipeline (Dat Cfg Window BodyObligation cellOf)
open Cert.Proof.Rows (row mixture normed ext2 ext3)

variable (m : (ℓ : Loc nD τ sig) → Buf (Elt Ideal) ℓ) (c : Dev nD)

theorem index_0 : ∀ t, win0_0.index t = ![(grid0.coords t 0).val, (grid0.coords t 1).val, 0] := by decide +kernel
theorem index_1 : ∀ t, win0_1.index t = ![1, 0, 0] := by decide +kernel
theorem index_2 : ∀ t, win0_2.index t = ![(grid0.coords t 0).val, (grid0.coords t 1).val, 0] := by decide +kernel
theorem index_3 : ∀ t, win0_3.index t = ![0, 0] := by decide +kernel
theorem index_4 : ∀ t, win0_4.index t = ![0, 0] := by decide +kernel
theorem index_5 : ∀ t, win0_5.index t = ![(grid0.coords t 0).val, (grid0.coords t 1).val, 0] := by decide +kernel

/-- The last row of a table of four, as the call finds it. -/
theorem last_apply (g : FVec Ideal S4x1024 .f32) (j : S1x1024.Idx) (n : Fin 1024) (h : (j 1).val = n.val) :
    broadcastInDim S1x1024 ![1] bcast_S1024_S1x1024_1
      (shapeCast S1024 (extractStridedSlice S1x1024 ![3, 0] g slices_S4x1024_S1x1024_3_0) shapeCasts_S1x1024_S1024) j = g (ix2 3 n) := by
  obtain rfl : j = ix2 0 n := ext2 (Nat.lt_one_iff.mp (j 0).isLt) h
  pointwise

/-- The mixed heads that a point stages. -/
theorem mixed_apply (t : Fin cfg0.N) (r : Fin 1024) (k : Fin 2048) (b : Fin 8) (i : Fin 4096)
    (hb : (grid0.coords t 0).val = b.val) (hi : (grid0.coords t 1).val * 1024 + r.val = i.val) :
    iblk m c 0 t (ix3 0 r k : S1x1024x2048.Idx) = m ((c : Thread nD τ).loc main_arg0) (ix3 b i k) := by
  unfold iblk
  blk_simp [index_0]
  refine (congrFun (V_main_arg0 m c) _).trans ?_
  refine congrArg (m ((c : Thread nD τ).loc main_arg0)) (ext3 ?_ ?_ ?_)
  · blk_simp [index_0]
    exact hb
  · blk_simp [index_0]
    exact hi
  · blk_simp [index_0]

/-- The weights that a point stages: the last layer's. -/
theorem weights_apply (t : Fin cfg0.N) (k : Fin 2048) (n : Fin 1024) :
    iblk m c 1 t (ix3 0 k n : S1x2048x1024.Idx) = m ((c : Thread nD τ).loc main_arg1) (ix3 1 k n) := by
  have e : V m c main_v0 = m ((c : Thread nD τ).loc main_arg1) := by
    show StableHlo.after hostOps0 (fun b => m (c, b)) (Proc.devRef .tc main_v0) = _
    after_results <;> rfl
  unfold iblk
  blk_simp [index_1]
  refine (congrFun e _).trans ?_
  refine congrArg (m ((c : Thread nD τ).loc main_arg1)) (ext3 ?_ ?_ ?_)
  · blk_simp [index_1]
    rfl
  · blk_simp [index_1]
  · blk_simp [index_1]

/-- The layer's input that a point stages. -/
theorem input_apply (t : Fin cfg0.N) (r : Fin 1024) (n : Fin 1024) (b : Fin 8) (i : Fin 4096)
    (hb : (grid0.coords t 0).val = b.val) (hi : (grid0.coords t 1).val * 1024 + r.val = i.val) :
    iblk m c 2 t (ix3 0 r n : S1x1024x1024.Idx) = m ((c : Thread nD τ).loc main_arg2) (ix3 b i n) := by
  unfold iblk
  blk_simp [index_2]
  refine (congrFun (V_main_arg2 m c) _).trans ?_
  refine congrArg (m ((c : Thread nD τ).loc main_arg2)) (ext3 ?_ ?_ ?_)
  · blk_simp [index_2]
    exact hb
  · blk_simp [index_2]
    exact hi
  · blk_simp [index_2]

/-- The norm's scales that a point stages: the last layer's. -/
theorem scales_apply (t : Fin cfg0.N) (n : Fin 1024) :
    iblk m c 3 t (ix2 0 n : S1x1024.Idx) = m ((c : Thread nD τ).loc main_arg3) (ix2 3 n) := by
  have e : V m c main_v3 = broadcastInDim S1x1024 ![1] bcast_S1024_S1x1024_1 (shapeCast S1024 (extractStridedSlice S1x1024 ![3, 0]
      (m ((c : Thread nD τ).loc main_arg3)) slices_S4x1024_S1x1024_3_0) shapeCasts_S1x1024_S1024) := by
    show StableHlo.after hostOps0 (fun b => m (c, b)) (Proc.devRef .tc main_v3) = _
    after_results <;> rfl
  unfold iblk
  blk_simp [index_3]
  refine (congrFun e _).trans (last_apply _ _ n ?_)
  blk_simp [index_3]

/-- The norm's shifts that a point stages: the last layer's. -/
theorem shifts_apply (t : Fin cfg0.N) (n : Fin 1024) :
    iblk m c 4 t (ix2 0 n : S1x1024.Idx) = m ((c : Thread nD τ).loc main_arg4) (ix2 3 n) := by
  have e : V m c main_v6 = broadcastInDim S1x1024 ![1] bcast_S1024_S1x1024_1 (shapeCast S1024 (extractStridedSlice S1x1024 ![3, 0]
      (m ((c : Thread nD τ).loc main_arg4)) slices_S4x1024_S1x1024_3_0) shapeCasts_S1x1024_S1024) := by
    show StableHlo.after hostOps0 (fun b => m (c, b)) (Proc.devRef .tc main_v6) = _
    after_results <;> rfl
  unfold iblk
  blk_simp [index_4]
  refine (congrFun e _).trans (last_apply _ _ n ?_)
  blk_simp [index_4]

/-- The result array: the layer norm of the residual sum of the entry's row. -/
theorem result_apply (b : Fin 8) (i : Fin 4096) (n : Fin 1024) :
    (dats m 0 c).arrAt 5 cfg0.N (ix3 b i n : S8x4096x1024.Idx)
      = normed (row (m ((c : Thread nD τ).loc main_arg0)) (m ((c : Thread nD τ).loc main_arg1)) (m ((c : Thread nD τ).loc main_arg2)) b i)
          (fun n => m ((c : Thread nD τ).loc main_arg3) (ix2 3 n)) (fun n => m ((c : Thread nD τ).loc main_arg4) (ix2 3 n)) n := by
  have P := (dats m 0 c).arrAt_forall_of_covers 5
    (fun (y : S8x4096x1024.Idx) (v : EReal) => ∀ b i n, y = ix3 b i n → v
      = normed (row (m ((c : Thread nD τ).loc main_arg0)) (m ((c : Thread nD τ).loc main_arg1)) (m ((c : Thread nD τ).loc main_arg2)) b i)
          (fun n => m ((c : Thread nD τ).loc main_arg3) (ix2 3 n)) (fun n => m ((c : Thread nD τ).loc main_arg4) (ix2 3 n)) n)
    (by decide +kernel) (fun t hf y b i n e => ?_) (ix3 b i n)
  · exact P b i n rfl
  · have e0 : (grid0.coords t 0).val = b.val := by
      have e := congrArg (fun x : S8x4096x1024.Idx => (x 0).val) e
      blk_simp [index_5] at e
      exact e
    have e1 : (grid0.coords t 1).val * 1024 + (y 1).val = i.val := by
      have e := congrArg (fun x : S8x4096x1024.Idx => (x 1).val) e
      blk_simp [index_5] at e
      exact e
    have e2 : (y 2).val = n.val := by
      have e := congrArg (fun x : S8x4096x1024.Idx => (x 2).val) e
      blk_simp [index_5] at e
      exact e
    blk_simp
    rw [after0_5]
    refine (block_apply _ _ _ _ _ _).trans ?_
    refine normed_congr (fun k => ?_) (fun k => Finset.sum_congr rfl fun j _ => congrArg₂ (· * ·) ?_ ?_)
      (fun k => ?_) (fun k => ?_) (Fin.ext e2)
    · exact input_apply m c t _ k b i e0 e1
    · exact mixed_apply m c t _ j b i e0 e1
    · exact weights_apply m c t j k
    · exact scales_apply m c t k
    · exact shifts_apply m c t k

/-- The call computes its reference. -/
theorem algebraic : Cert.algebraic_OutNormIdeal_NormedIdeal := by
  intro m ρ m' ρ' _ hagree
  refine ⟨_, Value.run_blocks m ρ, ?_⟩
  refine (θ_run Cert.NormedIdeal.defs _ _).mono (fun _ h c => ⟨(h c).1.trans ?_, (h c).2⟩)
    (Cert.NormedIdeal.Value.run (F := Ideal) m' ρ')
  obtain ⟨e0, e1, e2, e3, e4⟩ := hagree c
  rw [Cert.NormedIdeal.Read.val_main_v34_eq, e0, e1, e2, e3, e4]
  funext y
  obtain ⟨b, i, n, rfl⟩ : ∃ b i n, y = ix3 b i n := ⟨y 0, y 1, y 2, ext3 rfl rfl rfl⟩
  exact (Rows.reference_apply _ _ _ _ _ b i n).trans (result_apply m c b i n).symm

/-- The reference runs to its end with its arguments unchanged. -/
theorem frame_reference : Cert.quiescent_NormedIdeal := fun m ρ _ =>
  (θ_run Cert.NormedIdeal.defs _ _).mono (fun r h => ⟨fun c => (h c).2, sem_eq_zero_of_no_sems (by decide) r.2⟩)
    (Cert.NormedIdeal.Value.run (F := Ideal) m ρ)

end Cert.Proof.OutNorm

end
-- ==== Proof.FoxRows.lean ====
/-
  The reference of the first layer's output projection, entry by entry: the layer norm (`Rows.normed`) of the residual sum of the
  entry's row (`reference_apply`).
-/
module

public import proofs.«01_k».proof.Proof.Gen.FoxNormedIdeal.Read
public import proofs.«01_k».proof.Proof.Rows

@[expose] public section

set_option maxRecDepth 16384

noncomputable section

namespace Cert.Proof.FoxRows

open Idealize.ShloMosaic
open Cert.FoxNormedIdeal Cert.FoxNormedIdeal.Gen Cert.FoxNormedIdeal.Read
open Cert.Proof.Rows (mixture average centred normed zero_bits ext2 ext3)

variable (x0 : FVec Ideal S8x4096x2048 .bf16) (x1 : FVec Ideal S2x2048x1024 .f32) (x2 : FVec Ideal S8x4096x1024 .f32)
  (x3 x4 : FVec Ideal S4x1024 .f32)

/-- The branch's output at a row: the mixed heads times the first layer's weights. -/
def branch (b : Fin 8) (i : Fin 4096) (n : Fin 1024) : EReal := ∑ k : Fin 2048, x0 (ix3 b i k) * x1 (ix3 0 k n)

/-- The residual sum at a row. -/
def row (b : Fin 8) (i : Fin 4096) : Fin 1024 → EReal := mixture (fun n => x2 (ix3 b i n)) (branch x0 x1 b i)

theorem branch_apply (b : Fin 8) (i : Fin 4096) (n : Fin 1024) :
    val_main_v3 (F := Ideal) x0 x1 (ix3 b i n) = branch x0 x1 b i n := by
  unfold branch val_main_v3 val_main_v0 val_main_v2 val_main_v1
  pointwise

theorem row_apply (b : Fin 8) (i : Fin 4096) (n : Fin 1024) :
    val_main_v6 (F := Ideal) x0 x1 x2 (ix3 b i n) = row x0 x1 x2 b i n := by
  rw [val_main_v6_apply, branch_apply]
  rfl

theorem average_apply (b : Fin 8) (i : Fin 4096) (j : S8x4096x1.Idx) (h0 : (j 0).val = b.val) (h1 : (j 1).val = i.val) :
    val_main_v10 (F := Ideal) x0 x1 x2 j = average (row x0 x1 x2 b i) := by
  rw [val_main_v10_apply]
  refine congrArg (fun z => Ideal.div z (Ideal.ofBits .f32 0x44800000#32)) ?_
  rw [val_main_v8_apply, val_main_v7_apply]
  refine (congrArg (· + _) zero_bits).trans ((zero_add _).trans (Finset.sum_congr rfl fun k _ => ?_))
  rw [← row_apply]
  exact congrArg _ (ext3 h0 h1 rfl)

theorem centred_apply (b : Fin 8) (i : Fin 4096) (n : Fin 1024) :
    val_main_v12 (F := Ideal) x0 x1 x2 (ix3 b i n) = centred (row x0 x1 x2 b i) n := by
  rw [val_main_v12_apply, row_apply, val_main_v11_apply, average_apply x0 x1 x2 b i _ rfl rfl]
  rfl

theorem spread_apply (b : Fin 8) (i : Fin 4096) (j : S8x4096x1.Idx) (h0 : (j 0).val = b.val) (h1 : (j 1).val = i.val) :
    val_main_v17 (F := Ideal) x0 x1 x2 j = average (fun k => centred (row x0 x1 x2 b i) k * centred (row x0 x1 x2 b i) k) := by
  rw [val_main_v17_apply]
  refine congrArg (fun z => Ideal.div z (Ideal.ofBits .f32 0x44800000#32)) ?_
  rw [val_main_v15_apply, val_main_v14_apply]
  refine (congrArg (· + _) zero_bits).trans ((zero_add _).trans (Finset.sum_congr rfl fun k _ => ?_))
  rw [val_main_v13_apply]
  have e : idx_main_v14 (idx_main_v15 j) k = (ix3 b i k : S8x4096x1024.Idx) := ext3 h0 h1 rfl
  rw [e, centred_apply]
  rfl

/-- The reference's entries: the layer norm of the residual sum of the entry's row. -/
theorem reference_apply (b : Fin 8) (i : Fin 4096) (n : Fin 1024) :
    val_main_v34 (F := Ideal) x0 x1 x2 x3 x4 (ix3 b i n)
      = normed (row x0 x1 x2 b i) (fun n => x3 (ix2 0 n)) (fun n => x4 (ix2 0 n)) n := by
  rw [val_main_v34_apply, val_main_v29_apply, val_main_v24_apply, val_main_v23_apply, val_main_v22_apply, val_main_v21_apply,
    spread_apply x0 x1 x2 b i _ rfl rfl]
  have e : val_main_v19 (F := Ideal) x0 x1 x2 (ix3 b i n) = centred (row x0 x1 x2 b i) n := centred_apply x0 x1 x2 b i n
  have g : val_main_v28 (F := Ideal) x3 (ix3 b i n) = x3 (ix2 0 n) := by
    rw [val_main_v28_apply, val_main_v27_apply, val_main_v26_apply, val_main_v25_apply]
    exact congrArg _ (ext2 rfl (Nat.mod_eq_of_lt n.isLt))
  have s : val_main_v33 (F := Ideal) x4 (ix3 b i n) = x4 (ix2 0 n) := by
    rw [val_main_v33_apply, val_main_v32_apply, val_main_v31_apply, val_main_v30_apply]
    exact congrArg _ (ext2 rfl (Nat.mod_eq_of_lt n.isLt))
  rw [e, g, s]
  rfl

end Cert.Proof.FoxRows

end
-- ==== Proof.FoxOutNormArray.lean ====
/-
  The output projection's call as the first layer launches it: its result array, entry by entry (`result_apply`), and the claims about it.
-/
module

public import proofs.«01_k».proof.Defs
public import proofs.«01_k».proof.Proof.OutNormTile
public import proofs.«01_k».proof.Proof.FoxRows
public import proofs.«01_k».proof.Proof.Gen.FoxOutNormIdeal.Value
public import proofs.«01_k».proof.Proof.Gen.FoxNormedIdeal.Run
public import Idealize.ShloMosaic.Lib.Quiescent

@[expose] public section

set_option maxRecDepth 16384

noncomputable section

namespace Cert.Proof.FoxOutNorm

open Cert.FoxOutNormIdeal Cert.FoxOutNormIdeal.Gen
open Idealize.ShloMosaic Idealize.ShloMosaic.TcCoe
open Idealize.SL.Sem
open Idealize.ShloMosaic.Pipeline (Dat Cfg Window BodyObligation cellOf)
open Cert.Proof.Rows (mixture normed ext2 ext3)
open Cert.Proof.FoxRows (row)
open Cert.Proof.OutNorm (normed_congr)

variable (m : (ℓ : Loc nD τ sig) → Buf (Elt Ideal) ℓ) (c : Dev nD)

theorem index_0 : ∀ t, win0_0.index t = ![(grid0.coords t 0).val, (grid0.coords t 1).val, 0] := by decide +kernel
theorem index_1 : ∀ t, win0_1.index t = ![0, 0, 0] := by decide +kernel
theorem index_2 : ∀ t, win0_2.index t = ![(grid0.coords t 0).val, (grid0.coords t 1).val, 0] := by decide +kernel
theorem index_3 : ∀ t, win0_3.index t = ![0, 0] := by decide +kernel
theorem index_4 : ∀ t, win0_4.index t = ![0, 0] := by decide +kernel
theorem index_5 : ∀ t, win0_5.index t = ![(grid0.coords t 0).val, (grid0.coords t 1).val, 0] := by decide +kernel

/-- The first row of a table of four, as the call finds it. -/
theorem first_apply (g : FVec Ideal S4x1024 .f32) (j : S1x1024.Idx) (n : Fin 1024) (h : (j 1).val = n.val) :
    broadcastInDim S1x1024 ![1] bcast_S1024_S1x1024_1
      (shapeCast S1024 (extractStridedSlice S1x1024 ![0, 0] g slices_S4x1024_S1x1024_0_0) shapeCasts_S1x1024_S1024) j = g (ix2 0 n) := by
  obtain rfl : j = ix2 0 n := ext2 (Nat.lt_one_iff.mp (j 0).isLt) h
  pointwise

/-- The mixed heads that a point stages. -/
theorem mixed_apply (t : Fin cfg0.N) (r : Fin 1024) (k : Fin 2048) (b : Fin 8) (i : Fin 4096)
    (hb : (grid0.coords t 0).val = b.val) (hi : (grid0.coords t 1).val * 1024 + r.val = i.val) :
    iblk m c 0 t (ix3 0 r k : S1x1024x2048.Idx) = m ((c : Thread nD τ).loc main_arg0) (ix3 b i k) := by
  unfold iblk
  blk_simp [index_0]
  refine (congrFun (V_main_arg0 m c) _).trans ?_
  refine congrArg (m ((c : Thread nD τ).loc main_arg0)) (ext3 ?_ ?_ ?_)
  · blk_simp [index_0]
    exact hb
  · blk_simp [index_0]
    exact hi
  · blk_simp [index_0]

/-- The weights that a point stages: the first layer's. -/
theorem weights_apply (t : Fin cfg0.N) (k : Fin 2048) (n : Fin 1024) :
    iblk m c 1 t (ix3 0 k n : S1x2048x1024.Idx) = m ((c : Thread nD τ).loc main_arg1) (ix3 0 k n) := by
  have e : V m c main_v0 = m ((c : Thread nD τ).loc main_arg1) := by
    show StableHlo.after hostOps0 (fun b => m (c, b)) (Proc.devRef .tc main_v0) = _
    after_results <;> rfl
  unfold iblk
  blk_simp [index_1]
  refine (congrFun e _).trans ?_
  refine congrArg (m ((c : Thread nD τ).loc main_arg1)) (ext3 ?_ ?_ ?_)
  · blk_simp [index_1]
    rfl
  · blk_simp [index_1]
  · blk_simp [index_1]

/-- The layer's input that a point stages. -/
theorem input_apply (t : Fin cfg0.N) (r : Fin 1024) (n : Fin 1024) (b : Fin 8) (i : Fin 4096)
    (hb : (grid0.coords t 0).val = b.val) (hi : (grid0.coords t 1).val * 1024 + r.val = i.val) :
    iblk m c 2 t (ix3 0 r n : S1x1024x1024.Idx) = m ((c : Thread nD τ).loc main_arg2) (ix3 b i n) := by
  unfold iblk
  blk_simp [index_2]
  refine (congrFun (V_main_arg2 m c) _).trans ?_
  refine congrArg (m ((c : Thread nD τ).loc main_arg2)) (ext3 ?_ ?_ ?_)
  · blk_simp [index_2]
    exact hb
  · blk_simp [index_2]
    exact hi
  · blk_simp [index_2]

/-- The norm's scales that a point stages: the first layer's. -/
theorem scales_apply (t : Fin cfg0.N) (n : Fin 1024) :
    iblk m c 3 t (ix2 0 n : S1x1024.Idx) = m ((c : Thread nD τ).loc main_arg3) (ix2 0 n) := by
  have e : V m c main_v3 = broadcastInDim S1x1024 ![1] bcast_S1024_S1x1024_1 (shapeCast S1024 (extractStridedSlice S1x1024 ![0, 0]
      (m ((c : Thread nD τ).loc main_arg3)) slices_S4x1024_S1x1024_0_0) shapeCasts_S1x1024_S1024) := by
    show StableHlo.after hostOps0 (fun b => m (c, b)) (Proc.devRef .tc main_v3) = _
    after_results <;> rfl
  unfold iblk
  blk_simp [index_3]
  refine (congrFun e _).trans (first_apply _ _ n ?_)
  blk_simp [index_3]

/-- The norm's shifts that a point stages: the first layer's. -/
theorem shifts_apply (t : Fin cfg0.N) (n : Fin 1024) :
    iblk m c 4 t (ix2 0 n : S1x1024.Idx) = m ((c : Thread nD τ).loc main_arg4) (ix2 0 n) := by
  have e : V m c main_v6 = broadcastInDim S1x1024 ![1] bcast_S1024_S1x1024_1 (shapeCast S1024 (extractStridedSlice S1x1024 ![0, 0]
      (m ((c : Thread nD τ).loc main_arg4)) slices_S4x1024_S1x1024_0_0) shapeCasts_S1x1024_S1024) := by
    show StableHlo.after hostOps0 (fun b => m (c, b)) (Proc.devRef .tc main_v6) = _
    after_results <;> rfl
  unfold iblk
  blk_simp [index_4]
  refine (congrFun e _).trans (first_apply _ _ n ?_)
  blk_simp [index_4]

/-- The result array: the layer norm of the residual sum of the entry's row. -/
theorem result_apply (b : Fin 8) (i : Fin 4096) (n : Fin 1024) :
    (dats m 0 c).arrAt 5 cfg0.N (ix3 b i n : S8x4096x1024.Idx)
      = normed (row (m ((c : Thread nD τ).loc main_arg0)) (m ((c : Thread nD τ).loc main_arg1)) (m ((c : Thread nD τ).loc main_arg2)) b i)
          (fun n => m ((c : Thread nD τ).loc main_arg3) (ix2 0 n)) (fun n => m ((c : Thread nD τ).loc main_arg4) (ix2 0 n)) n := by
  have P := (dats m 0 c).arrAt_forall_of_covers 5
    (fun (y : S8x4096x1024.Idx) (v : EReal) => ∀ b i n, y = ix3 b i n → v
      = normed (row (m ((c : Thread nD τ).loc main_arg0)) (m ((c : Thread nD τ).loc main_arg1)) (m ((c : Thread nD τ).loc main_arg2)) b i)
          (fun n => m ((c : Thread nD τ).loc main_arg3) (ix2 0 n)) (fun n => m ((c : Thread nD τ).loc main_arg4) (ix2 0 n)) n)
    (by decide +kernel) (fun t hf y b i n e => ?_) (ix3 b i n)
  · exact P b i n rfl
  · have e0 : (grid0.coords t 0).val = b.val := by
      have e := congrArg (fun x : S8x4096x1024.Idx => (x 0).val) e
      blk_simp [index_5] at e
      exact e
    have e1 : (grid0.coords t 1).val * 1024 + (y 1).val = i.val := by
      have e := congrArg (fun x : S8x4096x1024.Idx => (x 1).val) e
      blk_simp [index_5] at e
      exact e
    have e2 : (y 2).val = n.val := by
      have e := congrArg (fun x : S8x4096x1024.Idx => (x 2).val) e
      blk_simp [index_5] at e
      exact e
    blk_simp
    rw [after0_5]
    refine (OutNorm.block_apply _ _ _ _ _ _).trans ?_
    refine normed_congr (fun k => ?_) (fun k => Finset.sum_congr rfl fun j _ => congrArg₂ (· * ·) ?_ ?_)
      (fun k => ?_) (fun k => ?_) (Fin.ext e2)
    · exact input_apply m c t _ k b i e0 e1
    · exact mixed_apply m c t _ j b i e0 e1
    · exact weights_apply m c t j k
    · exact scales_apply m c t k
    · exact shifts_apply m c t k

/-- The call computes its reference. -/
theorem algebraic : Cert.algebraic_FoxOutNormIdeal_FoxNormedIdeal := by
  intro m ρ m' ρ' _ hagree
  refine ⟨_, Value.run_blocks m ρ, ?_⟩
  refine (θ_run Cert.FoxNormedIdeal.defs _ _).mono (fun _ h c => ⟨(h c).1.trans ?_, (h c).2⟩)
    (Cert.FoxNormedIdeal.Value.run (F := Ideal) m' ρ')
  obtain ⟨e0, e1, e2, e3, e4⟩ := hagree c
  rw [Cert.FoxNormedIdeal.Read.val_main_v34_eq, e0, e1, e2, e3, e4]
  funext y
  obtain ⟨b, i, n, rfl⟩ : ∃ b i n, y = ix3 b i n := ⟨y 0, y 1, y 2, ext3 rfl rfl rfl⟩
  exact (FoxRows.reference_apply _ _ _ _ _ b i n).trans (result_apply m c b i n).symm

/-- The reference runs to its end with its arguments unchanged. -/
theorem frame_reference : Cert.quiescent_FoxNormedIdeal := fun m ρ _ =>
  (θ_run Cert.FoxNormedIdeal.defs _ _).mono (fun r h => ⟨fun c => (h c).2, sem_eq_zero_of_no_sems (by decide) r.2⟩)
    (Cert.FoxNormedIdeal.Value.run (F := Ideal) m ρ)

end Cert.Proof.FoxOutNorm

end
-- ==== Proof.SbMixIdealRun.lean ====
/-
  What one grid point of the stick-breaking attention kernel leaves, and the frame of the whole call, for the program
  `SbMixIdeal`.

  The kernel's body is run once (`run`). It stores sixteen 256-row pieces, and then, for each of the last fourteen tiles
  whose computed test says that the earlier keys matter, the tile's piece again: `run` yields what is held at the end as a
  function of what was held before. `outAt` is that content, read; the proof data `dats` hand it to the pipeline library,
  which gives the run of the whole call (`run_main`) and its frame.
-/
module

public import proofs.«01_k».proof.Proof.Gen.SbMixIdeal.Frame
public import Idealize.ShloMosaic.Lib.Tactic

@[expose] public section

set_option maxRecDepth 16384

noncomputable section

namespace Cert.Proof.SbMixIdeal

open Cert.SbMixIdeal Cert.SbMixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Memref `M`'s buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

section Body

variable (c : Dev nD) (i : grid0.Coords)
  (a2 : Memref sig .tc .vmem S1x1x1x4096x128 .bf16) (h2 : a2.IsWhole)
  (a3 : Memref sig .tc .vmem S1x1x1x4096x128 .bf16) (h3 : a3.IsWhole)
  (a4 : Memref sig .tc .vmem S1x1x1x4096x128 .bf16) (h4 : a4.IsWhole)
  (a5 : Memref sig .tc .vmem S1x1x1x4096x128 .bf16) (h5 : a5.IsWhole)
  (a6 : Memref sig .tc .vmem S256x256 .bf16) (h6 : a6.IsWhole)
  (a7 : Memref sig .tc .vmem S1x4096x128 .bf16) (h7 : a7.IsWhole)
  (a8 : Memref sig .tc .vmem S4096x128 .f32) (h8 : a8.IsWhole)
  (a9 : Memref sig .tc .vmem S4096x1 .f32) (h9 : a9.IsWhole)
  (x2 x3 x4 x5 : Vec F S1x1x1x4096x128 .bf16) (x6 : Vec F S256x256 .bf16)

/-- From the buffers of one grid point — queries, keys, values, gates and the triangle of ones at `x2 … x6`, result and
    scratches at anything — the body runs to its end, leaves the inputs as they were, and the result's buffer at `G` of
    what it held. -/
def BodyRuns (G : Buf (Elt F) (a7.view.loc (c : Thread nD τ)) → Buf (Elt F) (a7.view.loc (c : Thread nD τ))) : Prop :=
  ∀ (f7 : Buf (Elt F) (a7.view.loc (c : Thread nD τ))) (f8 : Buf (Elt F) (a8.view.loc (c : Thread nD τ)))
    (f9 : Buf (Elt F) (a9.view.loc (c : Thread nD τ))) (E : Set ℕ) (Q : PUnit → sProp 𝕄),
    iprop(pt c a2 (h2.unread x2) ∗ pt c a3 (h3.unread x3) ∗ pt c a4 (h4.unread x4) ∗ pt c a5 (h5.unread x5)
      ∗ pt c a6 (h6.unread x6) ∗ pt c a7 f7 ∗ pt c a8 f8 ∗ pt c a9 f9
      ∗ (iprop(pt c a2 (h2.unread x2) ∗ pt c a3 (h3.unread x3) ∗ pt c a4 (h4.unread x4) ∗ pt c a5 (h5.unread x5)
          ∗ pt c a6 (h6.unread x6) ∗ pt c a7 (G f7) ∗ (∃ f, pt c a8 f) ∗ (∃ f, pt c a9 f)) -∗ Q ⟨⟩))
    ⊢ wp frame (wpE (defs₀ (F := F)) Variants.none c none) E
        (cc0_sb_mixer i a2 h2 a3 h3 a4 h4 a5 h5 a6 h6 a7 h7 a8 h8 a9 h9) Q

set_option maxHeartbeats 4000000 in
/-- The run: what the result's buffer holds after it, and the proof that the body leaves that. -/
def run :
    { G : Buf (Elt F) (a7.view.loc (c : Thread nD τ)) → Buf (Elt F) (a7.view.loc (c : Thread nD τ)) //
      BodyRuns c i a2 h2 a3 h3 a4 h4 a5 h5 a6 h6 a7 h7 a8 h8 a9 h9 x2 x3 x4 x5 x6 G } := by
  refine ⟨?G, fun f7 f8 f9 E Q => ?run⟩
  case run =>
    iintro ⟨H2, H3, H4, H5, H6, H7, H8, H9, Hk⟩
    sl_unfold [cc0_sb_mixer]
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

end Body

end Cert.Proof.SbMixIdeal

end
-- ==== Proof.SbMixIdealHeld.lean ====
/-
  What the result's buffer holds after the body of the stick-breaking attention kernel, as a list of pieces written over
  what it held (`run_held`), and that the pieces tile it.
-/
module

public import proofs.«01_k».proof.Proof.SbMixIdealRun
import all proofs.«01_k».proof.Proof.SbMixIdealRun

@[expose] public section

set_option maxRecDepth 16384

noncomputable section

namespace Cert.Proof.SbMixIdeal

open Cert.SbMixIdeal Cert.SbMixIdeal.Gen
open Idealize.ShloMosaic Idealize.ShloMosaic.TcCoe Idealize.ShloMosaic.Tactic
open Idealize.SL.Sem

variable {F : FTy → Type} [FloatOps F]

section Body

variable (c : Dev nD) (i : grid0.Coords)
  (a2 : Memref sig .tc .vmem S1x1x1x4096x128 .bf16) (h2 : a2.IsWhole)
  (a3 : Memref sig .tc .vmem S1x1x1x4096x128 .bf16) (h3 : a3.IsWhole)
  (a4 : Memref sig .tc .vmem S1x1x1x4096x128 .bf16) (h4 : a4.IsWhole)
  (a5 : Memref sig .tc .vmem S1x1x1x4096x128 .bf16) (h5 : a5.IsWhole)
  (a6 : Memref sig .tc .vmem S256x256 .bf16) (h6 : a6.IsWhole)
  (a7 : Memref sig .tc .vmem S1x4096x128 .bf16) (h7 : a7.IsWhole)
  (a8 : Memref sig .tc .vmem S4096x128 .f32) (h8 : a8.IsWhole)
  (a9 : Memref sig .tc .vmem S4096x1 .f32) (h9 : a9.IsWhole)
  (x2 x3 x4 x5 : Vec F S1x1x1x4096x128 .bf16) (x6 : Vec F S256x256 .bf16)

/-- `G` writes some pieces over what was held, and they tile the buffer. -/
def Held (G : Buf (Elt F) (a7.view.loc (c : Thread nD τ)) → Buf (Elt F) (a7.view.loc (c : Thread nD τ))) : Prop :=
  ∃ L : List (View.Piece (Elt F) S1x4096x128 .bf16), (∀ y : S1x4096x128.Idx, ∃ p ∈ L, y ∈ p.1.set) ∧ ∀ f, G f = a7.view.writes (Elt F) f L

/-- Pieces that tile the buffer, -/
theorem Held.base (L : List (View.Piece (Elt F) S1x4096x128 .bf16)) (h : ∀ y : S1x4096x128.Idx, ∃ p ∈ L, y ∈ p.1.set) :
    Held c a7 (fun f => a7.view.writes (Elt F) f L) := ⟨L, h, fun _ => rfl⟩

variable {c a7} in
/-- and one more piece, if a test succeeds. -/
theorem Held.step {B : Buf (Elt F) (a7.view.loc (c : Thread nD τ)) → Buf (Elt F) (a7.view.loc (c : Thread nD τ))} (h : Held c a7 B)
    (b : Prop) [Decidable b] (p : View.Piece (Elt F) S1x4096x128 .bf16) :
    Held c a7 (fun f => if _ : b then a7.view.writes (Elt F) (B f) [p] else B f) := by
  obtain ⟨L, hL, hB⟩ := h
  by_cases hb : b
  · refine ⟨p :: L, fun y => ?_, fun f => ?_⟩
    · obtain ⟨q, hq, hy⟩ := hL y
      exact ⟨q, List.mem_cons_of_mem _ hq, hy⟩
    · show (if _ : b then a7.view.writes (Elt F) (B f) [p] else B f) = _
      rw [dif_pos hb, hB]; rfl
  · exact ⟨L, hL, fun f => (dif_neg hb).trans (hB f)⟩

variable [Named F]

set_option maxHeartbeats 4000000 in
/-- The body writes pieces that tile the result's buffer. -/
theorem run_held : Held c a7 (run c i a2 h2 a3 h3 a4 h4 a5 h5 a6 h6 a7 h7 a8 h8 a9 h9 x2 x3 x4 x5 x6).1 := by
  refine Held.step (F := F) (c := c) (a7 := a7) ?_ _ _
  refine Held.step (F := F) (c := c) (a7 := a7) ?_ _ _
  refine Held.step (F := F) (c := c) (a7 := a7) ?_ _ _
  refine Held.step (F := F) (c := c) (a7 := a7) ?_ _ _
  refine Held.step (F := F) (c := c) (a7 := a7) ?_ _ _
  refine Held.step (F := F) (c := c) (a7 := a7) ?_ _ _
  refine Held.step (F := F) (c := c) (a7 := a7) ?_ _ _
  refine Held.step (F := F) (c := c) (a7 := a7) ?_ _ _
  refine Held.step (F := F) (c := c) (a7 := a7) ?_ _ _
  refine Held.step (F := F) (c := c) (a7 := a7) ?_ _ _
  refine Held.step (F := F) (c := c) (a7 := a7) ?_ _ _
  refine Held.step (F := F) (c := c) (a7 := a7) ?_ _ _
  refine Held.step (F := F) (c := c) (a7 := a7) ?_ _ _
  refine Held.step (F := F) (c := c) (a7 := a7) ?_ _ _
  refine Held.base (F := F) c a7 (_ :: _) ?_
  exact View.cover_of_tiledL _ S1x256x128.size (by sl_kernel_rfl)

end Body

end Cert.Proof.SbMixIdeal

end
-- ==== Proof.SbMixIdealFrame.lean ====
/-
  The stick-breaking attention kernel's whole call, for the program `SbMixIdeal`: what each grid point leaves (`outAt`), the
  proof data handed to the pipeline library (`dats`), the run of the call (`run_main`) and its frame.
-/
module

public import proofs.«01_k».proof.Proof.SbMixIdealHeld

@[expose] public section

set_option maxRecDepth 16384

noncomputable section

namespace Cert.Proof.SbMixIdeal

open Cert.SbMixIdeal Cert.SbMixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pieces the body writes at grid point `t`, -/
def pieces (c : Dev nD) (t : Fin cfg0.N) : List (View.Piece (Elt F) S1x4096x128 .bf16) :=
  (run_held c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _)
    (Memref.whole cc0_scratch1) (Memref.isWhole_whole _) (iblk m c 0 t) (iblk m c 1 t) (iblk m c 2 t) (iblk m c 3 t) (iblk m c 4 t)).choose

/-- which tile the result's block, -/
theorem pieces_cover (c : Dev nD) (t : Fin cfg0.N) (y : S1x4096x128.Idx) : ∃ p ∈ pieces m c t, y ∈ p.1.set :=
  (run_held c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _)
    (Memref.whole cc0_scratch1) (Memref.isWhole_whole _) (iblk m c 0 t) (iblk m c 1 t) (iblk m c 2 t) (iblk m c 3 t) (iblk m c 4 t)).choose_spec.1 y

/-- and are what it leaves. -/
theorem pieces_run (c : Dev nD) (t : Fin cfg0.N) (f : Buf (Elt F) ((st0_5 t).view.loc (c : Thread nD τ))) :
    (run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _)
    (Memref.whole cc0_scratch1) (Memref.isWhole_whole _) (iblk m c 0 t) (iblk m c 1 t) (iblk m c 2 t) (iblk m c 3 t) (iblk m c 4 t)).1 f = (st0_5 t).view.writes (Elt F) f (pieces m c t) :=
  (run_held c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _)
    (Memref.whole cc0_scratch1) (Memref.isWhole_whole _) (iblk m c 0 t) (iblk m c 1 t) (iblk m c 2 t) (iblk m c 3 t) (iblk m c 4 t)).choose_spec.2 f

/-- What the result's staging buffer holds after grid point `t`. -/
def outAt (c : Dev nD) (t : Fin cfg0.N) : Vec F S1x4096x128 .bf16 := View.canon (pieces m c t)

/-- It is what reads in what the body leaves, whatever was there. -/
theorem read_run (c : Dev nD) (t : Fin cfg0.N) (f : Buf (Elt F) ((st0_5 t).view.loc (c : Thread nD τ))) :
    (st0_5 t).view.read (Elt F) ((run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _)
    (Memref.whole cc0_scratch1) (Memref.isWhole_whole _) (iblk m c 0 t) (iblk m c 1 t) (iblk m c 2 t) (iblk m c 3 t) (iblk m c 4 t)).1 f) = outAt m c t := by
  rw [pieces_run]; exact View.read_writes_eq_canon _ _ _ (pieces_cover m c t)

/-- The pipeline's proof data on core `c`: the arrays as launched, each input's buffer left at its block, the result's at
    `outAt`, the scratches at anything, nothing owed; the array that four windows read is shared among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- A whole buffer owned at what reads as `X` is that buffer held at the contents `X` names, -/
theorem owns_elim (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns
  rw [h.set_eq_univ]
  iintro ⟨%f, %hf, H⟩
  rw [h.eq_unread hf]; iexact H

/-- and conversely, at any contents that read as `X`. -/
theorem owns_intro (c : Dev nD) {sp : Space} {S : Shape} {e : EltTy} (M : Memref sig .tc sp S e) (h : M.IsWhole) (X : S.Idx → Elt F e)
    (f : Buf (Elt F) (M.view.loc (c : Thread nD τ))) (hf : M.view.read (Elt F) f = X) :
    pt c M f ⊢ (owns (c : Thread nD τ) M fullShare X : sProp 𝕄) := by
  unfold owns
  rw [h.set_eq_univ]
  iintro H
  iexists f; isplitr; swap; · iexact H
  ipureintro; exact hf

/-- The body at point `t` takes what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl]
  rw [after_0, after_1, after_2, after_3, after_4, after_5]
  unfold Pipeline.ΦA Dat.owesAt Pipeline.owesWithin; rw [scopedRest0_eq]
  rw [show (dats m 0 c).owed t.castSucc = 0 from rfl, show (dats m 0 c).owed t.succ = 0 from rfl]
  simp only [before0_0_of m (dats m 0 c) rfl (after_0 m c), before0_1_of m (dats m 0 c) rfl (after_1 m c),
    before0_2_of m (dats m 0 c) rfl (after_2 m c), before0_3_of m (dats m 0 c) rfl (after_3 m c),
    before0_4_of m (dats m 0 c) rfl (after_4 m c)]
  iintro ⟨⟨⟨⟨%f8, H8⟩, ⟨%f9, H9⟩⟩, Hg⟩, ⟨%W, -, HW⟩, ⟨%d0, H0⟩, ⟨%d1, H1⟩, ⟨%d2, H2⟩, ⟨%d3, H3⟩, ⟨%d4, H4⟩, ⟨%d5, H5⟩⟩
  ihave H0 := (owns_elim c (st0_0 t) (hstage0_0 ((cfg0.slots t 0).cast nbuf0_0)) (iblk m c 0 t)) $$ H0
  ihave H1 := (owns_elim c (st0_1 t) (hstage0_1 ((cfg0.slots t 1).cast nbuf0_1)) (iblk m c 1 t)) $$ H1
  ihave H2 := (owns_elim c (st0_2 t) (hstage0_2 ((cfg0.slots t 2).cast nbuf0_2)) (iblk m c 2 t)) $$ H2
  ihave H3 := (owns_elim c (st0_3 t) (hstage0_3 ((cfg0.slots t 3).cast nbuf0_3)) (iblk m c 3 t)) $$ H3
  ihave H4 := (owns_elim c (st0_4 t) (hstage0_4 ((cfg0.slots t 4).cast nbuf0_4)) (iblk m c 4 t)) $$ H4
  ihave H5 := (owns_elim c (st0_5 t) (hstage0_5 ((cfg0.slots t 5).cast nbuf0_5)) ((dats m 0 c).before 5 t d5)) $$ H5
  iapply ((run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _)
    (Memref.whole cc0_scratch1) (Memref.isWhole_whole _) (iblk m c 0 t) (iblk m c 1 t) (iblk m c 2 t) (iblk m c 3 t) (iblk m c 4 t)).2 _ f8 f9)
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  isplitl [H8 H9 Hg]
  · isplitl [H8 H9]
    · isplitl [H8]; · iexact H8
      iexact H9
    iexact Hg
  isplitl [HW]
  · iexists W; isplitr; · ipureintro; exact fun _ _ => Or.inl trivial
    iexact HW
  isplitl [H0]; · iapply (owns_intro c (st0_0 t) (hstage0_0 ((cfg0.slots t 0).cast nbuf0_0)) (iblk m c 0 t) _ (Memref.IsWhole.read_unread _ _)); iexact H0
  isplitl [H1]; · iapply (owns_intro c (st0_1 t) (hstage0_1 ((cfg0.slots t 1).cast nbuf0_1)) (iblk m c 1 t) _ (Memref.IsWhole.read_unread _ _)); iexact H1
  isplitl [H2]; · iapply (owns_intro c (st0_2 t) (hstage0_2 ((cfg0.slots t 2).cast nbuf0_2)) (iblk m c 2 t) _ (Memref.IsWhole.read_unread _ _)); iexact H2
  isplitl [H3]; · iapply (owns_intro c (st0_3 t) (hstage0_3 ((cfg0.slots t 3).cast nbuf0_3)) (iblk m c 3 t) _ (Memref.IsWhole.read_unread _ _)); iexact H3
  isplitl [H4]; · iapply (owns_intro c (st0_4 t) (hstage0_4 ((cfg0.slots t 4).cast nbuf0_4)) (iblk m c 4 t) _ (Memref.IsWhole.read_unread _ _)); iexact H4
  iapply (owns_intro c (st0_5 t) (hstage0_5 ((cfg0.slots t 5).cast nbuf0_5)) (outAt m c t) _ (read_run m c t _))
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole call runs to its end without fault; the arrays then hold what the proof data compute, and every semaphore
    counter is zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the whole call runs to its end without fault, its argument array ends unchanged, and every semaphore
    counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
      ((h.1 c).1 0).trans (((dats m 0 c).arrAt_in 0 rfl _).trans ((A_eq m c 0).trans (V_main_arg0 m c))), h.2⟩) (run_main m ρ)

end Cert.Proof.SbMixIdeal

end
-- ==== Proof.SbMixIdealTile.lean ====
/-
  What the body of the stick-breaking attention kernel stores. `diagonal` is the diagonal block of keys, `further` one
  earlier block, `near` the two of a query tile, `far` the blocks before those. `run_stored` says that the body writes the
  near pieces and then, tile by tile, the far piece of each tile that passes its test.
-/
module

public import proofs.«01_k».proof.Proof.SbMixIdealRun
public import Idealize.ShloMosaic.Lib.MatmulPlain
import all proofs.«01_k».proof.Proof.SbMixIdealRun

@[expose] public section

set_option maxRecDepth 16384

noncomputable section

namespace Cert.Proof.SbMixIdeal

open Cert.SbMixIdeal Cert.SbMixIdeal.Gen
open Idealize.ShloMosaic Idealize.ShloMosaic.TcCoe
open Idealize.SL.Sem

variable {F : FTy → Type} [FloatOps F] [Named F]

/-- A matrix shape. -/
abbrev Mat (a b : ℕ) : Shape := ⟨2, ![a, b]⟩

/-- A tile's logits, in bits, against `n` blocks of keys. -/
def logits (n : ℕ) (q : FVec F S256x128 .bf16) (k : FVec F (Mat (256 * n) 128) .bf16) : FVec F (Mat 256 (256 * n)) .f32 :=
  matmul (DotDims.transposedRhs 256 128 (256 * n)) none q k (constant (Mat 256 (256 * n)) .f32 0x00000000#32)

/-- The bits of the stick spent at each key that lies before the query. -/
def spent (n : ℕ) (z : FVec F (Mat 256 (256 * n)) .f32) : FVec F (Mat 256 (256 * n)) .f32 :=
  addf (maximumf z (broadcast (Mat 256 (256 * n)) (Scalar.ofBits .f32 0x00000000#32)))
    (mulf (log (addf (broadcast (Mat 256 (256 * n)) (Scalar.ofBits .f32 0x3F800000#32))
        (exp2 (subf (broadcast (Mat 256 (256 * n)) (Scalar.ofBits .f32 0x00000000#32)) (absf z)))))
      (broadcast (Mat 256 (256 * n)) (Named.named κ "perln2" 0x3FB8AA3B#32)))

/-- Block `b` of `n` blocks. -/
def cut (n b : ℕ) (h : b < n) (x : FVec F (Mat 256 (256 * n)) .f32) : FVec F S256x256 .f32 :=
  extractStridedSlice S256x256 ![0, 256 * b] x ⟨rfl, fun a => by
    match a with
    | ⟨0, _⟩ => exact Nat.le_refl _
    | ⟨1, _⟩ => exact (show 256 * b + 256 ≤ 256 * n by omega)⟩

/-- Block `b` of `n` blocks; of a single one, all of it. -/
def part : (n b : ℕ) → b < n → FVec F (Mat 256 (256 * n)) .f32 → FVec F S256x256 .f32
  | 0, _, h, _ => absurd h (Nat.not_lt_zero _)
  | 1, _, _, x => x
  | n + 2, b, h, x => cut (n + 2) b h x

/-- Which keys of the diagonal block lie before the query. -/
def strict : IVec S256x256 1 :=
  cmpi .slt (iota .tc S256x256 32 [1] iota_S256x256_d1_w32) (iota .tc S256x256 32 [0] iota_S256x256_d0_w32)

/-- A block where the keys lie before the query, zero elsewhere. -/
def masked (x : FVec F S256x256 .f32) : FVec F S256x256 .f32 :=
  select strict x (broadcast S256x256 (Scalar.ofBits .f32 0x00000000#32))

/-- What is spent at the keys of a block from each one on. -/
def sums (u : FVec F S256x256 .bf16) (sp : FVec F S256x256 .f32) : FVec F S256x256 .f32 :=
  matmul dot_S256x256_S256x256_S256x256_1_0_0_1_n_n none (truncf .bf16 sp bitsLt_bf16_f32) u (constant S256x256 .f32 0x00000000#32)

/-- A block's weights times its values. -/
def weighed (w : FVec F S256x256 .f32) (v : FVec F S256x128 .bf16) : FVec F S256x128 .f32 :=
  matmul dot_S256x256_S256x128_S256x128_1_0_0_1_n_n none (truncf .bf16 w bitsLt_bf16_f32) v (constant S256x128 .f32 0x00000000#32)

/-- All that is spent at the keys of a block. -/
def mass (r : FVec F S256x256 .f32) : FVec F S256x1 .f32 := extractStridedSlice S256x1 ![0, 0] r slices_S256x256_o0_0_S256x1

/-- The running weighted sum, and what has been spent so far. -/
abbrev State (F : FTy → Type) : Type := FVec F S256x128 .f32 × FVec F S256x1 .f32

/-- The diagonal block. -/
def diagonal (u : FVec F S256x256 .bf16) (z sp : FVec F S256x256 .f32) (v : FVec F S256x128 .bf16) : State F :=
  (weighed (masked (exp2 (subf z (sums u (masked sp))))) v, mass (sums u (masked sp)))

/-- One earlier block. -/
def further (u : FVec F S256x256 .bf16) (st : State F) (z sp : FVec F S256x256 .f32) (v : FVec F S256x128 .bf16) : State F :=
  (addf st.1 (weighed (exp2 (subf (subf z (sums u sp)) (broadcastTo S256x256 st.2 broadcasts_S256x1_S256x256))) v),
    addf st.2 (mass (sums u sp)))

/-- The first `b` of `n` blocks, the latest first. -/
def sweep (u : FVec F S256x256 .bf16) (n : ℕ) (z sp : FVec F (Mat 256 (256 * n)) .f32) (v : (b : ℕ) → b < n → FVec F S256x128 .bf16) :
    (b : ℕ) → b ≤ n → State F → State F
  | 0, _, st => st
  | b + 1, h, st => sweep u n z sp v b (Nat.le_of_lt h) (further u st (part n b h z) (part n b h sp) (v b h))

/-- The gate `z * (1 / (1 + exp (0 - z)))`. -/
def gate (z : FVec F S256x128 .f32) : FVec F S256x128 .f32 :=
  mulf z (divf (broadcast S256x128 (Scalar.ofBits .f32 0x3F800000#32))
    (addf (broadcast S256x128 (Scalar.ofBits .f32 0x3F800000#32)) (exp (subf (broadcast S256x128 (Scalar.ofBits .f32 0x00000000#32)) z))))

/-- The stored piece: the weighted sums, gated. -/
def out (acc : FVec F S256x128 .f32) (z : FVec F S256x128 .bf16) : FVec F S1x256x128 .bf16 :=
  shapeCast S1x256x128 (truncf .bf16 (mulf acc (gate (extf .f32 z bitsLt_bf16_f32))) bitsLt_bf16_f32) shapeCasts_S256x128_S1x256x128

/-- A tile's test: some query of it has spent less than 160 bits. -/
def test (tail : FVec F S256x1 .f32) : BitVec 1 :=
  Scalar.cmpi .ne (Scalar.extui (Scalar.cmpf .olt
    (extractAt ![0, 0, 0] (shapeCast S1x1x1 (multiReduction .minimumf [1, 2] S1 (shapeCast S1x256x1 tail shapeCasts_S256x1_S1x256x1)
      0x7F800000#32 reduces_S1x256x1_S1 (.inl rfl) rfl) shapeCasts_S1_S1x1x1) inpos_S1x1x1_p0_0_0)
    (Scalar.ofBits .f32 0x43200000#32)) : BitVec 32) 0#32

/-- The rows of `n` blocks from row `lo` on in a block of 4096 rows of 128. -/
abbrev rowsRect (lo n : ℕ) (h : lo + 256 * n ≤ 4096) : Rect S1x1x1x4096x128 :=
  Rect.unit (s := S1x1x1x4096x128) ![0, 0, 0, lo, 0] ![1, 1, 1, 256 * n, 128] (fun a => by
    fin_cases a <;> simp <;> omega)

/-- The rows of tile `t` in the result's block, -/
abbrev outRect (t : ℕ) (h : t < 16) : Rect S1x4096x128 :=
  Rect.unit (s := S1x4096x128) ![0, 256 * t, 0] S1x256x128.size (fun a => by
    fin_cases a <;> simp <;> omega)

/-- in the scratch of running sums, -/
abbrev accRect (t : ℕ) (h : t < 16) : Rect S4096x128 :=
  Rect.unit (s := S4096x128) ![256 * t, 0] S256x128.size (fun a => by
    fin_cases a <;> simp <;> omega)

/-- and in the scratch of what has been spent. -/
abbrev tailRect (t : ℕ) (h : t < 16) : Rect S4096x1 :=
  Rect.unit (s := S4096x1) ![256 * t, 0] S256x1.size (fun a => by
    fin_cases a <;> simp <;> omega)

section Body

variable (c : Dev nD) (i : grid0.Coords)
  (a2 : Memref sig .tc .vmem S1x1x1x4096x128 .bf16) (h2 : a2.IsWhole)
  (a3 : Memref sig .tc .vmem S1x1x1x4096x128 .bf16) (h3 : a3.IsWhole)
  (a4 : Memref sig .tc .vmem S1x1x1x4096x128 .bf16) (h4 : a4.IsWhole)
  (a5 : Memref sig .tc .vmem S1x1x1x4096x128 .bf16) (h5 : a5.IsWhole)
  (a6 : Memref sig .tc .vmem S256x256 .bf16) (h6 : a6.IsWhole)
  (a7 : Memref sig .tc .vmem S1x4096x128 .bf16) (h7 : a7.IsWhole)
  (a8 : Memref sig .tc .vmem S4096x128 .f32) (h8 : a8.IsWhole)
  (a9 : Memref sig .tc .vmem S4096x1 .f32) (h9 : a9.IsWhole)
  (x2 x3 x4 x5 : Vec F S1x1x1x4096x128 .bf16) (x6 : Vec F S256x256 .bf16)

/-- `n` blocks of rows from row `lo` on as the body loads them from a whole buffer that holds `x`. -/
def rowsOf (a : Memref sig .tc .vmem S1x1x1x4096x128 .bf16) (ha : a.IsWhole) (x : Vec F S1x1x1x4096x128 .bf16) (lo n : ℕ)
    (h : lo + 256 * n ≤ 4096) : FVec F (Mat (256 * n) 128) .bf16 :=
  shapeCast (Mat (256 * n) 128) (View.readAt (Elt F) a.view (rowsRect lo n h).toLoadRect (ha.unread x)) (by
    show (Mat (256 * n) 128).numel = (⟨5, ![1, 1, 1, 256 * n, 128]⟩ : Shape).numel
    simp [Shape.numel, Fin.prod_univ_succ])

/-- One block of them. -/
def tileOf (a : Memref sig .tc .vmem S1x1x1x4096x128 .bf16) (ha : a.IsWhole) (x : Vec F S1x1x1x4096x128 .bf16) (t : ℕ) (h : t < 16) :
    FVec F S256x128 .bf16 := rowsOf a ha x (256 * t) 1 (by omega)

/-- The triangle of ones. -/
def ones : FVec F S256x256 .bf16 :=
  shapeCast S256x256 (View.readAt (Elt F) a6.view (Rect.unit (s := S256x256) ![0, 0] S256x256.size (by decide)).toLoadRect (h6.unread x6))
    shapeCasts_S256x256_S256x256

/-- A query tile against `n` blocks of keys from row `lo` on. -/
def stripOf (t : ℕ) (ht : t < 16) (lo n : ℕ) (h : lo + 256 * n ≤ 4096) : FVec F (Mat 256 (256 * n)) .f32 :=
  logits n (tileOf a2 h2 x2 t ht) (rowsOf a3 h3 x3 lo n h)

/-- A query tile after its own block of keys and the one before. -/
def near : (t : ℕ) → t < 16 → State F
  | 0, h => diagonal (ones a6 h6 x6) (stripOf a2 h2 a3 h3 x2 x3 0 h 0 1 (by omega)) (spent 1 (stripOf a2 h2 a3 h3 x2 x3 0 h 0 1 (by omega)))
      (tileOf a4 h4 x4 0 h)
  | p + 1, h => further (ones a6 h6 x6)
      (diagonal (ones a6 h6 x6) (cut 2 1 (by omega) (stripOf a2 h2 a3 h3 x2 x3 (p + 1) h (256 * p) 2 (by omega)))
        (cut 2 1 (by omega) (spent 2 (stripOf a2 h2 a3 h3 x2 x3 (p + 1) h (256 * p) 2 (by omega)))) (tileOf a4 h4 x4 (p + 1) h))
      (cut 2 0 (by omega) (stripOf a2 h2 a3 h3 x2 x3 (p + 1) h (256 * p) 2 (by omega)))
      (cut 2 0 (by omega) (spent 2 (stripOf a2 h2 a3 h3 x2 x3 (p + 1) h (256 * p) 2 (by omega)))) (tileOf a4 h4 x4 p (by omega))

/-- Query tile `n + 1` after the `n` blocks of keys before those, from the state `st`. -/
def far (n : ℕ) (h : n + 1 < 16) (st : State F) : State F :=
  sweep (ones a6 h6 x6) n (stripOf a2 h2 a3 h3 x2 x3 (n + 1) h 0 n (by omega)) (spent n (stripOf a2 h2 a3 h3 x2 x3 (n + 1) h 0 n (by omega)))
    (fun b hb => tileOf a4 h4 x4 b (by omega)) n (Nat.le_refl n) st

/-- The pieces the scratch of running sums holds, the tiles from `2` to `t + 1`, -/
def accPieces : (t : ℕ) → t + 1 < 16 → List (View.Piece (Elt F) S4096x128 .f32)
  | 0, _ => []
  | t + 1, h => ⟨accRect (t + 2) h, shapeCast S256x128 (near a2 h2 a3 h3 a4 h4 a6 h6 x2 x3 x4 x6 (t + 2) h).1 shapeCasts_S256x128_S256x128⟩
      :: accPieces t (by omega)

/-- and the pieces of what has been spent. -/
def tailPieces : (t : ℕ) → t + 1 < 16 → List (View.Piece (Elt F) S4096x1 .f32)
  | 0, _ => []
  | t + 1, h => ⟨tailRect (t + 2) h, shapeCast S256x1 (near a2 h2 a3 h3 a4 h4 a6 h6 x2 x3 x4 x6 (t + 2) h).2 shapeCasts_S256x1_S256x1⟩
      :: tailPieces t (by omega)

/-- The near pieces the body stores, the tiles before `t`. -/
def nearPieces : (t : ℕ) → t ≤ 16 → List (View.Piece (Elt F) S1x4096x128 .bf16)
  | 0, _ => []
  | t + 1, h => ⟨outRect t h, out (near a2 h2 a3 h3 a4 h4 a6 h6 x2 x3 x4 x6 t h).1 (tileOf a5 h5 x5 t h)⟩ :: nearPieces t (by omega)

/-- The far piece of tile `n + 1`, from scratches that hold `A` and `T`. -/
def farPiece (A : List (View.Piece (Elt F) S4096x128 .f32)) (T : List (View.Piece (Elt F) S4096x1 .f32)) (n : ℕ) (h : n + 1 < 16) :
    View.Piece (Elt F) S1x4096x128 .bf16 :=
  ⟨outRect (n + 1) h, out (far a2 h2 a3 h3 a4 h4 a6 h6 x2 x3 x4 x6 n h
      (a8.view.readCov A (accRect (n + 1) h).toLoadRect, a9.view.readCov T (tailRect (n + 1) h).toLoadRect)).1 (tileOf a5 h5 x5 (n + 1) h)⟩

/-- The near pieces, and then the far piece of each tile up to `n + 1` that passes its test. -/
def held (A : List (View.Piece (Elt F) S4096x128 .f32)) (T : List (View.Piece (Elt F) S4096x1 .f32)) :
    (n : ℕ) → n + 1 < 16 → List (View.Piece (Elt F) S1x4096x128 .bf16)
  | 0, _ => nearPieces a2 h2 a3 h3 a4 h4 a5 h5 a6 h6 x2 x3 x4 x5 x6 16 (Nat.le_refl _)
  | n + 1, h =>
    if test (near a2 h2 a3 h3 a4 h4 a6 h6 x2 x3 x4 x6 (n + 2) h).2 = 1#1 then
      farPiece a2 h2 a3 h3 a4 h4 a5 h5 a6 h6 a8 a9 x2 x3 x4 x5 x6 A T (n + 1) h :: held A T n (by omega)
    else held A T n (by omega)

theorem accPieces_eq : run.sl.H8_14 a2 h2 a3 h3 a4 h4 a6 h6 x2 x3 x4 x6 = accPieces a2 h2 a3 h3 a4 h4 a6 h6 x2 x3 x4 x6 14 (by omega) := rfl

theorem tailPieces_eq : run.sl.H9_14 a2 h2 a3 h3 a6 h6 x2 x3 x6 = tailPieces a2 h2 a3 h3 a4 h4 a6 h6 x2 x3 x4 x6 14 (by omega) := rfl

theorem nearPieces_eq : run.sl.H7_16 a2 h2 a3 h3 a4 h4 a5 h5 a6 h6 x2 x3 x4 x5 x6
    = nearPieces a2 h2 a3 h3 a4 h4 a5 h5 a6 h6 x2 x3 x4 x5 x6 16 (Nat.le_refl _) := rfl

/-- One more tile: its far piece, if the test succeeds. -/
theorem held_step (A : List (View.Piece (Elt F) S4096x128 .f32)) (T : List (View.Piece (Elt F) S4096x1 .f32)) (n : ℕ) (h : n + 1 + 1 < 16)
    {B : Buf (Elt F) (a7.view.loc (c : Thread nD τ)) → Buf (Elt F) (a7.view.loc (c : Thread nD τ))}
    (hB : ∀ f, B f = a7.view.writes (Elt F) f (held a2 h2 a3 h3 a4 h4 a5 h5 a6 h6 a8 a9 x2 x3 x4 x5 x6 A T n (by omega)))
    (b : BitVec 1) (hb : b = test (near a2 h2 a3 h3 a4 h4 a6 h6 x2 x3 x4 x6 (n + 2) h).2)
    (p : View.Piece (Elt F) S1x4096x128 .bf16) (hp : p = farPiece a2 h2 a3 h3 a4 h4 a5 h5 a6 h6 a8 a9 x2 x3 x4 x5 x6 A T (n + 1) h) (f : Buf (Elt F) (a7.view.loc (c : Thread nD τ))) :
    (if _ : b = 1#1 then a7.view.writes (Elt F) (B f) [p] else B f) = a7.view.writes (Elt F) f (held a2 h2 a3 h3 a4 h4 a5 h5 a6 h6 a8 a9 x2 x3 x4 x5 x6 A T (n + 1) h) := by
  subst hb hp
  rw [held]
  by_cases hb : test (near a2 h2 a3 h3 a4 h4 a6 h6 x2 x3 x4 x6 (n + 2) h).2 = 1#1
  · rw [dif_pos hb, if_pos hb, hB]; rfl
  · rw [dif_neg hb, if_neg hb, hB]

set_option maxHeartbeats 4000000 in
/-- The body writes the near pieces, and the far pieces of the tiles that pass their test. -/
theorem run_stored : ∀ f : Buf (Elt F) (a7.view.loc (c : Thread nD τ)),
    (run c i a2 h2 a3 h3 a4 h4 a5 h5 a6 h6 a7 h7 a8 h8 a9 h9 x2 x3 x4 x5 x6).1 f
      = a7.view.writes (Elt F) f (held a2 h2 a3 h3 a4 h4 a5 h5 a6 h6 a8 a9 x2 x3 x4 x5 x6
          (run.sl.H8_14 a2 h2 a3 h3 a4 h4 a6 h6 x2 x3 x4 x6) (run.sl.H9_14 a2 h2 a3 h3 a6 h6 x2 x3 x6) 14 (by omega)) := by
  refine held_step (F := F) c a2 h2 a3 h3 a4 h4 a5 h5 a6 h6 a7 a8 a9 x2 x3 x4 x5 x6 _ _ 13 _ ?_ _ ?_ _ ?_
  rotate_left
  · exact rfl
  · exact rfl
  refine held_step (F := F) c a2 h2 a3 h3 a4 h4 a5 h5 a6 h6 a7 a8 a9 x2 x3 x4 x5 x6 _ _ 12 _ ?_ _ ?_ _ ?_
  rotate_left
  · exact rfl
  · exact rfl
  refine held_step (F := F) c a2 h2 a3 h3 a4 h4 a5 h5 a6 h6 a7 a8 a9 x2 x3 x4 x5 x6 _ _ 11 _ ?_ _ ?_ _ ?_
  rotate_left
  · exact rfl
  · exact rfl
  refine held_step (F := F) c a2 h2 a3 h3 a4 h4 a5 h5 a6 h6 a7 a8 a9 x2 x3 x4 x5 x6 _ _ 10 _ ?_ _ ?_ _ ?_
  rotate_left
  · exact rfl
  · exact rfl
  refine held_step (F := F) c a2 h2 a3 h3 a4 h4 a5 h5 a6 h6 a7 a8 a9 x2 x3 x4 x5 x6 _ _ 9 _ ?_ _ ?_ _ ?_
  rotate_left
  · exact rfl
  · exact rfl
  refine held_step (F := F) c a2 h2 a3 h3 a4 h4 a5 h5 a6 h6 a7 a8 a9 x2 x3 x4 x5 x6 _ _ 8 _ ?_ _ ?_ _ ?_
  rotate_left
  · exact rfl
  · exact rfl
  refine held_step (F := F) c a2 h2 a3 h3 a4 h4 a5 h5 a6 h6 a7 a8 a9 x2 x3 x4 x5 x6 _ _ 7 _ ?_ _ ?_ _ ?_
  rotate_left
  · exact rfl
  · exact rfl
  refine held_step (F := F) c a2 h2 a3 h3 a4 h4 a5 h5 a6 h6 a7 a8 a9 x2 x3 x4 x5 x6 _ _ 6 _ ?_ _ ?_ _ ?_
  rotate_left
  · exact rfl
  · exact rfl
  refine held_step (F := F) c a2 h2 a3 h3 a4 h4 a5 h5 a6 h6 a7 a8 a9 x2 x3 x4 x5 x6 _ _ 5 _ ?_ _ ?_ _ ?_
  rotate_left
  · exact rfl
  · exact rfl
  refine held_step (F := F) c a2 h2 a3 h3 a4 h4 a5 h5 a6 h6 a7 a8 a9 x2 x3 x4 x5 x6 _ _ 4 _ ?_ _ ?_ _ ?_
  rotate_left
  · exact rfl
  · exact rfl
  refine held_step (F := F) c a2 h2 a3 h3 a4 h4 a5 h5 a6 h6 a7 a8 a9 x2 x3 x4 x5 x6 _ _ 3 _ ?_ _ ?_ _ ?_
  rotate_left
  · exact rfl
  · exact rfl
  refine held_step (F := F) c a2 h2 a3 h3 a4 h4 a5 h5 a6 h6 a7 a8 a9 x2 x3 x4 x5 x6 _ _ 2 _ ?_ _ ?_ _ ?_
  rotate_left
  · exact rfl
  · exact rfl
  refine held_step (F := F) c a2 h2 a3 h3 a4 h4 a5 h5 a6 h6 a7 a8 a9 x2 x3 x4 x5 x6 _ _ 1 _ ?_ _ ?_ _ ?_
  rotate_left
  · exact rfl
  · exact rfl
  refine held_step (F := F) c a2 h2 a3 h3 a4 h4 a5 h5 a6 h6 a7 a8 a9 x2 x3 x4 x5 x6 _ _ 0 _ ?_ _ ?_ _ ?_
  rotate_left
  · exact rfl
  · exact rfl
  exact fun f => congrArg (a7.view.writes (Elt F) f) (nearPieces_eq a2 h2 a3 h3 a4 h4 a5 h5 a6 h6 x2 x3 x4 x5 x6)

end Body

end Cert.Proof.SbMixIdeal

end
-- ==== Proof.Stick.lean ====
/-
  Stick breaking over the positions before a query, in bits, at the extended reals. At a position with logit `z` the query spends
  `log (1 + 2 ^ z) / log 2` bits of its stick (`spentAt`); `share` is the part of the stick a position takes, `mixed` the
  sum of the values by these parts over the positions from `lo` up to the query.
-/
module

public import proofs.«01_k».proof.Proof.Softmax

@[expose] public section

noncomputable section

namespace Cert.Proof.Stick

open Idealize.ShloMosaic
open Cert.Proof.Softmax

/-- The bits spent at a position with logit `z`. -/
def spentAt (z : EReal) : EReal := Ideal.log (1 + Ideal.exp (z * (Real.log 2 : ℝ))) * (((Real.log 2)⁻¹ : ℝ) : EReal)

/-- The bits spent at the positions from `j` up to the query `i`. -/
def spentFrom (L : ℕ → EReal) (i j : ℕ) : EReal := ∑ m ∈ Finset.Ico j i, spentAt (L m)

/-- The part of the stick that position `j` takes. -/
def share (L : ℕ → EReal) (i j : ℕ) : EReal := Ideal.exp2 (L j - spentFrom L i j)

/-- The values at the positions from `lo` up to the query, by their parts. -/
def mixed (L : ℕ → EReal) (V : ℕ → EReal) (i lo : ℕ) : EReal := ∑ j ∈ Finset.Ico lo i, share L i j * V j

theorem log_two_pos : 0 < Real.log 2 := Real.log_pos (by norm_num)

/-- The bits spent, by way of the greater of the logit and zero, where the logit is real. -/
theorem spent_real (z : ℝ) : max z 0 + Real.log (1 + (2 : ℝ) ^ (0 - |z|)) * (Real.log 2)⁻¹
    = Real.log (1 + Real.exp (z * Real.log 2)) * (Real.log 2)⁻¹ := by
  have hl := log_two_pos
  have e : ∀ y : ℝ, (2 : ℝ) ^ y = Real.exp (y * Real.log 2) := fun y => by
    rw [Real.rpow_def_of_pos (by norm_num), mul_comm]
  rw [e]
  rcases le_total 0 z with h | h
  · rw [max_eq_left h, abs_of_nonneg h]
    have : Real.log (1 + Real.exp (z * Real.log 2)) = z * Real.log 2 + Real.log (1 + Real.exp ((0 - z) * Real.log 2)) := by
      rw [show 1 + Real.exp (z * Real.log 2) = Real.exp (z * Real.log 2) * (1 + Real.exp ((0 - z) * Real.log 2)) from by
        rw [mul_add, ← Real.exp_add]
        rw [show z * Real.log 2 + (0 - z) * Real.log 2 = 0 from by ring, Real.exp_zero]; ring]
      rw [Real.log_mul (Real.exp_pos _).ne' (by positivity), Real.log_exp]
    rw [this]
    field_simp
  · rw [max_eq_right h, abs_of_nonpos h, zero_add, show 0 - -z = z from by ring]

/-- At a real logit the bits spent are real. -/
theorem spentAt_coe (a : ℝ) : spentAt a = ((Real.log (1 + Real.exp (a * Real.log 2)) * (Real.log 2)⁻¹ : ℝ) : EReal) := by
  have hp : 0 < 1 + Real.exp (a * Real.log 2) := by positivity
  unfold spentAt
  rw [← EReal.coe_mul, Ideal.exp_coe, ← EReal.coe_one, ← EReal.coe_add, Ideal.log_coe, if_neg (not_le.mpr hp), ← EReal.coe_mul]

theorem log_one : Ideal.log (1 : EReal) = 0 := by
  rw [← EReal.coe_one, Ideal.log_coe, if_neg (by norm_num), Real.log_one, EReal.coe_zero]

theorem spentAt_bot : spentAt ⊥ = 0 := by
  unfold spentAt
  rw [EReal.bot_mul_coe_of_pos log_two_pos, show Ideal.exp (⊥ : EReal) = 0 from rfl, add_zero, log_one, zero_mul]

theorem spentAt_top : spentAt ⊤ = ⊤ := by
  unfold spentAt
  rw [EReal.top_mul_coe_of_pos log_two_pos, show Ideal.exp (⊤ : EReal) = ⊤ from rfl,
    show (1 : EReal) + ⊤ = ⊤ from rfl, show Ideal.log (⊤ : EReal) = ⊤ from rfl, EReal.top_mul_coe_of_pos (inv_pos.mpr log_two_pos)]

/-- The bits spent, by way of the greater of the logit and zero. -/
theorem spentAt_eq (z : EReal) : max z 0 + Ideal.log (1 + Ideal.exp2 (0 - max z (-z))) * (((Real.log 2)⁻¹ : ℝ) : EReal) = spentAt z := by
  induction z with
  | bot =>
    rw [spentAt_bot, EReal.neg_bot, max_eq_right bot_le, max_eq_right bot_le, show (0 : EReal) - ⊤ = ⊥ from rfl,
      show Ideal.exp2 (⊥ : EReal) = 0 from rfl, add_zero, log_one, zero_mul, zero_add]
  | top =>
    rw [spentAt_top, EReal.neg_top, max_eq_left le_top, max_eq_left bot_le, show (0 : EReal) - ⊤ = ⊥ from rfl,
      show Ideal.exp2 (⊥ : EReal) = 0 from rfl, add_zero, log_one, zero_mul, add_zero]
  | coe a =>
    have e : (max (a : EReal) (-(a : EReal)) : EReal) = ((|a| : ℝ) : EReal) := by
      rw [← EReal.coe_neg, ← EReal.coe_strictMono.monotone.map_max]; rfl
    rw [spentAt_coe, ← spent_real, e, ← EReal.coe_zero, ← EReal.coe_one, ← EReal.coe_sub, Ideal.exp2_coe, ← EReal.coe_add, Ideal.log_coe,
      if_neg (by have : (0 : ℝ) < (2 : ℝ) ^ (0 - |a|) := by positivity
                 exact not_le.mpr (by show 0 < 1 + (2 : ℝ) ^ (0 - |a|); linarith)),
      ← EReal.coe_mul, ← EReal.coe_strictMono.monotone.map_max, ← EReal.coe_add]
    rfl

/-- No fewer than no bits are spent. -/
theorem spentAt_nonneg (z : EReal) : 0 ≤ spentAt z := by
  induction z with
  | bot => rw [spentAt_bot]
  | top => rw [spentAt_top]; exact le_top
  | coe a =>
    rw [spentAt_coe, ← EReal.coe_zero, EReal.coe_le_coe_iff]
    refine mul_nonneg (Real.log_nonneg ?_) (inv_pos.mpr log_two_pos).le
    have := Real.exp_pos (a * Real.log 2)
    linarith

theorem spent_nonneg (L : ℕ → EReal) (s : Finset ℕ) : 0 ≤ ∑ m ∈ s, spentAt (L m) := Finset.sum_nonneg fun _ _ => spentAt_nonneg _

theorem spentFrom_nonneg (L : ℕ → EReal) (i j : ℕ) : 0 ≤ spentFrom L i j := spent_nonneg L _

theorem ne_bot_of_nonneg {x : EReal} (h : 0 ≤ x) : x ≠ ⊥ := fun e => absurd (e ▸ h) (by simp)

/-- Two amounts, neither below zero, are taken off at once or one by one. -/
theorem sub_both (z : EReal) {a b : EReal} (ha : 0 ≤ a) (hb : 0 ≤ b) : z - a - b = z - (a + b) := by
  rw [sub_eq_add_neg z (a + b), EReal.neg_add (Or.inl (ne_bot_of_nonneg ha)) (Or.inr (ne_bot_of_nonneg hb)), sub_eq_add_neg, sub_eq_add_neg,
    sub_eq_add_neg, add_assoc]

/-! ### In natural logarithms -/

/-- The natural logarithm of two. -/
abbrev ln2 : EReal := ((Real.log 2 : ℝ) : EReal)

theorem scaled_nonneg {x : EReal} (h : 0 ≤ x) : 0 ≤ x * ln2 := mul_nonneg h (EReal.coe_nonneg.mpr log_two_pos.le)

theorem spentAt_scaled (z : EReal) : Ideal.log (1 + Ideal.exp (z * ln2)) = spentAt z * ln2 := by
  unfold spentAt
  rw [mul_assoc, ← EReal.coe_mul, inv_mul_cancel₀ log_two_pos.ne', EReal.coe_one, mul_one]

theorem exp2_scaled (y : EReal) : Ideal.exp2 y = Ideal.exp (y * ln2) := by
  induction y with
  | bot => rw [EReal.bot_mul_coe_of_pos log_two_pos]; rfl
  | top => rw [EReal.top_mul_coe_of_pos log_two_pos]; rfl
  | coe a =>
    rw [Ideal.exp2_coe, ← EReal.coe_mul, Ideal.exp_coe]
    refine congrArg _ ?_
    show (2 : ℝ) ^ a = _
    rw [Real.rpow_def_of_pos (by norm_num), mul_comm]

theorem sub_scaled (z x : EReal) : (z - x) * ln2 = z * ln2 - x * ln2 := by
  rw [sub_eq_add_neg, EReal.right_distrib_of_nonneg_of_ne_top (EReal.coe_nonneg.mpr log_two_pos.le) (EReal.coe_ne_top _), EReal.neg_mul, ← sub_eq_add_neg]

theorem sum_scaled (L : ℕ → EReal) (s : Finset ℕ) : ∑ m ∈ s, -(spentAt (L m) * ln2) = -((∑ m ∈ s, spentAt (L m)) * ln2) := by
  classical
  induction s using Finset.induction_on with
  | empty => simp
  | insert a s ha ih =>
    rw [Finset.sum_insert ha, Finset.sum_insert ha, ih, EReal.right_distrib_of_nonneg (spentAt_nonneg _) (spent_nonneg L s),
      EReal.neg_add (Or.inl (ne_bot_of_nonneg (scaled_nonneg (spentAt_nonneg _)))) (Or.inr (ne_bot_of_nonneg (scaled_nonneg (spent_nonneg L s)))),
      sub_eq_add_neg]

theorem lt_scaled (x : EReal) : ((-160 * Real.log 2 : ℝ) : EReal) < -(x * ln2) ↔ x < ((160 : ℝ) : EReal) := by
  have hl := log_two_pos
  induction x with
  | bot =>
    rw [EReal.bot_mul_coe_of_pos hl, EReal.neg_bot]
    exact ⟨fun _ => EReal.bot_lt_coe _, fun _ => EReal.coe_lt_top _⟩
  | top =>
    rw [EReal.top_mul_coe_of_pos hl, EReal.neg_top]
    exact ⟨fun h => absurd h not_lt_bot, fun h => absurd h not_top_lt⟩
  | coe a =>
    rw [← EReal.coe_mul, ← EReal.coe_neg, EReal.coe_lt_coe_iff, EReal.coe_lt_coe_iff]
    constructor <;> intro h <;> nlinarith

/-! ### Sums over positions -/

/-- A sum over a block of 256 positions. -/
theorem sum_block {M : Type*} [AddCommMonoid M] (f : ℕ → M) (lo : ℕ) :
    ∑ j : Fin 256, f (lo + j.val) = ∑ m ∈ Finset.Ico lo (lo + 256), f m := by
  rw [Finset.sum_Ico_eq_sum_range, show lo + 256 - lo = 256 by omega, Finset.sum_range]

/-- A block's product with the triangle of ones: the sums from each position on. -/
theorem sum_triangle (S : ℕ → EReal) (lo : ℕ) (j : Fin 256) :
    ∑ m : Fin 256, S (lo + m.val) * (if j.val ≤ m.val then (1 : EReal) else 0) = ∑ m ∈ Finset.Ico (lo + j.val) (lo + 256), S m := by
  have e : ∀ m : Fin 256, S (lo + m.val) * (if j.val ≤ m.val then (1 : EReal) else 0)
      = if lo + j.val ≤ lo + m.val then S (lo + m.val) else 0 := fun m => by
    by_cases h : j.val ≤ m.val
    · rw [if_pos h, if_pos (by omega), mul_one]
    · rw [if_neg h, if_neg (by omega), mul_zero]
  rw [Finset.sum_congr rfl fun m _ => e m, sum_block (fun m => if lo + j.val ≤ m then S m else 0), ← Finset.sum_filter]
  refine Finset.sum_congr ?_ fun _ _ => rfl
  ext m
  rw [Finset.mem_filter, Finset.mem_Ico, Finset.mem_Ico]
  omega

/-- Masking the positions not before the query cuts the sum there. -/
theorem sum_masked (S : ℕ → EReal) (i j hi : ℕ) (h : i ≤ hi) :
    ∑ m ∈ Finset.Ico j hi, (if m < i then S m else 0) = ∑ m ∈ Finset.Ico j i, S m := by
  rw [← Finset.sum_filter]
  refine Finset.sum_congr ?_ fun _ _ => rfl
  ext m
  rw [Finset.mem_filter, Finset.mem_Ico, Finset.mem_Ico]
  omega

theorem spentFrom_split (L : ℕ → EReal) (i j k : ℕ) (h : j ≤ k) (h' : k ≤ i) :
    spentFrom L i j = (∑ m ∈ Finset.Ico j k, spentAt (L m)) + spentFrom L i k :=
  (Finset.sum_Ico_consecutive _ h h').symm

theorem mixed_split (L : ℕ → EReal) (V : ℕ → EReal) (i lo k : ℕ) (h : lo ≤ k) (h' : k ≤ i) :
    mixed L V i lo = (∑ j ∈ Finset.Ico lo k, share L i j * V j) + mixed L V i k :=
  (Finset.sum_Ico_consecutive _ h h').symm

/-! ### A head -/

/-- A head's row at a position. -/
def at_ (f : Fin 4096 → Fin 128 → EReal) (i : ℕ) (d : Fin 128) : EReal := if h : i < 4096 then f ⟨i, h⟩ d else 0

theorem at_val (f : Fin 4096 → Fin 128 → EReal) (i : Fin 4096) (d : Fin 128) : at_ f i.val d = f i d := dif_pos i.isLt

theorem at_mk (f : Fin 4096 → Fin 128 → EReal) (i : ℕ) (h : i < 4096) (d : Fin 128) : at_ f i d = f ⟨i, h⟩ d := dif_pos h

variable (q k v z : Fin 4096 → Fin 128 → EReal)

/-- The logit, in bits, of a query's position and a key's. -/
def logit (i j : ℕ) : EReal := ∑ d : Fin 128, at_ q i d * at_ k j d

/-- The keys before the previous run of 256 positions matter to the run `t`: one of its queries has spent less than 160 bits
    on the keys of its own run and of the previous one. -/
def deep (t : ℕ) : Prop := ∃ r : Fin 256, spentFrom (logit q k (256 * t + r.val)) (256 * t + r.val) (256 * (t - 1)) < ((160 : ℝ) : EReal)

open Classical in
/-- The first position a query sees. -/
def first (i : ℕ) : ℕ := if deep q k (i / 256) then 0 else 256 * (i / 256 - 1)

/-- Stick-breaking attention of one head, gated. -/
def attend (i : ℕ) (d : Fin 128) : EReal :=
  mixed (logit q k i) (fun j => at_ v j d) i (first q k i) * (at_ z i d * Ideal.div 1 (1 + Ideal.exp (0 - at_ z i d)))

end Cert.Proof.Stick

end
-- ==== Proof.SbMixIdealRead.lean ====
/-
  What the sweep of a query tile computes at the extended reals, row by row: after the blocks from position `lo` on, the
  running sum is the values by their parts of the stick, and the tail is what has been spent (`Good`).
-/
module

public import proofs.«01_k».proof.Proof.SbMixIdealTile
public import proofs.«01_k».proof.Proof.Stick
public import Idealize.ShloMosaic.Lib.Pointwise
public import Idealize.ShloMosaic.PureOps.Ideal.Laws

@[expose] public section

set_option maxRecDepth 16384

noncomputable section

namespace Cert.Proof.SbMixIdeal

open Cert.SbMixIdeal Cert.SbMixIdeal.Gen
open Idealize.ShloMosaic Idealize.ShloMosaic.TcCoe
open Idealize.SL.Sem
open Cert.Proof.Softmax Cert.Proof.Stick

/-- The named constant is the inverse of `ln 2`. -/
theorem named_perln2 : (Named.named κ "perln2" 0x3FB8AA3B#32 : Ideal .f32) = (((Real.log 2)⁻¹ : ℝ) : EReal) := rfl

theorem logits_apply (n : ℕ) (q : FVec Ideal S256x128 .bf16) (k : FVec Ideal (Mat (256 * n) 128) .bf16) (r : Fin 256) (j : Fin (256 * n)) :
    logits n q k (ix2 r j) = ∑ d : Fin 128, q (ix2 r d) * k (ix2 j d) := by
  unfold logits
  refine (Ideal.matmul_transposedRhs_apply none q k _ r j).trans ?_
  show Ideal.ofBits .f32 0x00000000#32 + _ = _
  rw [show Ideal.ofBits .f32 0x00000000#32 = (0 : EReal) from by simp [Ideal.ofBits, Ideal.ieee], zero_add]
  rfl

theorem spent_apply (n : ℕ) (z : FVec Ideal (Mat 256 (256 * n)) .f32) (r : Fin 256) (j : Fin (256 * n)) :
    spent n z (ix2 r j) = spentAt (z (ix2 r j)) := by
  have h0 : Ideal.ofBits .f32 0x00000000#32 = (0 : EReal) := by simp [Ideal.ofBits, Ideal.ieee]
  have h1 : Ideal.ofBits .f32 0x3F800000#32 = (1 : EReal) := by
    simp [Ideal.ofBits, Ideal.ieee]
    rw [← EReal.coe_mul, ← EReal.coe_one]
    exact congrArg _ (by norm_num)
  show max (z (ix2 r j)) (Ideal.ofBits .f32 0x00000000#32)
    + Ideal.log (Ideal.ofBits .f32 0x3F800000#32 + Ideal.exp2 (Ideal.ofBits .f32 0x00000000#32 - max (z (ix2 r j)) (-z (ix2 r j))))
      * (((Real.log 2)⁻¹ : ℝ) : EReal) = _
  rw [h0, h1, spentAt_eq]

theorem cut_apply (n b : ℕ) (h : b < n) (x : FVec Ideal (Mat 256 (256 * n)) .f32) (r j : Fin 256) :
    cut n b h x (ix2 r j) = x (ix2 r ⟨256 * b + j.val, by omega⟩) := by
  unfold cut
  refine extractStridedSlice_apply _ _ _ _ _ fun a => ?_
  match a with
  | ⟨0, _⟩ => exact (Nat.zero_add _).symm
  | ⟨1, _⟩ => rfl

theorem part_apply (n b : ℕ) (h : b < n) (x : FVec Ideal (Mat 256 (256 * n)) .f32) (r j : Fin 256) :
    part n b h x (ix2 r j) = x (ix2 r ⟨256 * b + j.val, by omega⟩) := by
  match n, h, x with
  | 1, h, x =>
    have hb : b = 0 := by omega
    subst hb
    show x (ix2 r j) = _
    refine congrArg x ?_
    funext a
    match a with
    | ⟨0, _⟩ => rfl
    | ⟨1, _⟩ => exact Fin.ext (show j.val = 256 * 0 + j.val by omega)
  | n + 2, h, x => exact cut_apply (n + 2) b h x r j

/-- Two positions of a tile compare as words just as they do as numbers. -/
theorem slt_ofNat (a b : Fin 256) : IntOp.cmpi .slt (BitVec.ofNat 32 a.val) (BitVec.ofNat 32 b.val) = if a.val < b.val then 1#1 else 0#1 := by
  have e : ∀ x : Fin 256, (BitVec.ofNat 32 x.val).toInt = (x.val : ℤ) := fun x => by
    have hx := x.isLt
    have hm : (BitVec.ofNat 32 x.val).toNat = x.val := by rw [BitVec.toNat_ofNat]; exact Nat.mod_eq_of_lt (by omega)
    rw [BitVec.toInt_eq_toNat_of_lt (by rw [hm]; omega), hm]
  have h : (BitVec.ofNat 32 a.val).slt (BitVec.ofNat 32 b.val) = decide (a.val < b.val) := by
    rw [BitVec.slt_eq_decide, e, e]
    simp
  unfold IntOp.cmpi
  show BitVec.ofBool _ = _
  rw [h]
  by_cases hab : a.val < b.val <;> simp [hab]

theorem masked_apply (x : FVec Ideal S256x256 .f32) (r j : Fin 256) :
    masked x (ix2 r j) = if j.val < r.val then x (ix2 r j) else (0 : EReal) := by
  unfold masked strict
  pointwise
  rw [slt_ofNat]
  split <;> rfl

theorem sums_apply (u : FVec Ideal S256x256 .bf16) (sp : FVec Ideal S256x256 .f32) (r j : Fin 256) :
    sums u sp (ix2 r j) = ∑ m : Fin 256, sp (ix2 r m) * u (ix2 m j) := by
  unfold sums
  pointwise

theorem weighed_apply (w : FVec Ideal S256x256 .f32) (v : FVec Ideal S256x128 .bf16) (r : Fin 256) (d : Fin 128) :
    weighed w v (ix2 r d) = ∑ j : Fin 256, w (ix2 r j) * v (ix2 j d) := by
  unfold weighed
  pointwise

theorem mass_apply (x : FVec Ideal S256x256 .f32) (r : Fin 256) : mass x (ix2 r 0) = x (ix2 r 0) := by
  unfold mass
  pointwise

theorem out_apply (acc : FVec Ideal S256x128 .f32) (z : FVec Ideal S256x128 .bf16) (r : Fin 256) (d : Fin 128) :
    out acc z (ix3 0 r d) = acc (ix2 r d) * (z (ix2 r d) * Ideal.div 1 (1 + Ideal.exp (0 - z (ix2 r d)))) := by
  unfold out gate
  pointwise

/-- The triangle of ones. -/
def Triangle (u : FVec Ideal S256x256 .bf16) : Prop := ∀ m j : Fin 256, u (ix2 m j) = if j.val ≤ m.val then (1 : EReal) else 0

/-- A block of logits, of bits spent and of values at the positions from `lo` on, as row `r` sees them. -/
def Block (L : ℕ → EReal) (V : ℕ → Fin 128 → EReal) (r : Fin 256) (lo : ℕ) (z sp : FVec Ideal S256x256 .f32) (v : FVec Ideal S256x128 .bf16) : Prop :=
  (∀ j : Fin 256, z (ix2 r j) = L (lo + j.val)) ∧ (∀ j : Fin 256, sp (ix2 r j) = spentAt (L (lo + j.val)))
    ∧ ∀ (j : Fin 256) (d : Fin 128), v (ix2 j d) = V (lo + j.val) d

/-- Row `r` of the state, for a query at `i`, after the blocks from `lo` on. -/
def Good (L : ℕ → EReal) (V : ℕ → Fin 128 → EReal) (i : ℕ) (r : Fin 256) (lo : ℕ) (st : State Ideal) : Prop :=
  st.2 (ix2 r 0) = spentFrom L i lo ∧ ∀ d, st.1 (ix2 r d) = mixed L (fun j => V j d) i lo

variable (u : FVec Ideal S256x256 .bf16) (hu : Triangle u) (L : ℕ → EReal) (V : ℕ → Fin 128 → EReal) (r : Fin 256)
include hu

/-- The sums from each position of a block on. -/
theorem sums_from (S : ℕ → EReal) (lo : ℕ) (sp : FVec Ideal S256x256 .f32) (h : ∀ j : Fin 256, sp (ix2 r j) = S (lo + j.val)) (j : Fin 256) :
    sums u sp (ix2 r j) = ∑ m ∈ Finset.Ico (lo + j.val) (lo + 256), S m := by
  rw [sums_apply, ← sum_triangle]
  exact Finset.sum_congr rfl fun m _ => by rw [h, hu]

/-- An earlier block. -/
theorem further_good (i lo : ℕ) (hi : lo + 256 ≤ i) (st : State Ideal) (hs : Good L V i r (lo + 256) st)
    (z sp : FVec Ideal S256x256 .f32) (v : FVec Ideal S256x128 .bf16) (hb : Block L V r lo z sp v) :
    Good L V i r lo (further u st z sp v) := by
  obtain ⟨hz, hsp, hv⟩ := hb
  obtain ⟨ht, ha⟩ := hs
  have hr := sums_from u hu r (fun m => spentAt (L m)) lo sp hsp
  refine ⟨?_, fun d => ?_⟩
  · show st.2 (ix2 r 0) + mass (sums u sp) (ix2 r 0) = _
    rw [mass_apply, hr, ht, spentFrom_split L i lo (lo + 256) (by omega) hi, add_comm]
    rfl
  · show st.1 (ix2 r d) + weighed _ v (ix2 r d) = _
    rw [ha, weighed_apply, mixed_split L _ i lo (lo + 256) (by omega) hi, add_comm, ← sum_block]
    refine congrArg (· + _) (Finset.sum_congr rfl fun j _ => ?_)
    rw [hv]
    refine congrArg (· * _) ?_
    show Ideal.exp2 ((z (ix2 r j) - sums u sp (ix2 r j)) - broadcastTo S256x256 st.2 broadcasts_S256x1_S256x256 (ix2 r j)) = _
    rw [show broadcastTo S256x256 st.2 broadcasts_S256x1_S256x256 (ix2 r j) = st.2 (ix2 r 0) from by pointwise, hz, hr, ht,
      sub_both _ (spent_nonneg L _) (spentFrom_nonneg L _ _)]
    unfold share
    rw [spentFrom_split L i (lo + j.val) (lo + 256) (by omega) hi]

/-- The diagonal block. -/
theorem diagonal_good (lo : ℕ) (z sp : FVec Ideal S256x256 .f32) (v : FVec Ideal S256x128 .bf16) (hb : Block L V r lo z sp v) :
    Good L V (lo + r.val) r lo (diagonal u z sp v) := by
  obtain ⟨hz, hsp, hv⟩ := hb
  have hr : ∀ j : Fin 256, sums u (masked sp) (ix2 r j) = spentFrom L (lo + r.val) (lo + j.val) := fun j => by
    rw [sums_from u hu r (fun m => if m < lo + r.val then spentAt (L m) else 0) lo (masked sp) (fun j => by
      rw [masked_apply, hsp]
      by_cases h : j.val < r.val
      · rw [if_pos h]; simp only [if_pos (show lo + j.val < lo + r.val by omega)]
      · rw [if_neg h]; simp only [if_neg (show ¬ lo + j.val < lo + r.val by omega)]) j,
      sum_masked _ _ _ _ (by omega)]
    rfl
  refine ⟨?_, fun d => ?_⟩
  · show mass (sums u (masked sp)) (ix2 r 0) = _
    rw [mass_apply, hr]; rfl
  · show weighed _ v (ix2 r d) = _
    rw [weighed_apply]
    have e : ∀ j : Fin 256, masked (exp2 (subf z (sums u (masked sp)))) (ix2 r j) * v (ix2 j d)
        = (fun m => if m < lo + r.val then share L (lo + r.val) m * V m d else 0) (lo + j.val) := fun j => by
      rw [masked_apply, hv]
      by_cases h : j.val < r.val
      · rw [if_pos h]
        simp only [if_pos (show lo + j.val < lo + r.val by omega)]
        refine congrArg (· * _) ?_
        show Ideal.exp2 (z (ix2 r j) - sums u (masked sp) (ix2 r j)) = _
        rw [hz, hr]
        rfl
      · rw [if_neg h]; simp only [if_neg (show ¬ lo + j.val < lo + r.val by omega), zero_mul]
    rw [Finset.sum_congr rfl fun j _ => e j,
      sum_block (fun m => if m < lo + r.val then share L (lo + r.val) m * V m d else 0), ← Finset.sum_filter]
    refine Finset.sum_congr ?_ fun _ _ => rfl
    ext m
    rw [Finset.mem_filter, Finset.mem_Ico, Finset.mem_Ico]
    omega

/-- The blocks of a strip. -/
theorem sweep_good (i n : ℕ) (hi : 256 * n ≤ i) (z sp : FVec Ideal (Mat 256 (256 * n)) .f32) (v : (b : ℕ) → b < n → FVec Ideal S256x128 .bf16)
    (hb : ∀ b h, Block L V r (256 * b) (part n b h z) (part n b h sp) (v b h)) :
    ∀ (b : ℕ) (h : b ≤ n) (st : State Ideal), Good L V i r (256 * b) st → Good L V i r 0 (sweep u n z sp v b h st)
  | 0, _, _, hs => hs
  | b + 1, h, _, hs => sweep_good i n hi z sp v hb b (Nat.le_of_lt h) _
      (further_good u hu L V r i (256 * b) (by omega) _ (by rw [show 256 * b + 256 = 256 * (b + 1) by omega]; exact hs) _ _ _ (hb b h))

end Cert.Proof.SbMixIdeal

end
-- ==== Proof.SbMixIdealStored.lean ====
/-
  What a grid point stores, entry by entry: stick-breaking attention of the head whose blocks it holds (`canon_held`).
-/
module

public import proofs.«01_k».proof.Proof.SbMixIdealRead
public import proofs.«01_k».proof.Proof.SbMixIdealFrame
public import Idealize.ShloMosaic.Lib.Pipeline.ValueKit
import all proofs.«01_k».proof.Proof.SbMixIdealRun

@[expose] public section

set_option maxRecDepth 16384

noncomputable section

namespace Cert.Proof.SbMixIdeal

open Cert.SbMixIdeal Cert.SbMixIdeal.Gen
open Idealize.ShloMosaic Idealize.ShloMosaic.TcCoe
open Idealize.SL.Sem
open Cert.Proof.Softmax Cert.Proof.Stick

/-- The rows of a head's block. -/
def rows (x : Vec Ideal S1x1x1x4096x128 .bf16) (i : Fin 4096) (d : Fin 128) : EReal := x (ix5 0 0 0 i d)

/-- Row `j` of the rows loaded from row `lo` on. -/
theorem rowsOf_apply (a : Memref sig .tc .vmem S1x1x1x4096x128 .bf16) (h : a.IsWhole) (x : Vec Ideal S1x1x1x4096x128 .bf16) (lo n : ℕ)
    (hn : lo + 256 * n ≤ 4096) (j : Fin (256 * n)) (d : Fin 128) : rowsOf a h x lo n hn (ix2 j d) = at_ (rows x) (lo + j.val) d := by
  rw [at_mk _ _ (by have := j.isLt; omega)]
  unfold rowsOf
  rw [View.readAt_eq_ld, h.read_unread]
  refine (shapeCast_apply _ _ (ix2 j d) (ix5 0 0 0 j d : (⟨5, ![1, 1, 1, 256 * n, 128]⟩ : Shape).Idx) ?_).trans (congrArg x ?_)
  · rw [Shape.rowMajor_val_five, Shape.rowMajor_val_two]
    show (((0 * 1 + 0) * 1 + 0) * (256 * n) + j.val) * 128 + d.val = j.val * 128 + d.val
    omega
  · funext ax
    match ax with
    | ⟨0, _⟩ => exact Fin.ext rfl
    | ⟨1, _⟩ => exact Fin.ext rfl
    | ⟨2, _⟩ => exact Fin.ext rfl
    | ⟨3, _⟩ => exact Fin.ext (show lo + 1 * j.val = lo + j.val by omega)
    | ⟨4, _⟩ => exact Fin.ext (show 0 + 1 * d.val = d.val by omega)

theorem tileOf_apply (a : Memref sig .tc .vmem S1x1x1x4096x128 .bf16) (h : a.IsWhole) (x : Vec Ideal S1x1x1x4096x128 .bf16) (t : ℕ)
    (ht : t < 16) (r : Fin 256) (d : Fin 128) : tileOf a h x t ht (ix2 r d) = at_ (rows x) (256 * t + r.val) d :=
  rowsOf_apply a h x (256 * t) 1 _ r d

/-- The triangle's entries are those of its buffer. -/
theorem ones_apply (a6 : Memref sig .tc .vmem S256x256 .bf16) (h6 : a6.IsWhole) (x6 : Vec Ideal S256x256 .bf16) (a b : Fin 256) :
    ones a6 h6 x6 (ix2 a b) = x6 (ix2 a b) := by
  unfold ones
  rw [View.readAt_eq_ld, h6.read_unread]
  refine (shapeCast_apply _ _ (ix2 a b) (ix2 a b) rfl).trans (congrArg x6 ?_)
  funext ax
  match ax with
  | ⟨0, _⟩ => exact Fin.ext (show 0 + 1 * a.val = a.val by omega)
  | ⟨1, _⟩ => exact Fin.ext (show 0 + 1 * b.val = b.val by omega)

theorem fold_min_lt {ι : Type*} (S : Finset ι) (f : ι → EReal) (x : EReal) (hx : x ≠ ⊤) : S.fold min ⊤ f < x ↔ ∃ i ∈ S, f i < x := by
  rw [Finset.fold_min_lt]
  exact ⟨fun h => h.resolve_left fun h => absurd h (not_lt.mpr le_top), Or.inr⟩

/-- A tile's test: some row has spent less than 160 bits. -/
theorem test_apply (tail : FVec Ideal S256x1 .f32) : test tail = 1#1 ↔ ∃ r : Fin 256, tail (ix2 r 0) < ((160 : ℝ) : EReal) := by
  have e160 : Ideal.ofBits .f32 0x43200000#32 = ((160 : ℝ) : EReal) := by
    simp [Ideal.ofBits, Ideal.ieee]
    rw [← EReal.coe_mul]
    exact congrArg _ (by norm_num)
  have etop : Ideal.ofBits .f32 0x7F800000#32 = (⊤ : EReal) := by simp [Ideal.ofBits, Ideal.ieee]
  have bits : ∀ b : Bool, Scalar.cmpi .ne (Scalar.extui (BitVec.ofBool b) : BitVec 32) 0#32 = 1#1 ↔ b = true := by decide
  have key : extractAt ![0, 0, 0] (shapeCast S1x1x1 (multiReduction .minimumf [1, 2] S1 (shapeCast S1x256x1 tail shapeCasts_S256x1_S1x256x1)
      0x7F800000#32 reduces_S1x256x1_S1 (.inl rfl) rfl) shapeCasts_S1_S1x1x1) inpos_S1x1x1_p0_0_0
      = Finset.univ.fold min ⊤ (shapeCast S1x256x1 tail shapeCasts_S256x1_S1x256x1 : S1x256x1.Idx → EReal) := by
    unfold extractAt
    refine (shapeCast_apply _ _ _ (ix1 0 : S1.Idx) (by decide)).trans ?_
    refine (multiReduction_minimumf_eq_fold (F := Ideal) _ _ _ _ _ _).trans ?_
    rw [Finset.filter_true_of_mem fun i _ => funext fun b => Fin.ext (by
      have h1 : ∀ j : S1.Idx, (j b).val < 1 := fun j => by
        match b with
        | ⟨0, _⟩ => exact (j 0).isLt
      have := h1 (reduces_S1x256x1_S1.drop i)
      have := h1 (ix1 0)
      omega)]
    show Finset.univ.fold min (Ideal.ofBits .f32 0x7F800000#32) _ = _
    rw [etop]
  unfold test
  rw [key]
  refine (bits (decide (Finset.univ.fold min ⊤ (shapeCast S1x256x1 tail shapeCasts_S256x1_S1x256x1 : S1x256x1.Idx → EReal)
    < Ideal.ofBits .f32 0x43200000#32))).trans ?_
  rw [decide_eq_true_iff, e160, fold_min_lt _ _ _ (EReal.coe_ne_top _)]
  have at_ : ∀ r : Fin 256, shapeCast S1x256x1 tail shapeCasts_S256x1_S1x256x1 (ix3 0 r 0 : S1x256x1.Idx) = tail (ix2 r 0) := fun r =>
    shapeCast_apply _ _ (ix3 0 r 0 : S1x256x1.Idx) (ix2 r 0 : S256x1.Idx) (by
      rw [Shape.rowMajor_val_two, Shape.rowMajor_val_three]
      show r.val * 1 + 0 = (0 * 256 + r.val) * 1 + 0
      omega)
  constructor
  · rintro ⟨y, -, hy⟩
    have ey : y = (ix3 0 (y 1) 0 : S1x256x1.Idx) := by
      funext a
      match a with
      | ⟨0, _⟩ => exact Fin.ext (Nat.lt_one_iff.mp (y 0).isLt)
      | ⟨1, _⟩ => rfl
      | ⟨2, _⟩ => exact Fin.ext (Nat.lt_one_iff.mp (y 2).isLt)
    rw [ey] at hy
    exact ⟨y 1, (at_ (y 1)).symm.trans_lt hy⟩
  · rintro ⟨r, hr⟩
    exact ⟨ix3 0 r 0, Finset.mem_univ _, (at_ r).trans_lt hr⟩

theorem not_mem_out (t n : ℕ) (ht : t < 16) (hn : n < 16) (h : t < n ∨ n < t) (x : S1x256x128.Idx) :
    (outRect t ht).emb x ∉ (outRect n hn).set := fun hm => by
  obtain ⟨h1, h2⟩ := (Rect.mem_set_unit.mp hm) 1
  have h1 : 256 * n ≤ 256 * t + 1 * (x 1).val := h1
  have h2 : 256 * t + 1 * (x 1).val < 256 * n + 256 := h2
  have h3 : (x 1).val < 256 := (x 1).isLt
  omega

theorem not_mem_acc (t n : ℕ) (ht : t < 16) (hn : n < 16) (h : t < n) (x : S256x128.Idx) :
    (accRect t ht).emb x ∉ (accRect n hn).set := fun hm => by
  obtain ⟨h1, -⟩ := (Rect.mem_set_unit.mp hm) 0
  have h1 : 256 * n ≤ 256 * t + 1 * (x 0).val := h1
  have h3 : (x 0).val < 256 := (x 0).isLt
  omega

theorem not_mem_tail (t n : ℕ) (ht : t < 16) (hn : n < 16) (h : t < n) (x : S256x1.Idx) :
    (tailRect t ht).emb x ∉ (tailRect n hn).set := fun hm => by
  obtain ⟨h1, -⟩ := (Rect.mem_set_unit.mp hm) 0
  have h1 : 256 * n ≤ 256 * t + 1 * (x 0).val := h1
  have h3 : (x 0).val < 256 := (x 0).isLt
  omega

/-- Under a last write at another tile, a tile holds what the writes before left. -/
theorem canon_other (t n : ℕ) (ht : t < 16) (hn : n < 16) (h : t < n ∨ n < t) (w : S1x256x128.Idx → EReal)
    (L : List (View.Piece (Elt Ideal) S1x4096x128 .bf16)) (x : S1x256x128.Idx) :
    View.canon ((⟨outRect n hn, w⟩ : View.Piece (Elt Ideal) S1x4096x128 .bf16) :: L) ((outRect t ht).emb x) = View.canon L ((outRect t ht).emb x) :=
  View.canon_cons_of_not_mem _ _ (not_mem_out t n ht hn h x)

/-- At its own tile it is what a last write wrote. -/
theorem canon_same (t : ℕ) (ht : t < 16) (w : S1x256x128.Idx → EReal) (L : List (View.Piece (Elt Ideal) S1x4096x128 .bf16)) (x : S1x256x128.Idx) :
    View.canon ((⟨outRect t ht, w⟩ : View.Piece (Elt Ideal) S1x4096x128 .bf16) :: L) ((outRect t ht).emb x) = w x :=
  View.canon_cons_emb (outRect t ht) w L x

/-- So with the two scratches. -/
theorem acc_same (t : ℕ) (ht : t < 16) (w : S256x128.Idx → EReal) (L : List (View.Piece (Elt Ideal) S4096x128 .f32)) (x : S256x128.Idx) :
    View.canon ((⟨accRect t ht, shapeCast S256x128 w shapeCasts_S256x128_S256x128⟩ : View.Piece (Elt Ideal) S4096x128 .f32) :: L) ((accRect t ht).emb x)
      = w x :=
  (View.canon_cons_emb (Val := Elt Ideal) (e := .f32) (accRect t ht) (shapeCast S256x128 w shapeCasts_S256x128_S256x128) L x).trans
    (shapeCast_apply w shapeCasts_S256x128_S256x128 x x rfl)

theorem tail_same (t : ℕ) (ht : t < 16) (w : S256x1.Idx → EReal) (L : List (View.Piece (Elt Ideal) S4096x1 .f32)) (x : S256x1.Idx) :
    View.canon ((⟨tailRect t ht, shapeCast S256x1 w shapeCasts_S256x1_S256x1⟩ : View.Piece (Elt Ideal) S4096x1 .f32) :: L) ((tailRect t ht).emb x)
      = w x :=
  (View.canon_cons_emb (Val := Elt Ideal) (e := .f32) (tailRect t ht) (shapeCast S256x1 w shapeCasts_S256x1_S256x1) L x).trans
    (shapeCast_apply w shapeCasts_S256x1_S256x1 x x rfl)

theorem acc_other (t n : ℕ) (ht : t < 16) (hn : n < 16) (h : t < n) (w : S256x128.Idx → EReal)
    (L : List (View.Piece (Elt Ideal) S4096x128 .f32)) (x : S256x128.Idx) :
    View.canon ((⟨accRect n hn, w⟩ : View.Piece (Elt Ideal) S4096x128 .f32) :: L) ((accRect t ht).emb x) = View.canon L ((accRect t ht).emb x) :=
  View.canon_cons_of_not_mem _ _ (not_mem_acc t n ht hn h x)

theorem tail_other (t n : ℕ) (ht : t < 16) (hn : n < 16) (h : t < n) (w : S256x1.Idx → EReal)
    (L : List (View.Piece (Elt Ideal) S4096x1 .f32)) (x : S256x1.Idx) :
    View.canon ((⟨tailRect n hn, w⟩ : View.Piece (Elt Ideal) S4096x1 .f32) :: L) ((tailRect t ht).emb x) = View.canon L ((tailRect t ht).emb x) :=
  View.canon_cons_of_not_mem _ _ (not_mem_tail t n ht hn h x)

section Body

variable (a2 : Memref sig .tc .vmem S1x1x1x4096x128 .bf16) (h2 : a2.IsWhole)
  (a3 : Memref sig .tc .vmem S1x1x1x4096x128 .bf16) (h3 : a3.IsWhole)
  (a4 : Memref sig .tc .vmem S1x1x1x4096x128 .bf16) (h4 : a4.IsWhole)
  (a5 : Memref sig .tc .vmem S1x1x1x4096x128 .bf16) (h5 : a5.IsWhole)
  (a6 : Memref sig .tc .vmem S256x256 .bf16) (h6 : a6.IsWhole)
  (a8 : Memref sig .tc .vmem S4096x128 .f32) (a9 : Memref sig .tc .vmem S4096x1 .f32)
  (x2 x3 x4 x5 : Vec Ideal S1x1x1x4096x128 .bf16) (x6 : Vec Ideal S256x256 .bf16)

/-- The near pieces, tile by tile. -/
theorem canon_near (x : S1x256x128.Idx) : ∀ (n : ℕ) (hn : n ≤ 16) (t : ℕ) (ht : t < 16), t < n →
    View.canon (nearPieces a2 h2 a3 h3 a4 h4 a5 h5 a6 h6 x2 x3 x4 x5 x6 n hn) ((outRect t ht).emb x)
      = out (near a2 h2 a3 h3 a4 h4 a6 h6 x2 x3 x4 x6 t ht).1 (tileOf a5 h5 x5 t ht) x
  | n + 1, hn, t, ht, h => by
    rw [nearPieces]
    by_cases e : t = n
    · subst e
      rw [canon_same]
    · rw [canon_other _ _ _ _ (by omega)]
      exact canon_near x n _ t ht (by omega)

/-- The scratch of running sums, tile by tile, -/
theorem canon_acc (x : S256x128.Idx) : ∀ (n : ℕ) (hn : n + 1 < 16) (t : ℕ) (ht : t < 16), 2 ≤ t → t ≤ n + 1 →
    View.canon (accPieces a2 h2 a3 h3 a4 h4 a6 h6 x2 x3 x4 x6 n hn) ((accRect t ht).emb x)
      = (near a2 h2 a3 h3 a4 h4 a6 h6 x2 x3 x4 x6 t ht).1 x
  | 0, _, t, _, h, h' => absurd h (by omega)
  | n + 1, hn, t, ht, h, h' => by
    rw [accPieces]
    by_cases e : t = n + 2
    · subst e
      rw [acc_same]
    · rw [acc_other _ _ _ _ (by omega)]
      exact canon_acc x n _ t ht h (by omega)

/-- and of what has been spent. -/
theorem canon_tail (x : S256x1.Idx) : ∀ (n : ℕ) (hn : n + 1 < 16) (t : ℕ) (ht : t < 16), 2 ≤ t → t ≤ n + 1 →
    View.canon (tailPieces a2 h2 a3 h3 a4 h4 a6 h6 x2 x3 x4 x6 n hn) ((tailRect t ht).emb x)
      = (near a2 h2 a3 h3 a4 h4 a6 h6 x2 x3 x4 x6 t ht).2 x
  | 0, _, t, _, h, h' => absurd h (by omega)
  | n + 1, hn, t, ht, h, h' => by
    rw [tailPieces]
    by_cases e : t = n + 2
    · subst e
      rw [tail_same]
    · rw [tail_other _ _ _ _ (by omega)]
      exact canon_tail x n _ t ht h (by omega)

variable (A : List (View.Piece (Elt Ideal) S4096x128 .f32)) (T : List (View.Piece (Elt Ideal) S4096x1 .f32))

/-- A tile that does not pass its test keeps its near piece. -/
theorem canon_held_near (x : S1x256x128.Idx) : ∀ (n : ℕ) (hn : n + 1 < 16) (t : ℕ) (ht : t < 16),
    (2 ≤ t → test (near a2 h2 a3 h3 a4 h4 a6 h6 x2 x3 x4 x6 t ht).2 ≠ 1#1) →
    View.canon (held a2 h2 a3 h3 a4 h4 a5 h5 a6 h6 a8 a9 x2 x3 x4 x5 x6 A T n hn) ((outRect t ht).emb x)
      = out (near a2 h2 a3 h3 a4 h4 a6 h6 x2 x3 x4 x6 t ht).1 (tileOf a5 h5 x5 t ht) x
  | 0, _, t, ht, _ => canon_near a2 h2 a3 h3 a4 h4 a5 h5 a6 h6 x2 x3 x4 x5 x6 x 16 (Nat.le_refl _) t ht ht
  | n + 1, hn, t, ht, h => by
    rw [held]
    by_cases hc : test (near a2 h2 a3 h3 a4 h4 a6 h6 x2 x3 x4 x6 (n + 2) hn).2 = 1#1
    · have e : t ≠ n + 2 := fun e => by subst e; exact h (by omega) hc
      rw [if_pos hc, farPiece, canon_other _ _ _ _ (by omega)]
      exact canon_held_near x n _ t ht h
    · rw [if_neg hc]
      exact canon_held_near x n _ t ht h

/-- A tile that passes its test gets its far piece. -/
theorem canon_held_far (x : S1x256x128.Idx) (p : ℕ) (hp : p + 1 + 1 < 16)
    (h : test (near a2 h2 a3 h3 a4 h4 a6 h6 x2 x3 x4 x6 (p + 2) hp).2 = 1#1) : ∀ (n : ℕ) (hn : n + 1 < 16), p + 1 ≤ n →
    View.canon (held a2 h2 a3 h3 a4 h4 a5 h5 a6 h6 a8 a9 x2 x3 x4 x5 x6 A T n hn) ((outRect (p + 2) hp).emb x)
      = out (far a2 h2 a3 h3 a4 h4 a6 h6 x2 x3 x4 x6 (p + 1) hp
          (a8.view.readCov A (accRect (p + 2) hp).toLoadRect, a9.view.readCov T (tailRect (p + 2) hp).toLoadRect)).1 (tileOf a5 h5 x5 (p + 2) hp) x
  | n + 1, hn, hpn => by
    rw [held]
    by_cases e : p = n
    · subst e
      rw [if_pos h, farPiece, canon_same]
    · by_cases hc : test (near a2 h2 a3 h3 a4 h4 a6 h6 x2 x3 x4 x6 (n + 2) hn).2 = 1#1
      · rw [if_pos hc, farPiece, canon_other _ _ _ _ (by omega)]
        exact canon_held_far x p hp h n _ (by omega)
      · rw [if_neg hc]
        exact canon_held_far x p hp h n _ (by omega)

/-- The pieces tile the result's buffer. -/
theorem near_cover (y : S1x4096x128.Idx) : ∀ (n : ℕ) (hn : n ≤ 16), (y 1).val < 256 * n →
    ∃ p ∈ nearPieces a2 h2 a3 h3 a4 h4 a5 h5 a6 h6 x2 x3 x4 x5 x6 n hn, y ∈ p.1.set
  | 0, _, h => absurd h (by omega)
  | n + 1, hn, h => by
    rw [nearPieces]
    by_cases e : (y 1).val < 256 * n
    · obtain ⟨p, hp, hy⟩ := near_cover y n (by omega) e
      exact ⟨p, List.mem_cons_of_mem _ hp, hy⟩
    · refine ⟨_, List.mem_cons_self, (show y ∈ (outRect n (by omega)).set from Rect.mem_set_unit.mpr fun ax => ?_)⟩
      match ax with
      | ⟨0, _⟩ => exact ⟨Nat.zero_le _, (y 0).isLt⟩
      | ⟨1, _⟩ => exact ⟨by show 256 * n ≤ (y 1).val; omega, by show (y 1).val < 256 * n + 256; omega⟩
      | ⟨2, _⟩ => exact ⟨Nat.zero_le _, (show (y 2).val < 128 from (y 2).isLt).trans_eq (by rfl)⟩

theorem held_cover (y : S1x4096x128.Idx) : ∀ (n : ℕ) (hn : n + 1 < 16),
    ∃ p ∈ held a2 h2 a3 h3 a4 h4 a5 h5 a6 h6 a8 a9 x2 x3 x4 x5 x6 A T n hn, y ∈ p.1.set
  | 0, _ => near_cover a2 h2 a3 h3 a4 h4 a5 h5 a6 h6 x2 x3 x4 x5 x6 y 16 _ (y 1).isLt
  | n + 1, hn => by
    obtain ⟨p, hp, hy⟩ := held_cover y n (by omega)
    rw [held]
    split
    · exact ⟨p, List.mem_cons_of_mem _ hp, hy⟩
    · exact ⟨p, hp, hy⟩

variable (hu : Triangle (ones a6 h6 x6))
/-- A strip's logit. -/
theorem stripOf_apply (t : ℕ) (ht : t < 16) (lo n : ℕ) (h : lo + 256 * n ≤ 4096) (r : Fin 256) (j : Fin (256 * n)) :
    stripOf a2 h2 a3 h3 x2 x3 t ht lo n h (ix2 r j) = logit (rows x2) (rows x3) (256 * t + r.val) (lo + j.val) := by
  unfold stripOf
  rw [logits_apply]
  exact Finset.sum_congr rfl fun d _ => by rw [tileOf_apply, rowsOf_apply]

/-- Part `b` of a strip is the block of positions from `lo + 256 * b` on. -/
theorem block_part (t : ℕ) (ht : t < 16) (lo n : ℕ) (h : lo + 256 * n ≤ 4096) (r : Fin 256) (b : ℕ) (hb : b < n) (w : ℕ) (hw : w < 16)
    (e : 256 * w = lo + 256 * b) :
    Block (logit (rows x2) (rows x3) (256 * t + r.val)) (at_ (rows x4)) r (256 * w)
      (part n b hb (stripOf a2 h2 a3 h3 x2 x3 t ht lo n h)) (part n b hb (spent n (stripOf a2 h2 a3 h3 x2 x3 t ht lo n h))) (tileOf a4 h4 x4 w hw) := by
  refine ⟨fun j => ?_, fun j => ?_, fun j d => tileOf_apply a4 h4 x4 w hw j d⟩
  · rw [part_apply, stripOf_apply a2 h2 a3 h3 x2 x3, e, Nat.add_assoc]
  · rw [part_apply, spent_apply, stripOf_apply a2 h2 a3 h3 x2 x3, e, Nat.add_assoc]

include hu

/-- A query tile after its own block of keys and the one before. -/
theorem near_good (t : ℕ) (ht : t < 16) (r : Fin 256) :
    Good (logit (rows x2) (rows x3) (256 * t + r.val)) (at_ (rows x4)) (256 * t + r.val) r (256 * (t - 1))
      (near a2 h2 a3 h3 a4 h4 a6 h6 x2 x3 x4 x6 t ht) := by
  match t, ht with
  | 0, ht =>
    rw [near]
    exact diagonal_good _ hu _ _ r 0 _ _ _ (block_part a2 h2 a3 h3 a4 h4 x2 x3 x4 0 ht 0 1 _ r 0 (by omega) 0 ht rfl)
  | p + 1, ht =>
    rw [near]
    refine further_good _ hu _ _ r _ _ (by omega) _ ?_ _ _ _
      (block_part a2 h2 a3 h3 a4 h4 x2 x3 x4 (p + 1) ht (256 * p) 2 _ r 0 (by omega) p (by omega) rfl)
    exact diagonal_good _ hu _ _ r (256 * (p + 1)) _ _ _
      (block_part a2 h2 a3 h3 a4 h4 x2 x3 x4 (p + 1) ht (256 * p) 2 _ r 1 (by omega) (p + 1) ht (by omega))

/-- A query tile after all the blocks before it. -/
theorem far_good (n : ℕ) (h : n + 1 < 16) (r : Fin 256) (st : State Ideal)
    (hs : Good (logit (rows x2) (rows x3) (256 * (n + 1) + r.val)) (at_ (rows x4)) (256 * (n + 1) + r.val) r (256 * n) st) :
    Good (logit (rows x2) (rows x3) (256 * (n + 1) + r.val)) (at_ (rows x4)) (256 * (n + 1) + r.val) r 0
      (far a2 h2 a3 h3 a4 h4 a6 h6 x2 x3 x4 x6 n h st) :=
  sweep_good _ hu _ _ r _ n (by omega) _ _ _
    (fun b hb => block_part a2 h2 a3 h3 a4 h4 x2 x3 x4 (n + 1) h 0 n (by omega) r b hb b (by omega) (by omega)) n _ st hs

/-- A tile passes its test where the keys before the previous block matter to it. -/
theorem test_near (t : ℕ) (ht : t < 16) :
    test (near a2 h2 a3 h3 a4 h4 a6 h6 x2 x3 x4 x6 t ht).2 = 1#1 ↔ deep (rows x2) (rows x3) t := by
  rw [test_apply]
  refine exists_congr fun r => ?_
  rw [(near_good a2 h2 a3 h3 a4 h4 a6 h6 x2 x3 x4 x6 hu t ht r).1]

/-- The state a far tile starts from is the one its near blocks left. -/
theorem start_good (p : ℕ) (hp : p + 1 + 1 < 16) (r : Fin 256) :
    Good (logit (rows x2) (rows x3) (256 * (p + 1 + 1) + r.val)) (at_ (rows x4)) (256 * (p + 1 + 1) + r.val) r (256 * (p + 1))
      (a8.view.readCov (accPieces a2 h2 a3 h3 a4 h4 a6 h6 x2 x3 x4 x6 14 (by omega)) (accRect (p + 2) hp).toLoadRect,
       a9.view.readCov (tailPieces a2 h2 a3 h3 a4 h4 a6 h6 x2 x3 x4 x6 14 (by omega)) (tailRect (p + 2) hp).toLoadRect) := by
  obtain ⟨g2, g1⟩ := near_good a2 h2 a3 h3 a4 h4 a6 h6 x2 x3 x4 x6 hu (p + 2) hp r
  refine ⟨?_, fun d => ?_⟩
  · exact (congrFun (View.readCov_eq_canon' _ _ _) _).trans <| (canon_tail a2 h2 a3 h3 a4 h4 a6 h6 x2 x3 x4 x6 (ix2 r 0 : S256x1.Idx) 14 (by omega) (p + 2) hp (by omega) (by omega)).trans g2
  · exact (congrFun (View.readCov_eq_canon' _ _ _) _).trans <| (canon_acc a2 h2 a3 h3 a4 h4 a6 h6 x2 x3 x4 x6 (ix2 r d : S256x128.Idx) 14 (by omega) (p + 2) hp (by omega) (by omega)).trans (g1 d)

/-- What the body stores at row `r` of tile `t`: the gated attention of that position. -/
theorem canon_held (t : ℕ) (ht : t < 16) (r : Fin 256) (d : Fin 128) :
    View.canon (held a2 h2 a3 h3 a4 h4 a5 h5 a6 h6 a8 a9 x2 x3 x4 x5 x6 (accPieces a2 h2 a3 h3 a4 h4 a6 h6 x2 x3 x4 x6 14 (by omega))
        (tailPieces a2 h2 a3 h3 a4 h4 a6 h6 x2 x3 x4 x6 14 (by omega)) 14 (by omega)) ((outRect t ht).emb (ix3 0 r d : S1x256x128.Idx))
      = attend (rows x2) (rows x3) (rows x4) (rows x5) (256 * t + r.val) d := by
  have hdiv : (256 * t + r.val) / 256 = t := by have := r.isLt; omega
  unfold attend first
  rw [hdiv]
  by_cases hd : 2 ≤ t ∧ deep (rows x2) (rows x3) t
  · obtain ⟨h2t, hd⟩ := hd
    obtain ⟨p, rfl⟩ : ∃ p, t = p + 2 := ⟨t - 2, by omega⟩
    rw [if_pos hd, canon_held_far a2 h2 a3 h3 a4 h4 a5 h5 a6 h6 a8 a9 x2 x3 x4 x5 x6 _ _ _ p ht
      ((test_near a2 h2 a3 h3 a4 h4 a6 h6 x2 x3 x4 x6 hu (p + 2) ht).mpr hd) 14 _ (by omega), out_apply, tileOf_apply]
    refine congrArg (· * _) ?_
    exact (far_good a2 h2 a3 h3 a4 h4 a6 h6 x2 x3 x4 x6 hu (p + 1) ht r _
      (start_good a2 h2 a3 h3 a4 h4 a6 h6 a8 a9 x2 x3 x4 x6 hu p ht r)).2 d
  · rw [canon_held_near a2 h2 a3 h3 a4 h4 a5 h5 a6 h6 a8 a9 x2 x3 x4 x5 x6 _ _ _ 14 _ t ht
      (fun h e => hd ⟨h, (test_near a2 h2 a3 h3 a4 h4 a6 h6 x2 x3 x4 x6 hu t ht).mp e⟩), out_apply, tileOf_apply]
    refine congrArg (· * _) ?_
    rw [(near_good a2 h2 a3 h3 a4 h4 a6 h6 x2 x3 x4 x6 hu t ht r).2 d]
    split
    · rename_i h
      rw [show 256 * (t - 1) = 0 from by by_contra n; exact hd ⟨by omega, h⟩]
    · rfl

end Body

/-- What a grid point leaves, at a position of its head. -/
theorem outAt_apply (m : (ℓ : Loc nD τ sig) → Buf (Elt Ideal) ℓ) (c : Dev nD) (t : Fin cfg0.N)
    (hu : ∀ a b : Fin 256, (iblk m c 4 t : Vec Ideal S256x256 .bf16) (ix2 a b) = if b.val ≤ a.val then (1 : EReal) else 0) (i : Fin 4096) (d : Fin 128) :
    outAt m c t (ix3 0 i d) = attend (rows (iblk m c 0 t)) (rows (iblk m c 1 t)) (rows (iblk m c 2 t)) (rows (iblk m c 3 t)) i.val d := by
  have hi : i.val = 256 * (i.val / 256) + i.val % 256 := by omega
  have ht : i.val / 256 < 16 := by have := i.isLt; omega
  rw [← read_run m c t (m _), run_stored, accPieces_eq, tailPieces_eq (h4 := hstage0_2 ((cfg0.slots t 2).cast nbuf0_2)),
    View.read_writes_eq_canon _ _ _ (fun y => held_cover _ _ _ _ _ _ _ _ _ _ _ _ _ _ _ _ _ _ _ y 14 (by omega))]
  refine Eq.trans (congrArg _ ?_) ((canon_held _ _ _ _ _ _ _ _ _ _ _ _ _ _ _ _ _  ?_ (i.val / 256) ht ⟨i.val % 256, by omega⟩ d).trans ?_)
  · funext ax
    match ax with
    | ⟨0, _⟩ => exact Fin.ext rfl
    | ⟨1, _⟩ => exact Fin.ext (show i.val = 256 * (i.val / 256) + 1 * (i.val % 256) by omega)
    | ⟨2, _⟩ => exact Fin.ext (show d.val = 0 + 1 * d.val by omega)
  · intro a b
    rw [ones_apply]
    exact hu a b
  · rw [← hi]

end Cert.Proof.SbMixIdeal

end
-- ==== Proof.SbMixIdealArray.lean ====
/-
  The stick-breaking call's result array, entry by entry: gated stick-breaking attention of every head of the arguments
  (`result_apply`).
-/
module

public import proofs.«01_k».proof.Proof.SbMixIdealStored
public import proofs.«01_k».proof.Proof.Reference
public import Idealize.ShloMosaic.Lib.Pipeline.ValueKit

@[expose] public section

set_option maxRecDepth 16384

noncomputable section

namespace Cert.Proof.SbMixIdeal

open Cert.SbMixIdeal Cert.SbMixIdeal.Gen
open Idealize.ShloMosaic Idealize.ShloMosaic.TcCoe
open Idealize.SL.Sem
open Idealize.ShloMosaic.Pipeline (Dat Cfg Window BodyObligation cellOf)
open Cert.Proof.Reference (head column)
open Cert.Proof.Stick

variable (m : (ℓ : Loc nD τ sig) → Buf (Elt Ideal) ℓ) (c : Dev nD) (t : Fin cfg0.N)

/-- The batch of a grid point, -/
abbrev batchOf : Fin 8 := grid0.coords t 0

/-- and its head. -/
abbrev headAt : Fin 16 := grid0.coords t 1

/-- An entry of the projections at an index with the coordinates given. -/
theorem head_of_val (x : FVec Ideal S4x8x16x4096x128 .bf16) (s : Fin 4) (b : Fin 8) (h : Fin 16) (i : Fin 4096) (d : Fin 128)
    (e : S4x8x16x4096x128.Idx) (h0 : (e 0).val = s.val) (h1 : (e 1).val = b.val) (h2 : (e 2).val = h.val) (h3 : (e 3).val = i.val)
    (h4 : (e 4).val = d.val) : x e = head x s b h i d := congrArg x (funext fun a => by
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4)

/-- Two indices of the triangle with the same coordinates are one. -/
theorem ext2 {a b : S256x256.Idx} (h0 : (a 0).val = (b 0).val) (h1 : (a 1).val = (b 1).val) : a = b := by
  funext x
  match x with
  | ⟨0, _⟩ => exact Fin.ext h0
  | ⟨1, _⟩ => exact Fin.ext h1

theorem index_0 : ∀ t, win0_0.index t = ![0, (grid0.coords t 0).val, (grid0.coords t 1).val, 0, 0] := by decide +kernel
theorem index_1 : ∀ t, win0_1.index t = ![1, (grid0.coords t 0).val, (grid0.coords t 1).val, 0, 0] := by decide +kernel
theorem index_2 : ∀ t, win0_2.index t = ![2, (grid0.coords t 0).val, (grid0.coords t 1).val, 0, 0] := by decide +kernel
theorem index_3 : ∀ t, win0_3.index t = ![3, (grid0.coords t 0).val, (grid0.coords t 1).val, 0, 0] := by decide +kernel
theorem index_4 : ∀ t, win0_4.index t = ![0, 0] := by decide +kernel
theorem index_5 : ∀ t, win0_5.index t = ![(grid0.coords t 0).val, 0, (grid0.coords t 1).val] := by decide +kernel

/-- A grid point's queries, -/
theorem queries_eq : rows (iblk m c 0 t) = head (m ((c : Thread nD τ).loc main_arg0)) 0 (batchOf t) (headAt t) := by
  funext i d
  unfold rows iblk
  blk_simp
  refine (congrFun (V_main_arg0 m c) _).trans (head_of_val _ _ _ _ _ _ _ ?_ ?_ ?_ ?_ ?_) <;> blk_simp [index_0] <;> rfl

/-- its keys, -/
theorem keys_eq : rows (iblk m c 1 t) = head (m ((c : Thread nD τ).loc main_arg0)) 1 (batchOf t) (headAt t) := by
  funext i d
  unfold rows iblk
  blk_simp
  refine (congrFun (V_main_arg0 m c) _).trans (head_of_val _ _ _ _ _ _ _ ?_ ?_ ?_ ?_ ?_) <;> blk_simp [index_1] <;> rfl

/-- its values, -/
theorem values_eq : rows (iblk m c 2 t) = head (m ((c : Thread nD τ).loc main_arg0)) 2 (batchOf t) (headAt t) := by
  funext i d
  unfold rows iblk
  blk_simp
  refine (congrFun (V_main_arg0 m c) _).trans (head_of_val _ _ _ _ _ _ _ ?_ ?_ ?_ ?_ ?_) <;> blk_simp [index_2] <;> rfl

/-- its gates, -/
theorem gates_eq : rows (iblk m c 3 t) = head (m ((c : Thread nD τ).loc main_arg0)) 3 (batchOf t) (headAt t) := by
  funext i d
  unfold rows iblk
  blk_simp
  refine (congrFun (V_main_arg0 m c) _).trans (head_of_val _ _ _ _ _ _ _ ?_ ?_ ?_ ?_ ?_) <;> blk_simp [index_3] <;> rfl

/-- The triangle of ones as the host makes it. -/
def triangle : FVec Ideal S256x256 .bf16 :=
  uitofp .bf16 (cmpi .sge
    (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0))))

theorem triangle_at (a b : Fin 256) : triangle (ix2 a b) = if b.val ≤ a.val then (1 : EReal) else 0 := by
  have h := Reference.sge_ofInt (BitVec.ofNat 32 a.val) (BitVec.ofNat 32 b.val) a.val b.val
    (Reference.toInt_ofNat _ (by omega)) (Reference.toInt_ofNat _ (by omega))
  unfold triangle
  pointwise
  by_cases hab : b.val ≤ a.val
  · rw [if_pos hab, h.mpr (by omega)]
    show (((1#1 : BitVec 1).toNat : ℝ) : EReal) = 1
    simp
  · have h0 : IntOp.cmpi .sge (BitVec.ofNat 32 a.val) (BitVec.ofNat 32 b.val) = 0#1 := by
      have := mt h.mp (by omega)
      revert this
      generalize IntOp.cmpi .sge (BitVec.ofNat 32 a.val) (BitVec.ofNat 32 b.val) = x
      revert x; decide
    rw [if_neg hab, h0]
    show (((0#1 : BitVec 1).toNat : ℝ) : EReal) = 0
    simp

/-- and the triangle of ones: one where the row's number is at least the column's. -/
theorem triangle_apply (a b : Fin 256) :
    (iblk m c 4 t : Vec Ideal S256x256 .bf16) (ix2 a b) = if b.val ≤ a.val then (1 : EReal) else 0 := by
  have e : V m c main_v7 = triangle := by
    show StableHlo.after hostOps0 (fun b => m (c, b)) (Proc.devRef .tc main_v7) = _
    after_results <;> rfl
  unfold iblk
  blk_simp [index_4]
  refine (congrFun e _).trans ((congrArg triangle (ext2 ?_ ?_)).trans (triangle_at a b))
  · blk_simp [index_4]
  · blk_simp [index_4]

/-- Two places of the result with one column belong to one head. -/
theorem column_inj {h h' : Fin 16} {d d' : Fin 128} (e : (column h d).val = (column h' d').val) : h = h' ∧ d = d' := by
  have e : h.val * 128 + d.val = h'.val * 128 + d'.val := e
  have := d.isLt; have := d'.isLt
  exact ⟨Fin.ext (by omega), Fin.ext (by omega)⟩

/-- The value claimed of a place. -/
def value (x : FVec Ideal S4x8x16x4096x128 .bf16) (b : Fin 8) (h : Fin 16) (i : Fin 4096) (d : Fin 128) : EReal :=
  Stick.attend (head x 0 b h) (head x 1 b h) (head x 2 b h) (head x 3 b h) i.val d

/-- The result array at a position of a head: gated stick-breaking attention of that head. -/
theorem result_apply (b : Fin 8) (h : Fin 16) (i : Fin 4096) (d : Fin 128) :
    (dats m 0 c).arrAt 5 cfg0.N (ix3 b i (column h d) : S8x4096x2048.Idx) = value (m ((c : Thread nD τ).loc main_arg0)) b h i d := by
  have P := (dats m 0 c).arrAt_forall_of_covers 5
    (fun (y : S8x4096x2048.Idx) (v : EReal) => ∀ b h i d, y = ix3 b i (column h d) → v = value (m ((c : Thread nD τ).loc main_arg0)) b h i d)
    (by decide +kernel) (fun t hf y b h i d e => ?_) (ix3 b i (column h d))
  · exact P b h i d rfl
  · have e0 : (batchOf t).val = b.val := by
      have e := congrArg (fun x : S8x4096x2048.Idx => (x 0).val) e
      blk_simp [index_5] at e
      exact e
    have e1 : (y 1).val = i.val := by
      have e := congrArg (fun x : S8x4096x2048.Idx => (x 1).val) e
      blk_simp [index_5] at e
      exact e
    have e2 : (column (headAt t) (y 2)).val = (column h d).val := by
      have e := congrArg (fun x : S8x4096x2048.Idx => (x 2).val) e
      blk_simp [index_5] at e
      exact e
    obtain ⟨e2, e3⟩ := column_inj e2
    have e0 : batchOf t = b := Fin.ext e0
    have e1 : (y 1 : Fin 4096) = i := Fin.ext e1
    rw [← e2, ← e3, ← e0, ← e1]
    blk_simp
    rw [after_5]
    have ey : y = (ix3 0 (y 1) (y 2) : S1x4096x128.Idx) := by
      funext a
      match a with
      | ⟨0, _⟩ => exact Fin.ext (Nat.lt_one_iff.mp (y 0).isLt)
      | ⟨1, _⟩ => rfl
      | ⟨2, _⟩ => rfl
    refine (congrArg _ ey).trans ((outAt_apply m c t (triangle_apply m c t) (y 1) (y 2)).trans ?_)
    rw [queries_eq, keys_eq, values_eq, gates_eq]
    rfl

end Cert.Proof.SbMixIdeal

end
-- ==== Proof.SbMixedRead.lean ====
/-
  What the reference of the stick-breaking attention computes, entry by entry: gated
  stick-breaking attention of every head, a query seeing the positions before it from `first` on.
-/
module

public import proofs.«01_k».proof.Proof.Stick
public import proofs.«01_k».proof.Proof.Reference
public import proofs.«01_k».proof.Proof.Gen.SbMixedIdeal.Read

@[expose] public section

set_option maxRecDepth 16384

noncomputable section

namespace Cert.Proof.SbMixed

open Cert.SbMixedIdeal Cert.SbMixedIdeal.Gen Cert.SbMixedIdeal.Read
open Idealize.ShloMosaic Idealize.ShloMosaic.TcCoe
open Cert.Proof.Reference (head column ext3 ext4)
open Cert.Proof.Softmax
open Cert.Proof.Stick

/-! ### Comparisons and constants -/

theorem ext2 {n0 n1 : Nat} {x y : (⟨2, ![n0, n1]⟩ : Shape).Idx} (h0 : (x 0).val = (y 0).val) (h1 : (x 1).val = (y 1).val) : x = y :=
  funext fun a => by
    match a with
    | ⟨0, _⟩ => exact Fin.ext h0
    | ⟨1, _⟩ => exact Fin.ext h1

theorem zero_bits : Ideal.ofBits .f32 0x00000000#32 = (0 : EReal) := by simp [Ideal.ofBits, Ideal.ieee]

theorem one_bits : Ideal.ofBits .f32 0x3F800000#32 = (1 : EReal) := by
  simp [Ideal.ofBits, Ideal.ieee]
  rw [← EReal.coe_mul, ← EReal.coe_one]
  exact congrArg _ (by norm_num)

/-- A query sees positions strictly before it. -/
theorem before_apply (i k : Fin 4096) : val_main_v22 (F := Ideal) (ix2 i k) = 1#1 ↔ k.val < i.val := by
  rw [val_main_v22_apply, val_main_v20_apply, val_main_v18_apply, val_main_v12_apply, val_main_v21_apply, val_main_v19_apply, val_main_v12_apply]
  show BitVec.ofBool (BitVec.slt (BitVec.ofNat 32 k.val) (BitVec.ofNat 32 i.val)) = 1#1 ↔ _
  rw [BitVec.slt_eq_decide, Reference.toInt_ofNat _ k.isLt, Reference.toInt_ofNat _ i.isLt]
  by_cases h : k.val < i.val <;> simp [h]

theorem bit_zero : ∀ x : BitVec 1, ¬ x = 1#1 → x = 0#1 := by decide

theorem bit_decide (p : Prop) [Decidable p] : BitVec.ofBool (decide p) = 1#1 ↔ p := by by_cases h : p <;> simp [h]

/-- The same as a number. -/
theorem triangle_apply (i k : Fin 4096) : val_main_v29 (F := Ideal) (ix2 i k) = if k.val < i.val then (1 : EReal) else 0 := by
  rw [val_main_v29_apply]
  by_cases h : k.val < i.val
  · rw [if_pos h, (before_apply i k).mpr h]
    show (((1#1 : BitVec 1).toNat : ℝ) : EReal) = 1
    simp
  · rw [if_neg h, bit_zero _ (mt (before_apply i k).mp h)]
    show (((0#1 : BitVec 1).toNat : ℝ) : EReal) = 0
    simp

/-- The shift of a position by eight is the number of its run of 256. -/
theorem run_word (i : Fin 4096) : IntOp.shrsi .host (BitVec.ofNat 32 i.val) 8#32 = BitVec.ofNat 32 (i.val / 256) := by
  refine BitVec.eq_of_toInt_eq ?_
  rw [Reference.toInt_ofNat _ (by have := i.isLt; omega)]
  show ((BitVec.ofNat 32 i.val).sshiftRight 8).toInt = _
  rw [BitVec.toInt_sshiftRight, Reference.toInt_ofNat _ i.isLt, Int.shiftRight_eq_div_pow]
  norm_num

/-- Positions of a query's own run of 256 and later, and of the run before. -/
theorem near_apply (i k : Fin 4096) : val_main_v39 (F := Ideal) (ix2 i k) = 1#1 ↔ 256 * (i.val / 256 - 1) ≤ k.val := by
  rw [val_main_v39_apply, val_main_v37_apply, val_main_v33_apply, val_main_v32_apply, val_main_v12_apply, val_main_v31_apply,
    val_main_c_apply, val_main_v38_apply, val_main_v36_apply, val_main_v34_apply, val_main_v32_apply, val_main_v12_apply,
    val_main_v31_apply, val_main_c_apply, val_main_v35_apply, val_main_c_2_apply]
  refine Iff.trans (Reference.sge_ofInt (IntOp.shrsi .host (BitVec.ofNat 32 k.val) 8#32) (IntOp.shrsi .host (BitVec.ofNat 32 i.val) 8#32 - 1#32)
    ((k.val / 256 : ℕ) : ℤ) ((i.val / 256 : ℕ) - 1 : ℤ) ?_ ?_) (by omega)
  · rw [run_word]; exact Reference.toInt_ofNat _ (by have := k.isLt; omega)
  · rw [run_word]
    have hi : i.val / 256 < 16 := by have := i.isLt; omega
    generalize i.val / 256 = n at hi ⊢
    interval_cases n <;> rfl

/-! ### Sums over the positions -/

/-- A sum over all positions of terms that vanish outside a range is the sum over the range. -/
theorem sum_range {M : Type*} [AddCommMonoid M] (f : ℕ → M) (lo i : ℕ) (h : i ≤ 4096) :
    ∑ k : Fin 4096, (if lo ≤ k.val ∧ k.val < i then f k.val else 0) = ∑ k ∈ Finset.Ico lo i, f k := by
  rw [Fin.sum_univ_eq_sum_range (fun k => if lo ≤ k ∧ k < i then f k else 0) 4096, ← Finset.sum_filter]
  refine Finset.sum_congr ?_ fun _ _ => rfl
  ext k
  rw [Finset.mem_filter, Finset.mem_range, Finset.mem_Ico]
  omega

variable (x0 : FVec Ideal S4x8x16x4096x128 .bf16)

/-- The logits, in bits, of a head. -/
abbrev bits (b : Fin 8) (h : Fin 16) (i k : ℕ) : EReal := Stick.logit (head x0 0 b h) (head x0 1 b h) i k

/-- The product of a query and a key. -/
theorem product_apply (b : Fin 8) (h : Fin 16) (i k : Fin 4096) :
    val_main_v13 (F := Ideal) x0 (ix4 b h i k) = bits x0 b h i.val k.val := by
  rw [val_main_v13_apply]
  refine Finset.sum_congr rfl fun d _ => congrArg₂ (· * ·) ?_ ?_
  · rw [at_val, show lidx_main_v13 (ix4 b h i k) d = ix4 b h i d from ext4 rfl rfl rfl rfl]
    exact Reference.section_apply 0 x0 _ b h i d
  · rw [at_val, show ridx_main_v13 (ix4 b h i k) d = ix4 b h k d from ext4 rfl rfl rfl rfl]
    exact Reference.section_apply 1 x0 _ b h k d

/-- The logit. -/
theorem logit_apply (b : Fin 8) (h : Fin 16) (i k : Fin 4096) :
    val_main_v17 (F := Ideal) x0 (ix4 b h i k) = bits x0 b h i.val k.val * ln2 := by
  rw [val_main_v17_apply, val_main_v16_apply, val_main_v15_apply, val_main_v14_apply, val_main_cst_apply, product_apply]
  show _ * Ideal.log (Ideal.ofBits .f32 0x40000000#32) = _
  rw [Reference.log_two]

/-- What a position spends. -/
theorem spent_apply (b : Fin 8) (h : Fin 16) (i k : Fin 4096) :
    val_main_v26 (F := Ideal) x0 (ix4 b h i k) = spentAt (bits x0 b h i.val k.val) * ln2 := by
  rw [val_main_v26_apply, val_main_v25_apply, val_main_v24_apply, val_main_cst_0_apply, val_main_v23_apply, logit_apply,
    ← spentAt_scaled, ← one_bits]
  rfl

theorem spent_apply' (b : Fin 8) (h : Fin 16) (i k : Fin 4096) :
    val_main_v63 (F := Ideal) x0 (ix4 b h i k) = spentAt (bits x0 b h i.val k.val) * ln2 :=
  spent_apply x0 b h i k

/-- What a position leaves, where the query sees it. -/
theorem left_apply (b : Fin 8) (h : Fin 16) (i k : Fin 4096) :
    val_main_v28 (F := Ideal) x0 (ix4 b h i k)
      = if k.val < i.val then -(spentAt (bits x0 b h i.val k.val) * ln2) else 0 := by
  rw [val_main_v28_apply, val_main_call0_v1_apply, show idx_main_call0_v1 (ix4 b h i k) = ix2 i k from ext2 rfl rfl,
    val_main_v27_apply, spent_apply, val_main_call0_v2_apply, val_main_call0_v0_apply, val_main_cst_1_apply]
  show (if val_main_v22 (F := Ideal) (ix2 i k) = 1#1 then -(spentAt (bits x0 b h i.val k.val) * ln2)
    else Ideal.ofBits .f32 0x00000000#32) = _
  rw [zero_bits]
  by_cases hk : k.val < i.val
  · rw [if_pos ((before_apply i k).mpr hk), if_pos hk]
  · rw [if_neg (mt (before_apply i k).mp hk), if_neg hk]

/-- The sum of what the positions between a key and a query leave. -/
theorem between_apply (b : Fin 8) (h : Fin 16) (i k : Fin 4096) :
    val_main_v30 (F := Ideal) x0 (ix4 b h i k)
      = -(spentFrom (bits x0 b h i.val) i.val (k.val + 1) * ln2) := by
  rw [val_main_v30_apply]
  have e : ∀ j : Fin 4096, (val_main_v28 (F := Ideal) x0) (lidx_main_v30 (ix4 b h i k) j) * (val_main_v29 (F := Ideal)) (ridx_main_v30 (ix4 b h i k) j)
      = if k.val + 1 ≤ j.val ∧ j.val < i.val then -(spentAt (bits x0 b h i.val j.val) * ln2) else 0 := fun j => by
    rw [show lidx_main_v30 (ix4 b h i k) j = ix4 b h i j from ext4 rfl rfl rfl rfl,
      show ridx_main_v30 (ix4 b h i k) j = ix2 j k from ext2 rfl rfl, left_apply, triangle_apply]
    by_cases h1 : k.val < j.val
    · rw [if_pos h1, mul_one]
      refine if_congr ?_ rfl rfl
      omega
    · rw [if_neg h1, mul_zero, if_neg (by omega)]
  rw [Finset.sum_congr rfl fun j _ => e j,
    sum_range (fun j => -(spentAt (bits x0 b h i.val j) * ln2)) _ _ (by have := i.isLt; omega)]
  exact sum_scaled _ _

/-- The part of the stick a position takes. -/
theorem share_apply (b : Fin 8) (h : Fin 16) (i k : Fin 4096) (hk : k.val < i.val) :
    val_main_v66 (F := Ideal) x0 (ix4 b h i k) = share (bits x0 b h i.val) i.val k.val := by
  rw [val_main_v66_apply, val_main_v65_apply, val_main_v64_apply, logit_apply, spent_apply', between_apply]
  show Ideal.exp ((bits x0 b h i.val k.val * ln2 - spentAt (bits x0 b h i.val k.val) * ln2)
    + -(spentFrom (bits x0 b h i.val) i.val (k.val + 1) * ln2)) = _
  rw [← sub_eq_add_neg, ← sub_scaled, ← sub_scaled, ← exp2_scaled, sub_both _ (spentAt_nonneg _) (spentFrom_nonneg _ _ _)]
  unfold share
  rw [spentFrom_split _ i.val k.val (k.val + 1) (by omega) hk, Nat.Ico_succ_singleton, Finset.sum_singleton]

/-- What the near positions leave. -/
theorem nearby_apply (b : Fin 8) (h : Fin 16) (i : Fin 4096) :
    val_main_v41 (F := Ideal) x0 (ix3 b h i)
      = -(spentFrom (bits x0 b h i.val) i.val (256 * (i.val / 256 - 1)) * ln2) := by
  rw [val_main_v41_apply, val_main_cst_4_apply]
  have e : ∀ j : Fin 4096, (val_main_v40 (F := Ideal) x0) (idx_main_v41 (ix3 b h i) j)
      = if 256 * (i.val / 256 - 1) ≤ j.val ∧ j.val < i.val then -(spentAt (bits x0 b h i.val j.val) * ln2) else 0 := fun j => by
    rw [show idx_main_v41 (ix3 b h i) j = ix4 b h i j from ext4 rfl rfl rfl rfl, val_main_v40_apply, val_main_call1_v1_apply,
      show idx_main_call1_v1 (ix4 b h i j) = ix2 i j from ext2 rfl rfl, left_apply, val_main_call1_v2_apply,
      val_main_call1_v0_apply, val_main_cst_3_apply]
    show (if val_main_v39 (F := Ideal) (ix2 i j) = 1#1 then
      (if j.val < i.val then -(spentAt (bits x0 b h i.val j.val) * ln2) else 0) else Ideal.ofBits .f32 0x00000000#32) = _
    rw [zero_bits]
    by_cases h1 : 256 * (i.val / 256 - 1) ≤ j.val
    · rw [if_pos ((near_apply i j).mpr h1)]
      refine if_congr ?_ rfl rfl
      exact ⟨fun h2 => ⟨h1, h2⟩, fun h2 => h2.2⟩
    · rw [if_neg (mt (near_apply i j).mp h1), if_neg (fun h2 => h1 h2.1)]
  rw [Finset.sum_congr rfl fun j _ => e j,
    sum_range (fun j => -(spentAt (bits x0 b h i.val j) * ln2)) _ _ (by have := i.isLt; omega)]
  show Ideal.ofBits .f32 0x00000000#32 + _ = _
  rw [zero_bits, zero_add]
  exact sum_scaled _ _

/-- Position `r` of run `t`. -/
def place (t : Fin 16) (r : Fin 256) : Fin 4096 := ⟨256 * t.val + r.val, by have := t.isLt; have := r.isLt; omega⟩

theorem rows_apply (b : Fin 8) (h : Fin 16) (t : Fin 16) (r : Fin 256) :
    val_main_v42 (F := Ideal) x0 (ix4 b h t r)
      = -(spentFrom (bits x0 b h (256 * t.val + r.val)) (256 * t.val + r.val) (256 * (t.val - 1)) * ln2) := by
  unfold val_main_v42
  refine (shapeCast_apply _ _ (ix4 b h t r) (ix3 b h (place t r)) ?_).trans ((nearby_apply x0 b h (place t r)).trans ?_)
  · rw [Shape.rowMajor_val_four, Shape.rowMajor_val_three]
    show (b.val * 16 + h.val) * 4096 + (256 * t.val + r.val) = ((b.val * 16 + h.val) * 16 + t.val) * 256 + r.val
    omega
  · show -(spentFrom (bits x0 b h (256 * t.val + r.val)) (256 * t.val + r.val) (256 * ((256 * t.val + r.val) / 256 - 1)) * ln2) = _
    rw [show (256 * t.val + r.val) / 256 = t.val by have := r.isLt; omega]

theorem tops_apply (b : Fin 8) (h : Fin 16) (t : Fin 16) :
    val_main_v43 (F := Ideal) x0 (ix3 b h t) = Finset.univ.fold max ⊥ fun r => val_main_v42 (F := Ideal) x0 (ix4 b h t r) := by
  unfold val_main_v43
  refine (Host.reduce_eq_fold_single (a := (3 : Fin S8x16x16x256.rank)) FloatOps.maximumf _ _ _ (by decide) h_S_ (ix3 b h t)).trans ?_
  rw [val_main_cst_5_apply]
  show Finset.univ.fold max (Ideal.ofBits .f32 0xFF800000#32) _ = _
  rw [Reference.bot_bits]
  refine congrArg (fun g => Finset.univ.fold max ⊥ g) (funext fun r => congrArg (val_main_v42 (F := Ideal) x0) (funext fun a => ?_))
  match a with
  | ⟨0, _⟩ => exact Fin.ext rfl
  | ⟨1, _⟩ => exact Fin.ext rfl
  | ⟨2, _⟩ => exact Fin.ext rfl
  | ⟨3, _⟩ => exact Fin.ext rfl

theorem lim_bits : Ideal.ofBits .f32 0xC3200000#32 = ((-160 : ℝ) : EReal) := by
  simp [Ideal.ofBits, Ideal.ieee]
  rw [← EReal.coe_mul]
  exact congrArg _ (by norm_num)

/-- A run is deep where one of its queries has spent less than 160 bits on the near positions. -/
theorem deep_apply (b : Fin 8) (h : Fin 16) (t : Fin 16) :
    val_main_v48 (F := Ideal) x0 (ix3 b h t) = 1#1 ↔ deep (head x0 0 b h) (head x0 1 b h) t.val := by
  rw [val_main_v48_apply, tops_apply, val_main_v47_apply, val_main_v46_apply, val_main_v45_apply, val_main_cst_7_apply, val_main_v44_apply,
    val_main_cst_6_apply]
  show BitVec.ofBool (decide (Ideal.ofBits .f32 0xC3200000#32 * Ideal.log (Ideal.ofBits .f32 0x40000000#32)
    < Finset.univ.fold max ⊥ fun r => val_main_v42 (F := Ideal) x0 (ix4 b h t r))) = 1#1 ↔ _
  rw [Reference.log_two, lim_bits, ← EReal.coe_mul]
  have e : ((-160 * Real.log 2 : ℝ) : EReal) < (Finset.univ.fold max ⊥ fun r => val_main_v42 (F := Ideal) x0 (ix4 b h t r))
      ↔ deep (head x0 0 b h) (head x0 1 b h) t.val := by
    rw [Finset.lt_fold_max]
    unfold deep
    refine Iff.trans (or_iff_right not_lt_bot) ⟨fun ⟨r, _, hr⟩ => ⟨r, ?_⟩, fun ⟨r, hr⟩ => ⟨r, Finset.mem_univ _, ?_⟩⟩
    · rw [rows_apply, lt_scaled] at hr
      exact hr
    · rw [rows_apply, lt_scaled]
      exact hr
  rw [← e]
  generalize ((-160 * Real.log 2 : ℝ) : EReal) = a
  generalize (Finset.univ.fold max ⊥ fun r => val_main_v42 (F := Ideal) x0 (ix4 b h t r)) = y
  exact bit_decide _

/-- The test of a query's run. -/
theorem test_apply (b : Fin 8) (h : Fin 16) (i : Fin 4096) :
    val_main_v51 (F := Ideal) x0 (ix3 b h i) = 1#1 ↔ deep (head x0 0 b h) (head x0 1 b h) (i.val / 256) := by
  have e : val_main_v51 (F := Ideal) x0 (ix3 b h i)
      = val_main_v48 (F := Ideal) x0 (ix3 b h ⟨i.val / 256, by have := i.isLt; omega⟩) := by
    unfold val_main_v51
    refine (shapeCast_apply _ _ (ix3 b h i) (ix4 b h ⟨i.val / 256, by have := i.isLt; omega⟩ ⟨i.val % 256, by omega⟩ : S8x16x16x256.Idx) ?_).trans ?_
    · rw [Shape.rowMajor_val_four, Shape.rowMajor_val_three]
      show ((b.val * 16 + h.val) * 16 + i.val / 256) * 256 + i.val % 256 = (b.val * 16 + h.val) * 4096 + i.val
      omega
    · rw [val_main_v50_apply, val_main_v49_apply]
      exact congrArg _ (ext3 rfl rfl rfl)
  rw [e]
  exact deep_apply x0 b h _

/-- The positions a query sees. -/
theorem seen_apply (b : Fin 8) (h : Fin 16) (i k : Fin 4096) :
    val_main_v59 (F := Ideal) x0 (ix4 b h i k) = 1#1 ↔ first (head x0 0 b h) (head x0 1 b h) i.val ≤ k.val ∧ k.val < i.val := by
  rw [val_main_v59_apply, val_main_v58_apply, val_main_v57_apply, val_main_v56_apply, val_main_v54_apply, val_main_v53_apply,
    val_main_v55_apply, val_main_v52_apply, Reference.bits_and_or,
    show idx_main_v57 (idx_main_v58 (ix4 b h i k)) = ix2 i k from ext2 rfl rfl,
    show idx_main_v53 (idx_main_v54 (ix4 b h i k)) = ix2 i k from ext2 rfl rfl,
    show idx_main_v52 (idx_main_v55 (ix4 b h i k)) = ix3 b h i from ext3 rfl rfl rfl,
    before_apply, near_apply, test_apply]
  unfold first
  by_cases hd : deep (head x0 0 b h) (head x0 1 b h) (i.val / 256)
  · rw [if_pos hd]
    exact ⟨fun e => ⟨Nat.zero_le _, e.1⟩, fun e => ⟨e.2, Or.inl hd⟩⟩
  · rw [if_neg hd]
    exact ⟨fun e => ⟨e.2.resolve_left hd, e.1⟩, fun e => ⟨e.2, Or.inr e.1⟩⟩

/-- The parts of the positions seen. -/
theorem part_apply (b : Fin 8) (h : Fin 16) (i k : Fin 4096) :
    val_main_v67 (F := Ideal) x0 (ix4 b h i k)
      = if first (head x0 0 b h) (head x0 1 b h) i.val ≤ k.val ∧ k.val < i.val then share (bits x0 b h i.val) i.val k.val else 0 := by
  rw [val_main_v67_apply, val_main_call2_v1_apply, val_main_call2_v0_apply, val_main_cst_9_apply]
  show (if val_main_v59 (F := Ideal) x0 (ix4 b h i k) = 1#1 then val_main_v66 (F := Ideal) x0 (ix4 b h i k)
    else Ideal.ofBits .f32 0x00000000#32) = _
  rw [zero_bits]
  by_cases hs : first (head x0 0 b h) (head x0 1 b h) i.val ≤ k.val ∧ k.val < i.val
  · rw [if_pos ((seen_apply x0 b h i k).mpr hs), if_pos hs, share_apply x0 b h i k hs.2]
  · rw [if_neg (mt (seen_apply x0 b h i k).mp hs), if_neg hs]

/-- The values by their parts. -/
theorem mixed_apply (b : Fin 8) (h : Fin 16) (i : Fin 4096) (d : Fin 128) :
    val_main_v68 (F := Ideal) x0 (ix4 b h i d)
      = mixed (bits x0 b h i.val) (fun j => at_ (head x0 2 b h) j d) i.val (first (head x0 0 b h) (head x0 1 b h) i.val) := by
  rw [val_main_v68_apply]
  unfold mixed
  rw [← sum_range (fun j => share (bits x0 b h i.val) i.val j * at_ (head x0 2 b h) j d) _ _ (by have := i.isLt; omega)]
  refine Finset.sum_congr rfl fun k _ => ?_
  rw [show lidx_main_v68 (ix4 b h i d) k = ix4 b h i k from ext4 rfl rfl rfl rfl,
    show ridx_main_v68 (ix4 b h i d) k = ix4 b h k d from ext4 rfl rfl rfl rfl, part_apply,
    show val_main_v8 (F := Ideal) x0 (ix4 b h k d) = head x0 2 b h k d from Reference.section_apply 2 x0 _ b h k d, at_val, ite_mul, zero_mul]

/-- The gate of the result. -/
theorem gate_apply (b : Fin 8) (h : Fin 16) (i : Fin 4096) (d : Fin 128) :
    val_main_v69 (F := Ideal) x0 (ix4 b h i d)
      = at_ (head x0 3 b h) i.val d * Ideal.div 1 (1 + Ideal.exp (0 - at_ (head x0 3 b h) i.val d)) := by
  rw [val_main_v69_apply, val_main_call3_v5_apply, val_main_call3_v3_apply, val_main_call3_v4_apply, val_main_call3_v2_apply,
    val_main_call3_v1_apply, val_main_call3_v0_apply, val_main_call3_cst_apply, val_main_call3_cst_0_apply,
    show val_main_v11 (F := Ideal) x0 (ix4 b h i d) = head x0 3 b h i d from Reference.section_apply 3 x0 _ b h i d, at_val,
    sub_eq_add_neg, zero_add]
  show head x0 3 b h i d * Ideal.div (Ideal.ofBits .f32 0x3F800000#32) (Ideal.ofBits .f32 0x3F800000#32 + Ideal.exp (-(head x0 3 b h i d))) = _
  rw [one_bits]

/-- The result at a position of a head. -/
theorem result_apply (b : Fin 8) (h : Fin 16) (i : Fin 4096) (d : Fin 128) :
    val_main_v73 (F := Ideal) x0 (ix3 b i (column h d))
      = Stick.attend (head x0 0 b h) (head x0 1 b h) (head x0 2 b h) (head x0 3 b h) i.val d := by
  refine (show _ = val_main_v72 (F := Ideal) x0 (ix3 b i (column h d)) from rfl).trans ?_
  unfold val_main_v72
  refine (shapeCast_apply _ _ (ix3 b i (column h d)) (ix4 b i h d : S8x4096x16x128.Idx) ?_).trans ?_
  · rw [Shape.rowMajor_val_four, Shape.rowMajor_val_three]
    show ((b.val * 4096 + i.val) * 16 + h.val) * 128 + d.val = (b.val * 4096 + i.val) * 2048 + (h.val * 128 + d.val)
    omega
  rw [val_main_v71_apply, show idx_main_v71 (ix4 b i h d) = ix4 b h i d from ext4 rfl rfl rfl rfl, val_main_v70_apply, mixed_apply,
    gate_apply]
  rfl

end Cert.Proof.SbMixed

end
-- ==== Proof.SbMixClaims.lean ====
/-
  The claims about the stick-breaking attention call: its result array is what its reference
  computes (`algebraic`), and its named constant is the one its printed literal stands for (`preserves`).
-/
module

public import proofs.«01_k».proof.Defs
public import proofs.«01_k».proof.Proof.SbMixIdealArray
public import proofs.«01_k».proof.Proof.SbMixedRead
public import proofs.«01_k».proof.Proof.Claims
public import proofs.«01_k».proof.Proof.Gen.SbMixedIdeal.Run

@[expose] public section

set_option maxRecDepth 16384

noncomputable section

namespace Cert.Proof.SbMixClaims

open Idealize.ShloMosaic Idealize.ShloMosaic.TcCoe Idealize.SL.Sem
open Cert.SbMixIdeal
open Cert.Proof.Reference (head column)
open Cert.Proof.SbMixIdeal (dats)

/-- The call runs to its end, its result array holding what its last grid point leaves and its argument unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = (dats m 0 c).arrAt 5 cfg0.N
      ∧ r.2.mem ((c.tc : Thread nD τ).loc main_arg0) = m ((c.tc : Thread nD τ).loc main_arg0)) :=
  (θ_run defs _ _).mono (fun _ h c =>
      ⟨(h.1 c).1 5,
       ((h.1 c).1 0).trans (((dats m 0 c).arrAt_in 0 rfl _).trans ((SbMixIdeal.A_eq m c 0).trans (Cert.SbMixIdeal.Gen.V_main_arg0 m c)))⟩)
    (SbMixIdeal.run_main m ρ)

variable {m : (ℓ : Loc nD τ sig) → Buf (Elt Ideal) ℓ} {c : Dev nD}

/-- The result array is what the reference computes of the same argument. -/
theorem result_eq :
    (dats m 0 c).arrAt 5 cfg0.N = Cert.SbMixedIdeal.Read.val_main_v73 (F := Ideal) (m ((c.tc : Thread nD τ).loc main_arg0)) := by
  funext y
  obtain ⟨b, h, i, d, rfl⟩ := Claims.exists_column y
  exact (SbMixIdeal.result_apply m c b h i d).trans (SbMixed.result_apply _ b h i d).symm

/-- The call computes its reference. -/
theorem algebraic : Cert.algebraic_SbMixIdeal_SbMixedIdeal := by
  intro m ρ m' ρ' _ hagree
  refine ⟨_, kernel_run m ρ, ?_⟩
  refine (θ_run Cert.SbMixedIdeal.defs _ _).mono (fun _ h c => ⟨(h c).1.trans ?_, (h c).2⟩)
    (Cert.SbMixedIdeal.Value.run (F := Ideal) m' ρ')
  rw [Cert.SbMixedIdeal.Read.val_main_v73_eq, hagree c]
  exact result_eq.symm

/-- The reciprocal of the natural logarithm of two is the constant the printed literal stands for. -/
theorem preserves : Cert.preserves_SbMix_SbMixIdeal :=
  IdealRules.named_const.statement Cert.SbMixIdeal.κ "perln2" .f32 0x3FB8AA3B#32 (((Real.log 2)⁻¹ : ℝ) : EReal) rfl

/-- The reference runs to its end with its argument unchanged. -/
theorem frame_reference : Cert.quiescent_SbMixedIdeal := fun m ρ _ =>
  (θ_run Cert.SbMixedIdeal.defs _ _).mono (fun r h => ⟨fun c => (h c).2, sem_eq_zero_of_no_sems (by decide) r.2⟩)
    (Cert.SbMixedIdeal.Value.run (F := Ideal) m ρ)

end Cert.Proof.SbMixClaims

end
-- ==== Proof.lean ====
/- The claims about six calls: the two attentions, the two input projections, the output projection with its norm in two layers. Each runs without
   fault, printed and idealized; its idealization differs from its print in named constants only; and its result is what its
   reference (the forgetting attention: each of two references) computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.WindowedIdeal
public import proofs.«01_k».proof.Proof.Gen.WindowedIdeal.Run
public import proofs.«01_k».proof.Proof.Gen.WindowedIdeal.Read
public import proofs.«01_k».proof.Proof.Gen.Pre_finite
public import proofs.«01_k».proof.Proof.Gen.Pre_finite_and_far
public import proofs.«01_k».proof.Proof.Gen.FoxProj
public import proofs.«01_k».proof.Proof.Gen.FoxProj.Frame
public import proofs.«01_k».proof.Proof.Gen.FoxProjIdeal
public import proofs.«01_k».proof.Proof.Gen.FoxProjIdeal.Frame
public import proofs.«01_k».proof.Proof.Gen.FoxProjIdeal.Value
public import proofs.«01_k».proof.Proof.Gen.SbProj
public import proofs.«01_k».proof.Proof.Gen.SbProj.Frame
public import proofs.«01_k».proof.Proof.Gen.SbProjIdeal
public import proofs.«01_k».proof.Proof.Gen.SbProjIdeal.Frame
public import proofs.«01_k».proof.Proof.Gen.SbProjIdeal.Value
public import proofs.«01_k».proof.Proof.Gen.OutNorm
public import proofs.«01_k».proof.Proof.Gen.OutNorm.Frame
public import proofs.«01_k».proof.Proof.Gen.OutNormIdeal
public import proofs.«01_k».proof.Proof.Gen.OutNormIdeal.Frame
public import proofs.«01_k».proof.Proof.Gen.OutNormIdeal.Value
public import proofs.«01_k».proof.Proof.Gen.FoxProjectedIdeal
public import proofs.«01_k».proof.Proof.Gen.FoxProjectedIdeal.Run
public import proofs.«01_k».proof.Proof.Gen.FoxProjectedIdeal.Read
public import proofs.«01_k».proof.Proof.Gen.SbProjectedIdeal
public import proofs.«01_k».proof.Proof.Gen.SbProjectedIdeal.Run
public import proofs.«01_k».proof.Proof.Gen.SbProjectedIdeal.Read
public import proofs.«01_k».proof.Proof.Gen.NormedIdeal
public import proofs.«01_k».proof.Proof.Gen.NormedIdeal.Run
public import proofs.«01_k».proof.Proof.Gen.NormedIdeal.Read
public import proofs.«01_k».proof.Proof.Gen.FoxOutNorm
public import proofs.«01_k».proof.Proof.Gen.FoxOutNorm.Frame
public import proofs.«01_k».proof.Proof.Gen.FoxOutNormIdeal
public import proofs.«01_k».proof.Proof.Gen.FoxOutNormIdeal.Frame
public import proofs.«01_k».proof.Proof.Gen.FoxOutNormIdeal.Value
public import proofs.«01_k».proof.Proof.Gen.FoxNormedIdeal
public import proofs.«01_k».proof.Proof.Gen.FoxNormedIdeal.Run
public import proofs.«01_k».proof.Proof.Gen.FoxNormedIdeal.Read
public import proofs.«01_k».proof.Proof.Gen.SbMix
public import proofs.«01_k».proof.Proof.Gen.SbMix.Skeleton
public import proofs.«01_k».proof.Proof.Gen.SbMix.Frame
public import proofs.«01_k».proof.Proof.Gen.SbMixIdeal
public import proofs.«01_k».proof.Proof.Gen.SbMixIdeal.Skeleton
public import proofs.«01_k».proof.Proof.Gen.SbMixedIdeal
public import proofs.«01_k».proof.Proof.Gen.SbMixedIdeal.Run
public import proofs.«01_k».proof.Proof.Gen.SbMixedIdeal.Read
public import proofs.«01_k».proof.Proof.Gen.SbMixIdeal.Frame
public import proofs.«01_k».proof.Proof.KernelRun
public import proofs.«01_k».proof.Proof.KernelIdealRun
public import proofs.«01_k».proof.Proof.Claims
public import proofs.«01_k».proof.Proof.FoxProjArray
public import proofs.«01_k».proof.Proof.SbProjArray
public import proofs.«01_k».proof.Proof.OutNormArray
public import proofs.«01_k».proof.Proof.FoxOutNormArray
public import proofs.«01_k».proof.Proof.SbMixFrame
public import proofs.«01_k».proof.Proof.SbMixIdealFrame
public import proofs.«01_k».proof.Proof.SbMixClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.WindowedIdeal.Gen.facts, Cert.FoxProj.Gen.facts, Cert.FoxProjIdeal.Gen.facts, Cert.FoxProjectedIdeal.Gen.facts,
  Cert.SbProj.Gen.facts, Cert.SbProjIdeal.Gen.facts, Cert.SbProjectedIdeal.Gen.facts,
  Cert.OutNorm.Gen.facts, Cert.OutNormIdeal.Gen.facts, Cert.NormedIdeal.Gen.facts,
  Cert.SbMix.Gen.facts, Cert.SbMixIdeal.Gen.facts, Cert.SbMixedIdeal.Gen.facts,
  Cert.FoxOutNorm.Gen.facts, Cert.FoxOutNormIdeal.Gen.facts, Cert.FoxNormedIdeal.Gen.facts,
  Cert.Pre_finite_and_far.Gen.facts, Cert.Pre_finite.Gen.facts,
  fun m ρ _ => Cert.Proof.Kernel.frame m ρ, fun m ρ _ => Cert.Proof.KernelIdeal.frame m ρ,
  fun m ρ _ => Cert.Proof.KernelIdeal.frame m ρ, fun m ρ _ => Cert.Proof.KernelIdeal.frame m ρ,
  Claims.frame_plain, fun m ρ _ => Claims.frame_plain m ρ trivial,
  Claims.frame_windowed, fun m ρ _ => Claims.frame_windowed m ρ trivial,
  fun m ρ _ => Cert.FoxProj.Gen.frame m ρ, fun m ρ _ => Cert.FoxProjIdeal.Gen.frame m ρ, FoxProj.frame_reference,
  fun m ρ _ => Cert.SbProj.Gen.frame m ρ, fun m ρ _ => Cert.SbProjIdeal.Gen.frame m ρ, SbProj.frame_reference,
  fun m ρ _ => Cert.OutNorm.Gen.frame m ρ, fun m ρ _ => Cert.OutNormIdeal.Gen.frame m ρ, OutNorm.frame_reference,
  fun m ρ _ => Cert.Proof.SbMix.frame m ρ, fun m ρ _ => Cert.Proof.SbMixIdeal.frame m ρ,
  SbMixClaims.frame_reference,
  fun m ρ _ => Cert.FoxOutNorm.Gen.frame m ρ, fun m ρ _ => Cert.FoxOutNormIdeal.Gen.frame m ρ, FoxOutNorm.frame_reference,
  Claims.preserves, Claims.algebraic_plain, Claims.algebraic_windowed,
  FoxProj.preserves, FoxProj.algebraic, SbProj.preserves, SbProj.algebraic, trivial, OutNorm.algebraic,
  SbMixClaims.preserves, SbMixClaims.algebraic, trivial, FoxOutNorm.algebraic⟩

end Cert.Proof

end
